-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_slots_distinct [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_all_finite [hPre_all_finite : Cert.Pre_all_finite.Facts] (m : (ℓ : Loc Cert.RouterIdeal.nD Cert.RouterIdeal.τ Cert.RouterIdeal.sig) → Buf (Elt Ideal) ℓ) : Prop :=
  ∀ c : Dev Cert.RouterIdeal.nD,
    (Cert.Pre_all_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).1 = (fun _ => 1#1)
    ∧ (Cert.Pre_all_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).2 = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_all_finite [hPre_all_finite : Cert.Pre_all_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_all_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))).1 = (fun _ => 1#1)
    ∧ (Cert.Pre_all_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))).2 = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_slots_distinct [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_all_finite [hRouterIdeal : Cert.RouterIdeal.Facts] [hPre_all_finite : Cert.Pre_all_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_all_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_all_finite [hRouterReferenceIdeal : Cert.RouterReferenceIdeal.Facts] [hPre_all_finite : Cert.Pre_all_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_all_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def preserves_Kernel_KernelIdeal : Prop :=
  True

def algebraic_KernelIdeal_ReferenceIdeal_pre_slots_distinct [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Router_RouterIdeal : Prop :=
  True

def algebraic_RouterIdeal_RouterReferenceIdeal_pre_all_finite [hRouterIdeal : Cert.RouterIdeal.Facts] [hRouterReferenceIdeal : Cert.RouterReferenceIdeal.Facts] [hPre_all_finite : Cert.Pre_all_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_all_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_4)) (v3 : (c : Dev Cert.RouterIdeal.nD) → Buf (Elt Ideal) ((c.tc : Thread Cert.RouterIdeal.nD Cert.RouterIdeal.τ).loc Cert.RouterIdeal.main_v4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_4) = v2 c
          ∧ r.2.mem ((c.tc : Thread Cert.RouterIdeal.nD Cert.RouterIdeal.τ).loc Cert.RouterIdeal.main_v4) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v0) = v0 c
          ∧ r.2.mem ((c.tc : Thread Cert.RouterReferenceIdeal.nD Cert.RouterReferenceIdeal.τ).loc Cert.RouterReferenceIdeal.main_v11) = v1 c
          ∧ r.2.mem ((c.tc : Thread Cert.RouterReferenceIdeal.nD Cert.RouterReferenceIdeal.τ).loc Cert.RouterReferenceIdeal.main_v56) = v2 c
          ∧ r.2.mem ((c.tc : Thread Cert.RouterReferenceIdeal.nD Cert.RouterReferenceIdeal.τ).loc Cert.RouterReferenceIdeal.main_v41) = v3 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def holds_RouterIdeal_slots_serve [hRouterIdeal : Cert.RouterIdeal.Facts] [hPost_slots_serve : Cert.Post_slots_serve.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => ∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ (Cert.Post_slots_serve.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (r.2.mem ((c.tc : Thread Cert.RouterIdeal.nD Cert.RouterIdeal.τ).loc Cert.RouterIdeal.main_v0_0)) (r.2.mem ((c.tc : Thread Cert.RouterIdeal.nD Cert.RouterIdeal.τ).loc Cert.RouterIdeal.main_v0_1)) (r.2.mem ((c.tc : Thread Cert.RouterIdeal.nD Cert.RouterIdeal.τ).loc Cert.RouterIdeal.main_v0_4)) (r.2.mem ((c.tc : Thread Cert.RouterIdeal.nD Cert.RouterIdeal.τ).loc Cert.RouterIdeal.main_v4))) = (fun _ => 1#1))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRouterReferenceIdeal : Cert.RouterReferenceIdeal.Facts) (hPre_tokens_in_range : Cert.Pre_tokens_in_range.Facts) (hPre_slots_distinct : Cert.Pre_slots_distinct.Facts) (hPre_all_finite : Cert.Pre_all_finite.Facts) (hPost_slots_serve : Cert.Post_slots_serve.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_KernelIdeal_pre_slots_distinct (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ quiescent_Router (hRouter := hRouter)
    ∧ quiescent_RouterIdeal (hRouterIdeal := hRouterIdeal)
    ∧ quiescent_RouterIdeal_pre_all_finite (hRouterIdeal := hRouterIdeal) (hPre_all_finite := hPre_all_finite)
    ∧ quiescent_RouterReferenceIdeal (hRouterReferenceIdeal := hRouterReferenceIdeal)
    ∧ quiescent_RouterReferenceIdeal_pre_all_finite (hRouterReferenceIdeal := hRouterReferenceIdeal) (hPre_all_finite := hPre_all_finite)
    ∧ preserves_Kernel_KernelIdeal
    ∧ algebraic_KernelIdeal_ReferenceIdeal_pre_slots_distinct (hKernelIdeal := hKernelIdeal) (hReferenceIdeal := hReferenceIdeal) (hPre_slots_distinct := hPre_slots_distinct)
    ∧ preserves_Router_RouterIdeal
    ∧ algebraic_RouterIdeal_RouterReferenceIdeal_pre_all_finite (hRouterIdeal := hRouterIdeal) (hRouterReferenceIdeal := hRouterReferenceIdeal) (hPre_all_finite := hPre_all_finite)
    ∧ holds_RouterIdeal_slots_serve (hRouterIdeal := hRouterIdeal) (hPost_slots_serve := hPost_slots_serve)
-- ==== Post_slots_serve.lean ====
abbrev S4096x768 : Shape := ⟨2, ![4096, 768]⟩
abbrev S768x64 : Shape := ⟨2, ![768, 64]⟩
abbrev S4096x64 : Shape := ⟨2, ![4096, 64]⟩
abbrev S64x64 : Shape := ⟨2, ![64, 64]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

class Facts : Prop where
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts]

def fn {F : FTy → Type} [FloatOps F] (main_arg0 : FVec F S4096x768 .f32) (main_arg1 : FVec F S768x64 .f32) (main_arg2 : FVec F S4096x64 .f32) (main_arg3 : FVec F S4096x64 .f32) (main_arg4 : FVec F S64x64 .f32) (main_arg5 : IVec S64x64 32) : IVec S4096x4096 1 :=
  let main_v0 : IVec S4096 32 := shapeCast S4096 main_arg5 shapeCasts_S64x64_S4096
  let main_v1 : IVec S4096x4096 32 := iotaInDim S4096x4096 32 0
  let main_v2 : IVec S4096x4096 32 := iotaInDim S4096x4096 32 1
  let main_c : IVec S_ 32 := constantI S_ 32 4096#32
  let main_v3 : IVec S4096 32 := broadcastInDim S4096 ![] bcast_S_S4096 main_c
  let main_v4 : IVec S4096 1 := cmpi .slt main_v0 main_v3
  let main_v5 : IVec S4096x1 1 := broadcastInDim S4096x1 ![0] bcast_S4096_S4096x1_0 main_v4
  let main_v6 : IVec S4096x1 32 := broadcastInDim S4096x1 ![0] bcast_S4096_S4096x1_0 main_v0
  let main_v7 : IVec S1x4096 32 := broadcastInDim S1x4096 ![1] bcast_S4096_S1x4096_1 main_v0
  let main_v8 : IVec S4096x4096 32 := broadcastInDim S4096x4096 ![0, 1] bcast_S4096x1_S4096x4096_0_1 main_v6
  let main_v9 : IVec S4096x4096 32 := broadcastInDim S4096x4096 ![0, 1] bcast_S1x4096_S4096x4096_0_1 main_v7
  let main_v10 : IVec S4096x4096 1 := cmpi .ne main_v8 main_v9
  let main_c_0 : IVec S_ 32 := constantI S_ 32 0#32
  let main_v11 : IVec S4096 32 := broadcastInDim S4096 ![] bcast_S_S4096 main_c_0
  let main_v12 : IVec S4096 1 := cmpi .slt main_v0 main_v11
  let main_v13 : IVec S4096x1 1 := broadcastInDim S4096x1 ![0] bcast_S4096_S4096x1_0 main_v12
  let main_v14 : IVec S4096x4096 1 := broadcastInDim S4096x4096 ![0, 1] bcast_S4096x1_S4096x4096_0_1 main_v13
  let main_v15 : IVec S4096x4096 1 := ori main_v10 main_v14
  let main_v16 : IVec S4096x4096 1 := cmpi .eq main_v1 main_v2
  let main_v17 : IVec S4096x4096 1 := ori main_v15 main_v16
  let main_v18 : IVec S4096x4096 1 := broadcastInDim S4096x4096 ![0, 1] bcast_S4096x1_S4096x4096_0_1 main_v5
  let main_v19 : IVec S4096x4096 1 := andi main_v18 main_v17
  main_v19
-- ==== Pre_all_finite.lean ====
abbrev S4096x768 : Shape := ⟨2, ![4096, 768]⟩
abbrev S768x64 : Shape := ⟨2, ![768, 64]⟩
abbrev S_ : Shape := ⟨0, ![]⟩

class Facts : Prop where
  bcast_S_S4096x768 : S_.BroadcastsInDim S4096x768 (![] : Fin 0 → Fin S4096x768.rank)
  bcast_S_S768x64 : S_.BroadcastsInDim S768x64 (![] : Fin 0 → Fin S768x64.rank)

variable [Facts]

def fn {F : FTy → Type} [FloatOps F] (main_arg0 : FVec F S4096x768 .f32) (main_arg1 : FVec F S768x64 .f32) : IVec S4096x768 1 × IVec S768x64 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S768x64 .f32 := Host.absf main_arg1
  let main_cst_0 : FVec F S_ .f32 := constant S_ .f32 0x7F800000#32
  let main_v4 : FVec F S768x64 .f32 := broadcastInDim S768x64 ![] bcast_S_S768x64 main_cst_0
  let main_v5 : IVec S768x64 1 := cmpf .olt main_v3 main_v4
  (main_v2, main_v5)
-- ==== Pre_slots_distinct.lean ====
abbrev S4096 : Shape := ⟨1, ![4096]⟩
abbrev S4096x768 : Shape := ⟨2, ![4096, 768]⟩
abbrev S64x768x768 : Shape := ⟨3, ![64, 768, 768]⟩
abbrev S64x1x768 : Shape := ⟨3, ![64, 1, 768]⟩
abbrev S64x64x1 : Shape := ⟨3, ![64, 64, 1]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts]

def fn {F : FTy → Type} [FloatOps F] (main_arg0 : IVec S4096 32) (main_arg1 : FVec F S4096x768 .f32) (main_arg2 : FVec F S64x768x768 .f32) (main_arg3 : FVec F S64x1x768 .f32) (main_arg4 : FVec F S64x768x768 .f32) (main_arg5 : FVec F S64x1x768 .f32) (main_arg6 : FVec F S64x768x768 .f32) (main_arg7 : FVec F S64x1x768 .f32) (main_arg8 : FVec F S64x64x1 .f32) : IVec S4096x4096 1 :=
  let main_v0 : IVec S4096x4096 32 := iotaInDim S4096x4096 32 0
  let main_v1 : IVec S4096x4096 32 := iotaInDim S4096x4096 32 1
  let main_c : IVec S_ 32 := constantI S_ 32 4096#32
  let main_v2 : IVec S4096 32 := broadcastInDim S4096 ![] bcast_S_S4096 main_c
  let main_v3 : IVec S4096 1 := cmpi .slt main_arg0 main_v2
  let main_v4 : IVec S4096x1 1 := broadcastInDim S4096x1 ![0] bcast_S4096_S4096x1_0 main_v3
  let main_v5 : IVec S4096x1 32 := broadcastInDim S4096x1 ![0] bcast_S4096_S4096x1_0 main_arg0
  let main_v6 : IVec S1x4096 32 := broadcastInDim S1x4096 ![1] bcast_S4096_S1x4096_1 main_arg0
  let main_v7 : IVec S4096x4096 32 := broadcastInDim S4096x4096 ![0, 1] bcast_S4096x1_S4096x4096_0_1 main_v5
  let main_v8 : IVec S4096x4096 32 := broadcastInDim S4096x4096 ![0, 1] bcast_S1x4096_S4096x4096_0_1 main_v6
  let main_v9 : IVec S4096x4096 1 := cmpi .ne main_v7 main_v8
  let main_c_0 : IVec S_ 32 := constantI S_ 32 0#32
  let main_v10 : IVec S4096 32 := broadcastInDim S4096 ![] bcast_S_S4096 main_c_0
  let main_v11 : IVec S4096 1 := cmpi .slt main_arg0 main_v10
  let main_v12 : IVec S4096x1 1 := broadcastInDim S4096x1 ![0] bcast_S4096_S4096x1_0 main_v11
  let main_v13 : IVec S4096x4096 1 := broadcastInDim S4096x4096 ![0, 1] bcast_S4096x1_S4096x4096_0_1 main_v12
  let main_v14 : IVec S4096x4096 1 := ori main_v9 main_v13
  let main_v15 : IVec S4096x4096 1 := cmpi .eq main_v0 main_v1
  let main_v16 : IVec S4096x4096 1 := ori main_v14 main_v15
  let main_v17 : IVec S4096x4096 1 := broadcastInDim S4096x4096 ![0, 1] bcast_S4096x1_S4096x4096_0_1 main_v4
  let main_v18 : IVec S4096x4096 1 := andi main_v17 main_v16
  main_v18
-- ==== Pre_tokens_in_range.lean ====
abbrev S4096 : Shape := ⟨1, ![4096]⟩
abbrev S4096x768 : Shape := ⟨2, ![4096, 768]⟩
abbrev S64x768x768 : Shape := ⟨3, ![64, 768, 768]⟩
abbrev S64x1x768 : Shape := ⟨3, ![64, 1, 768]⟩
abbrev S64x64x1 : Shape := ⟨3, ![64, 64, 1]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S4096x768 .f32) (main_arg2 : FVec F S64x768x768 .f32) (main_arg3 : FVec F S64x1x768 .f32) (main_arg4 : FVec F S64x768x768 .f32) (main_arg5 : FVec F S64x1x768 .f32) (main_arg6 : FVec F S64x768x768 .f32) (main_arg7 : FVec F S64x1x768 .f32) (main_arg8 : FVec F S64x64x1 .f32) : IVec S4096 1 :=
  let main_c : IVec S_ 32 := constantI S_ 32 4096#32
  let main_v0 : IVec S4096 32 := broadcastInDim S4096 ![] bcast_S_S4096 main_c
  let main_v1 : IVec S4096 1 := cmpi .slt main_arg0 main_v0
  main_v1
-- ==== Kernel.lean ====
abbrev S4096 : Shape := ⟨1, ![4096]⟩
abbrev S4096x768 : Shape := ⟨2, ![4096, 768]⟩
abbrev S64x768x768 : Shape := ⟨3, ![64, 768, 768]⟩
abbrev S64x1x768 : Shape := ⟨3, ![64, 1, 768]⟩
abbrev S64x64x1 : Shape := ⟨3, ![64, 64, 1]⟩
abbrev S1x768x768 : Shape := ⟨3, ![1, 768, 768]⟩
abbrev S1x1x768 : Shape := ⟨3, ![1, 1, 768]⟩
abbrev S1x64x1 : Shape := ⟨3, ![1, 64, 1]⟩
abbrev S64x768 : Shape := ⟨2, ![64, 768]⟩
abbrev S1 : Shape := ⟨1, ![1]⟩
abbrev S1x768 : Shape := ⟨2, ![1, 768]⟩
abbrev S768x768 : Shape := ⟨2, ![768, 768]⟩
abbrev S768 : Shape := ⟨1, ![768]⟩
abbrev S64x1 : Shape := ⟨2, ![64, 1]⟩

abbrev nBuf : Space → Nat
  | .hbm => 9
  | .vmem => 17
  | .smem => 1
  | _ => 0

abbrev bufTy : (tb : Table) → Fin (tcTables nBuf tb) → BufTy
  | .hbm, ⟨0, _⟩ => ⟨S4096x768, .f32⟩
  | .hbm, ⟨1, _⟩ => ⟨S64x768x768, .f32⟩
  | .hbm, ⟨2, _⟩ => ⟨S64x1x768, .f32⟩
  | .hbm, ⟨3, _⟩ => ⟨S64x768x768, .f32⟩
  | .hbm, ⟨4, _⟩ => ⟨S64x1x768, .f32⟩
  | .hbm, ⟨5, _⟩ => ⟨S64x768x768, .f32⟩
  | .hbm, ⟨6, _⟩ => ⟨S64x1x768, .f32⟩
  | .hbm, ⟨7, _⟩ => ⟨S64x64x1, .f32⟩
  | .hbm, ⟨8, _⟩ => ⟨S4096x768, .f32⟩
  | .local _ .vmem, ⟨0, _⟩ => ⟨S4096x768, .f32⟩
  | .local _ .vmem, ⟨1, _⟩ => ⟨S1x768x768, .f32⟩
  | .local _ .vmem, ⟨2, _⟩ => ⟨S1x768x768, .f32⟩
  | .local _ .vmem, ⟨3, _⟩ => ⟨S1x1x768, .f32⟩
  | .local _ .vmem, ⟨4, _⟩ => ⟨S1x1x768, .f32⟩
  | .local _ .vmem, ⟨5, _⟩ => ⟨S1x768x768, .f32⟩
  | .local _ .vmem, ⟨6, _⟩ => ⟨S1x768x768, .f32⟩
  | .local _ .vmem, ⟨7, _⟩ => ⟨S1x1x768, .f32⟩
  | .local _ .vmem, ⟨8, _⟩ => ⟨S1x1x768, .f32⟩
  | .local _ .vmem, ⟨9, _⟩ => ⟨S1x768x768, .f32⟩
  | .local _ .vmem, ⟨10, _⟩ => ⟨S1x768x768, .f32⟩
  | .local _ .vmem, ⟨11, _⟩ => ⟨S1x1x768, .f32⟩
  | .local _ .vmem, ⟨12, _⟩ => ⟨S1x1x768, .f32⟩
  | .local _ .vmem, ⟨13, _⟩ => ⟨S1x64x1, .f32⟩
  | .local _ .vmem, ⟨14, _⟩ => ⟨S1x64x1, .f32⟩
  | .local _ .vmem, ⟨15, _⟩ => ⟨S4096x768, .f32⟩
  | .local _ .vmem, ⟨16, _⟩ => ⟨S64x768, .f32⟩
  | .local _ .smem, ⟨0, _⟩ => ⟨S4096, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v3 : BitVec 32 := Scalar.muli arg0 c64_i32
  let c0_i32_1 : BitVec 32 := 0#32
  let v4 : BitVec 32 := Scalar.addi v3 c0_i32_1
  let v5 : Index := Scalar.indexCast v4
  ![v5.toNat]
def k0_off2 (v6 : BitVec 32) : Fin 2 → Nat :=
  let c0_i32_2 : BitVec 32 := 0#32
  let v7 : BitVec 32 := Scalar.maxsi v6 c0_i32_2
  let v8 : Index := Scalar.indexCast v7
  let c0 : Index := 0#32
  ![v8.toNat, 0]

def k0_chk1 (v6 : BitVec 32) : Prop :=
  (∀ a, (k0_off2 v6) a + S1x768.size a ≤ S4096x768.size a)
theorem k0_off2_inb : ∀ (v6 : BitVec 32) (k0_hw1 : k0_chk1 v6), ∀ a, (k0_off2 v6) a + S1x768.size a ≤ S4096x768.size a := fun v6 k0_hw1 => k0_hw1

def k0_off3 (i : grid0.Coords) : Fin 1 → Nat :=
  let arg0 : BitVec 32 := BitVec.ofNat 32 (i 0).val
  let c64_i32_5 : BitVec 32 := 64#32
  let v13 : BitVec 32 := Scalar.muli arg0 c64_i32_5
  let c1_i32 : BitVec 32 := 1#32
  let v14 : BitVec 32 := Scalar.addi v13 c1_i32
  let v15 : Index := Scalar.indexCast v14
  ![v15.toNat]
def k0_off4 (v16 : BitVec 32) : Fin 2 → Nat :=
  let c0_i32_6 : BitVec 32 := 0#32
  let v17 : BitVec 32 := Scalar.maxsi v16 c0_i32_6
  let v18 : Index := Scalar.indexCast v17
  let c0_7 : Index := 0#32
  ![v18.toNat, 0]

def k0_chk2 (v16 : BitVec 32) : Prop :=
  (∀ a, (k0_off4 v16) a + S1x768.size a ≤ S4096x768.size a)
theorem k0_off4_inb : ∀ (v16 : BitVec 32) (k0_hw2 : k0_chk2 v16), ∀ a, (k0_off4 v16) a + S1x768.size a ≤ S4096x768.size a := fun v16 k0_hw2 => k0_hw2

def k0_off5 (i : grid0.Coords) : Fin 1 → Nat :=
  let arg0 : BitVec 32 := BitVec.ofNat 32 (i 0).val
  let c64_i32_9 : BitVec 32 := 64#32
  let v23 : BitVec 32 := Scalar.muli arg0 c64_i32_9
  let c2_i32 : BitVec 32 := 2#32
  let v24 : BitVec 32 := Scalar.addi v23 c2_i32
  let v25 : Index := Scalar.indexCast v24
  ![v25.toNat]
def k0_off6 (v26 : BitVec 32) : Fin 2 → Nat :=
  let c0_i32_10 : BitVec 32 := 0#32
  let v27 : BitVec 32 := Scalar.maxsi v26 c0_i32_10
  let v28 : Index := Scalar.indexCast v27
  let c0_11 : Index := 0#32
  ![v28.toNat, 0]

def k0_chk3 (v26 : BitVec 32) : Prop :=
  (∀ a, (k0_off6 v26) a + S1x768.size a ≤ S4096x768.size a)
theorem k0_off6_inb : ∀ (v26 : BitVec 32) (k0_hw3 : k0_chk3 v26), ∀ a, (k0_off6 v26) a + S1x768.size a ≤ S4096x768.size a := fun v26 k0_hw3 => k0_hw3

def k0_off7 (i : grid0.Coords) : Fin 1 → Nat :=
  let arg0 : BitVec 32 := BitVec.ofNat 32 (i 0).val
  let c64_i32_13 : BitVec 32 := 64#32
  let v33 : BitVec 32 := Scalar.muli arg0 c64_i32_13
  let c3_i32 : BitVec 32 := 3#32
  let v34 : BitVec 32 := Scalar.addi v33 c3_i32
  let v35 : Index := Scalar.indexCast v34
  ![v35.toNat]
def k0_off8 (v36 : BitVec 32) : Fin 2 → Nat :=
  let c0_i32_14 : BitVec 32 := 0#32
  let v37 : BitVec 32 := Scalar.maxsi v36 c0_i32_14
  let v38 : Index := Scalar.indexCast v37
  let c0_15 : Index := 0#32
  ![v38.toNat, 0]

def k0_chk4 (v36 : BitVec 32) : Prop :=
  (∀ a, (k0_off8 v36) a + S1x768.size a ≤ S4096x768.size a)
theorem k0_off8_inb : ∀ (v36 : BitVec 32) (k0_hw4 : k0_chk4 v36), ∀ a, (k0_off8 v36) a + S1x768.size a ≤ S4096x768.size a := fun v36 k0_hw4 => k0_hw4

def k0_off9 (i : grid0.Coords) : Fin 1 → Nat :=
  let arg0 : BitVec 32 := BitVec.ofNat 32 (i 0).val
  let c64_i32_17 : BitVec 32 := 64#32
  let v43 : BitVec 32 := Scalar.muli arg0 c64_i32_17
  let c4_i32 : BitVec 32 := 4#32
  let v44 : BitVec 32 := Scalar.addi v43 c4_i32
  let v45 : Index := Scalar.indexCast v44
  ![v45.toNat]
def k0_off10 (v46 : BitVec 32) : Fin 2 → Nat :=
  let c0_i32_18 : BitVec 32 := 0#32
  let v47 : BitVec 32 := Scalar.maxsi v46 c0_i32_18
  let v48 : Index := Scalar.indexCast v47
  let c0_19 : Index := 0#32
  ![v48.toNat, 0]

def k0_chk5 (v46 : BitVec 32) : Prop :=
  (∀ a, (k0_off10 v46) a + S1x768.size a ≤ S4096x768.size a)
theorem k0_off10_inb : ∀ (v46 : BitVec 32) (k0_hw5 : k0_chk5 v46), ∀ a, (k0_off10 v46) a + S1x768.size a ≤ S4096x768.size a := fun v46 k0_hw5 => k0_hw5

def k0_off11 (i : grid0.Coords) : Fin 1 → Nat :=
  let arg0 : BitVec 32 := BitVec.ofNat 32 (i 0).val
  let c64_i32_21 : BitVec 32 := 64#32
  let v53 : BitVec 32 := Scalar.muli arg0 c64_i32_21
  let c5_i32 : BitVec 32 := 5#32
  let v54 : BitVec 32 := Scalar.addi v53 c5_i32
  let v55 : Index := Scalar.indexCast v54
  ![v55.toNat]
def k0_off12 (v56 : BitVec 32) : Fin 2 → Nat :=
  let c0_i32_22 : BitVec 32 := 0#32
  let v57 : BitVec 32 := Scalar.maxsi v56 c0_i32_22
  let v58 : Index := Scalar.indexCast v57
  let c0_23 : Index := 0#32
  ![v58.toNat, 0]

def k0_chk6 (v56 : BitVec 32) : Prop :=
  (∀ a, (k0_off12 v56) a + S1x768.size a ≤ S4096x768.size a)
theorem k0_off12_inb : ∀ (v56 : BitVec 32) (k0_hw6 : k0_chk6 v56), ∀ a, (k0_off12 v56) a + S1x768.size a ≤ S4096x768.size a := fun v56 k0_hw6 => k0_hw6

def k0_off13 (i : grid0.Coords) : Fin 1 → Nat :=
  let arg0 : BitVec 32 := BitVec.ofNat 32 (i 0).val
  let c64_i32_25 : BitVec 32 := 64#32
  let v63 : BitVec 32 := Scalar.muli arg0 c64_i32_25
  let c6_i32 : BitVec 32 := 6#32
  let v64 : BitVec 32 := Scalar.addi v63 c6_i32
  let v65 : Index := Scalar.indexCast v64
  ![v65.toNat]
def k0_off14 (v66 : BitVec 32) : Fin 2 → Nat :=
  let c0_i32_26 : BitVec 32 := 0#32
  let v67 : BitVec 32 := Scalar.maxsi v66 c0_i32_26
  let v68 : Index := Scalar.indexCast v67
  let c0_27 : Index := 0#32
  ![v68.toNat, 0]

def k0_chk7 (v66 : BitVec 32) : Prop :=
  (∀ a, (k0_off14 v66) a + S1x768.size a ≤ S4096x768.size a)
theorem k0_off14_inb : ∀ (v66 : BitVec 32) (k0_hw7 : k0_chk7 v66), ∀ a, (k0_off14 v66) a + S1x768.size a ≤ S4096x768.size a := fun v66 k0_hw7 => k0_hw7

def k0_off15 (i : grid0.Coords) : Fin 1 → Nat :=
  let arg0 : BitVec 32 := BitVec.ofNat 32 (i 0).val
  let c64_i32_29 : BitVec 32 := 64#32
  let v73 : BitVec 32 := Scalar.muli arg0 c64_i32_29
  let c7_i32 : BitVec 32 := 7#32
  let v74 : BitVec 32 := Scalar.addi v73 c7_i32
  let v75 : Index := Scalar.indexCast v74
  ![v75.toNat]
def k0_off16 (v76 : BitVec 32) : Fin 2 → Nat :=
  let c0_i32_30 : BitVec 32 := 0#32
  let v77 : BitVec 32 := Scalar.maxsi v76 c0_i32_30
  let v78 : Index := Scalar.indexCast v77
  let c0_31 : Index := 0#32
  ![v78.toNat, 0]

def k0_chk8 (v76 : BitVec 32) : Prop :=
  (∀ a, (k0_off16 v76) a + S1x768.size a ≤ S4096x768.size a)
theorem k0_off16_inb : ∀ (v76 : BitVec 32) (k0_hw8 : k0_chk8 v76), ∀ a, (k0_off16 v76) a + S1x768.size a ≤ S4096x768.size a := fun v76 k0_hw8 => k0_hw8

def k0_off17 (i : grid0.Coords) : Fin 1 → Nat :=
  let arg0 : BitVec 32 := BitVec.ofNat 32 (i 0).val
  let c64_i32_33 : BitVec 32 := 64#32
  let v83 : BitVec 32 := Scalar.muli arg0 c64_i32_33
  let c8_i32 : BitVec 32 := 8#32
  let v84 : BitVec 32 := Scalar.addi v83 c8_i32
  let v85 : Index := Scalar.indexCast v84
  ![v85.toNat]
def k0_off18 (v86 : BitVec 32) : Fin 2 → Nat :=
  let c0_i32_34 : BitVec 32 := 0#32
  let v87 : BitVec 32 := Scalar.maxsi v86 c0_i32_34
  let v88 : Index := Scalar.indexCast v87
  let c0_35 : Index := 0#32
  ![v88.toNat, 0]

def k0_chk9 (v86 : BitVec 32) : Prop :=
  (∀ a, (k0_off18 v86) a + S1x768.size a ≤ S4096x768.size a)
theorem k0_off18_inb : ∀ (v86 : BitVec 32) (k0_hw9 : k0_chk9 v86), ∀ a, (k0_off18 v86) a + S1x768.size a ≤ S4096x768.size a := fun v86 k0_hw9 => k0_hw9

def k0_off19 (i : grid0.Coords) : Fin 1 → Nat :=
  let arg0 : BitVec 32 := BitVec.ofNat 32 (i 0).val
  let c64_i32_37 : BitVec 32 := 64#32
  let v93 : BitVec 32 := Scalar.muli arg0 c64_i32_37
  let c9_i32 : BitVec 32 := 9#32
  let v94 : BitVec 32 := Scalar.addi v93 c9_i32
  let v95 : Index := Scalar.indexCast v94
  ![v95.toNat]
def k0_off20 (v96 : BitVec 32) : Fin 2 → Nat :=
  let c0_i32_38 : BitVec 32 := 0#32
  let v97 : BitVec 32 := Scalar.maxsi v96 c0_i32_38
  let v98 : Index := Scalar.indexCast v97
  let c0_39 : Index := 0#32
  ![v98.toNat, 0]

def k0_chk10 (v96 : BitVec 32) : Prop :=
  (∀ a, (k0_off20 v96) a + S1x768.size a ≤ S4096x768.size a)
theorem k0_off20_inb : ∀ (v96 : BitVec 32) (k0_hw10 : k0_chk10 v96), ∀ a, (k0_off20 v96) a + S1x768.size a ≤ S4096x768.size a := fun v96 k0_hw10 => k0_hw10

def k0_off21 (i : grid0.Coords) : Fin 1 → Nat :=
  let arg0 : BitVec 32 := BitVec.ofNat 32 (i 0).val
  let c64_i32_41 : BitVec 32 := 64#32
  let v103 : BitVec 32 := Scalar.muli arg0 c64_i32_41
  let c10_i32 : BitVec 32 := 10#32
  let v104 : BitVec 32 := Scalar.addi v103 c10_i32
  let v105 : Index := Scalar.indexCast v104
  ![v105.toNat]
def k0_off22 (v106 : BitVec 32) : Fin 2 → Nat :=
  let c0_i32_42 : BitVec 32 := 0#32
  let v107 : BitVec 32 := Scalar.maxsi v106 c0_i32_42
  let v108 : Index := Scalar.indexCast v107
  let c0_43 : Index := 0#32
  ![v108.toNat, 0]

def k0_chk11 (v106 : BitVec 32) : Prop :=
  (∀ a, (k0_off22 v106) a + S1x768.size a ≤ S4096x768.size a)
theorem k0_off22_inb : ∀ (v106 : BitVec 32) (k0_hw11 : k0_chk11 v106), ∀ a, (k0_off22 v106) a + S1x768.size a ≤ S4096x768.size a := fun v106 k0_hw11 => k0_hw11

def k0_off23 (i : grid0.Coords) : Fin 1 → Nat :=
  let arg0 : BitVec 32 := BitVec.ofNat 32 (i 0).val
  let c64_i32_45 : BitVec 32 := 64#32
  let v113 : BitVec 32 := Scalar.muli arg0 c64_i32_45
  let c11_i32 : BitVec 32 := 11#32
  let v114 : BitVec 32 := Scalar.addi v113 c11_i32
  let v115 : Index := Scalar.indexCast v114
  ![v115.toNat]
def k0_off24 (v116 : BitVec 32) : Fin 2 → Nat :=
  let c0_i32_46 : BitVec 32 := 0#32
  let v117 : BitVec 32 := Scalar.maxsi v116 c0_i32_46
  let v118 : Index := Scalar.indexCast v117
  let c0_47 : Index := 0#32
  ![v118.toNat, 0]

def k0_chk12 (v116 : BitVec 32) : Prop :=
  (∀ a, (k0_off24 v116) a + S1x768.size a ≤ S4096x768.size a)
theorem k0_off24_inb : ∀ (v116 : BitVec 32) (k0_hw12 : k0_chk12 v116), ∀ a, (k0_off24 v116) a + S1x768.size a ≤ S4096x768.size a := fun v116 k0_hw12 => k0_hw12

def k0_off25 (i : grid0.Coords) : Fin 1 → Nat :=
  let arg0 : BitVec 32 := BitVec.ofNat 32 (i 0).val
  let c64_i32_49 : BitVec 32 := 64#32
  let v123 : BitVec 32 := Scalar.muli arg0 c64_i32_49
  let c12_i32 : BitVec 32 := 12#32
  let v124 : BitVec 32 := Scalar.addi v123 c12_i32
  let v125 : Index := Scalar.indexCast v124
  ![v125.toNat]
def k0_off26 (v126 : BitVec 32) : Fin 2 → Nat :=
  let c0_i32_50 : BitVec 32 := 0#32
  let v127 : BitVec 32 := Scalar.maxsi v126 c0_i32_50
  let v128 : Index := Scalar.indexCast v127
  let c0_51 : Index := 0#32
  ![v128.toNat, 0]

def k0_chk13 (v126 : BitVec 32) : Prop :=
  (∀ a, (k0_off26 v126) a + S1x768.size a ≤ S4096x768.size a)
theorem k0_off26_inb : ∀ (v126 : BitVec 32) (k0_hw13 : k0_chk13 v126), ∀ a, (k0_off26 v126) a + S1x768.size a ≤ S4096x768.size a := fun v126 k0_hw13 => k0_hw13

def k0_off27 (i : grid0.Coords) : Fin 1 → Nat :=
  let arg0 : BitVec 32 := BitVec.ofNat 32 (i 0).val
  let c64_i32_53 : BitVec 32 := 64#32
  let v133 : BitVec 32 := Scalar.muli arg0 c64_i32_53
  let c13_i32 : BitVec 32 := 13#32
  let v134 : BitVec 32 := Scalar.addi v133 c13_i32
  let v135 : Index := Scalar.indexCast v134
  ![v135.toNat]
def k0_off28 (v136 : BitVec 32) : Fin 2 → Nat :=
  let c0_i32_54 : BitVec 32 := 0#32
  let v137 : BitVec 32 := Scalar.maxsi v136 c0_i32_54
  let v138 : Index := Scalar.indexCast v137
  let c0_55 : Index := 0#32
  ![v138.toNat, 0]

def k0_chk14 (v136 : BitVec 32) : Prop :=
  (∀ a, (k0_off28 v136) a + S1x768.size a ≤ S4096x768.size a)
theorem k0_off28_inb : ∀ (v136 : BitVec 32) (k0_hw14 : k0_chk14 v136), ∀ a, (k0_off28 v136) a + S1x768.size a ≤ S4096x768.size a := fun v136 k0_hw14 => k0_hw14

def k0_off29 (i : grid0.Coords) : Fin 1 → Nat :=
  let arg0 : BitVec 32 := BitVec.ofNat 32 (i 0).val
  let c64_i32_57 : BitVec 32 := 64#32
  let v143 : BitVec 32 := Scalar.muli arg0 c64_i32_57
  let c14_i32 : BitVec 32 := 14#32
  let v144 : BitVec 32 := Scalar.addi v143 c14_i32
  let v145 : Index := Scalar.indexCast v144
  ![v145.toNat]
def k0_off30 (v146 : BitVec 32) : Fin 2 → Nat :=
  let c0_i32_58 : BitVec 32 := 0#32
  let v147 : BitVec 32 := Scalar.maxsi v146 c0_i32_58
  let v148 : Index := Scalar.indexCast v147
  let c0_59 : Index := 0#32
  ![v148.toNat, 0]

def k0_chk15 (v146 : BitVec 32) : Prop :=
  (∀ a, (k0_off30 v146) a + S1x768.size a ≤ S4096x768.size a)
theorem k0_off30_inb : ∀ (v146 : BitVec 32) (k0_hw15 : k0_chk15 v146), ∀ a, (k0_off30 v146) a + S1x768.size a ≤ S4096x768.size a := fun v146 k0_hw15 => k0_hw15

def k0_off31 (i : grid0.Coords) : Fin 1 → Nat :=
  let arg0 : BitVec 32 := BitVec.ofNat 32 (i 0).val
  let c64_i32_61 : BitVec 32 := 64#32
  let v153 : BitVec 32 := Scalar.muli arg0 c64_i32_61
  let c15_i32 : BitVec 32 := 15#32
  let v154 : BitVec 32 := Scalar.addi v153 c15_i32
  let v155 : Index := Scalar.indexCast v154
  ![v155.toNat]
def k0_off32 (v156 : BitVec 32) : Fin 2 → Nat :=
  let c0_i32_62 : BitVec 32 := 0#32
  let v157 : BitVec 32 := Scalar.maxsi v156 c0_i32_62
  let v158 : Index := Scalar.indexCast v157
  let c0_63 : Index := 0#32
  ![v158.toNat, 0]

def k0_chk16 (v156 : BitVec 32) : Prop :=
  (∀ a, (k0_off32 v156) a + S1x768.size a ≤ S4096x768.size a)
theorem k0_off32_inb : ∀ (v156 : BitVec 32) (k0_hw16 : k0_chk16 v156), ∀ a, (k0_off32 v156) a + S1x768.size a ≤ S4096x768.size a := fun v156 k0_hw16 => k0_hw16

def k0_off33 (i : grid0.Coords) : Fin 1 → Nat :=
  let arg0 : BitVec 32 := BitVec.ofNat 32 (i 0).val
  let c64_i32_65 : BitVec 32 := 64#32
  let v163 : BitVec 32 := Scalar.muli arg0 c64_i32_65
  let c16_i32 : BitVec 32 := 16#32
  let v164 : BitVec 32 := Scalar.addi v163 c16_i32
  let v165 : Index := Scalar.indexCast v164
  ![v165.toNat]
def k0_off34 (v166 : BitVec 32) : Fin 2 → Nat :=
  let c0_i32_66 : BitVec 32 := 0#32
  let v167 : BitVec 32 := Scalar.maxsi v166 c0_i32_66
  let v168 : Index := Scalar.indexCast v167
  let c0_67 : Index := 0#32
  ![v168.toNat, 0]

def k0_chk17 (v166 : BitVec 32) : Prop :=
  (∀ a, (k0_off34 v166) a + S1x768.size a ≤ S4096x768.size a)
theorem k0_off34_inb : ∀ (v166 : BitVec 32) (k0_hw17 : k0_chk17 v166), ∀ a, (k0_off34 v166) a + S1x768.size a ≤ S4096x768.size a := fun v166 k0_hw17 => k0_hw17

def k0_off35 (i : grid0.Coords) : Fin 1 → Nat :=
  let arg0 : BitVec 32 := BitVec.ofNat 32 (i 0).val
  let c64_i32_69 : BitVec 32 := 64#32
  let v173 : BitVec 32 := Scalar.muli arg0 c64_i32_69
  let c17_i32 : BitVec 32 := 17#32
  let v174 : BitVec 32 := Scalar.addi v173 c17_i32
  let v175 : Index := Scalar.indexCast v174
  ![v175.toNat]
def k0_off36 (v176 : BitVec 32) : Fin 2 → Nat :=
  let c0_i32_70 : BitVec 32 := 0#32
  let v177 : BitVec 32 := Scalar.maxsi v176 c0_i32_70
  let v178 : Index := Scalar.indexCast v177
  let c0_71 : Index := 0#32
  ![v178.toNat, 0]

def k0_chk18 (v176 : BitVec 32) : Prop :=
  (∀ a, (k0_off36 v176) a + S1x768.size a ≤ S4096x768.size a)
theorem k0_off36_inb : ∀ (v176 : BitVec 32) (k0_hw18 : k0_chk18 v176), ∀ a, (k0_off36 v176) a + S1x768.size a ≤ S4096x768.size a := fun v176 k0_hw18 => k0_hw18

def k0_off37 (i : grid0.Coords) : Fin 1 → Nat :=
  let arg0 : BitVec 32 := BitVec.ofNat 32 (i 0).val
  let c64_i32_73 : BitVec 32 := 64#32
  let v183 : BitVec 32 := Scalar.muli arg0 c64_i32_73
  let c18_i32 : BitVec 32 := 18#32
  let v184 : BitVec 32 := Scalar.addi v183 c18_i32
  let v185 : Index := Scalar.indexCast v184
  ![v185.toNat]
def k0_off38 (v186 : BitVec 32) : Fin 2 → Nat :=
  let c0_i32_74 : BitVec 32 := 0#32
  let v187 : BitVec 32 := Scalar.maxsi v186 c0_i32_74
  let v188 : Index := Scalar.indexCast v187
  let c0_75 : Index := 0#32
  ![v188.toNat, 0]

def k0_chk19 (v186 : BitVec 32) : Prop :=
  (∀ a, (k0_off38 v186) a + S1x768.size a ≤ S4096x768.size a)
theorem k0_off38_inb : ∀ (v186 : BitVec 32) (k0_hw19 : k0_chk19 v186), ∀ a, (k0_off38 v186) a + S1x768.size a ≤ S4096x768.size a := fun v186 k0_hw19 => k0_hw19

def k0_off39 (i : grid0.Coords) : Fin 1 → Nat :=
  let arg0 : BitVec 32 := BitVec.ofNat 32 (i 0).val
  let c64_i32_77 : BitVec 32 := 64#32
  let v193 : BitVec 32 := Scalar.muli arg0 c64_i32_77
  let c19_i32 : BitVec 32 := 19#32
  let v194 : BitVec 32 := Scalar.addi v193 c19_i32
  let v195 : Index := Scalar.indexCast v194
  ![v195.toNat]
def k0_off40 (v196 : BitVec 32) : Fin 2 → Nat :=
  let c0_i32_78 : BitVec 32 := 0#32
  let v197 : BitVec 32 := Scalar.maxsi v196 c0_i32_78
  let v198 : Index := Scalar.indexCast v197
  let c0_79 : Index := 0#32
  ![v198.toNat, 0]

def k0_chk20 (v196 : BitVec 32) : Prop :=
  (∀ a, (k0_off40 v196) a + S1x768.size a ≤ S4096x768.size a)
theorem k0_off40_inb : ∀ (v196 : BitVec 32) (k0_hw20 : k0_chk20 v196), ∀ a, (k0_off40 v196) a + S1x768.size a ≤ S4096x768.size a := fun v196 k0_hw20 => k0_hw20

def k0_off41 (i : grid0.Coords) : Fin 1 → Nat :=
  let arg0 : BitVec 32 := BitVec.ofNat 32 (i 0).val
  let c64_i32_81 : BitVec 32 := 64#32
  let v203 : BitVec 32 := Scalar.muli arg0 c64_i32_81
  let c20_i32 : BitVec 32 := 20#32
  let v204 : BitVec 32 := Scalar.addi v203 c20_i32
  let v205 : Index := Scalar.indexCast v204
  ![v205.toNat]
def k0_off42 (v206 : BitVec 32) : Fin 2 → Nat :=
  let c0_i32_82 : BitVec 32 := 0#32
  let v207 : BitVec 32 := Scalar.maxsi v206 c0_i32_82
  let v208 : Index := Scalar.indexCast v207
  let c0_83 : Index := 0#32
  ![v208.toNat, 0]

def k0_chk21 (v206 : BitVec 32) : Prop :=
  (∀ a, (k0_off42 v206) a + S1x768.size a ≤ S4096x768.size a)
theorem k0_off42_inb : ∀ (v206 : BitVec 32) (k0_hw21 : k0_chk21 v206), ∀ a, (k0_off42 v206) a + S1x768.size a ≤ S4096x768.size a := fun v206 k0_hw21 => k0_hw21

def k0_off43 (i : grid0.Coords) : Fin 1 → Nat :=
  let arg0 : BitVec 32 := BitVec.ofNat 32 (i 0).val
  let c64_i32_85 : BitVec 32 := 64#32
  let v213 : BitVec 32 := Scalar.muli arg0 c64_i32_85
  let c21_i32 : BitVec 32 := 21#32
  let v214 : BitVec 32 := Scalar.addi v213 c21_i32
  let v215 : Index := Scalar.indexCast v214
  ![v215.toNat]
def k0_off44 (v216 : BitVec 32) : Fin 2 → Nat :=
  let c0_i32_86 : BitVec 32 := 0#32
  let v217 : BitVec 32 := Scalar.maxsi v216 c0_i32_86
  let v218 : Index := Scalar.indexCast v217
  let c0_87 : Index := 0#32
  ![v218.toNat, 0]

def k0_chk22 (v216 : BitVec 32) : Prop :=
  (∀ a, (k0_off44 v216) a + S1x768.size a ≤ S4096x768.size a)
theorem k0_off44_inb : ∀ (v216 : BitVec 32) (k0_hw22 : k0_chk22 v216), ∀ a, (k0_off44 v216) a + S1x768.size a ≤ S4096x768.size a := fun v216 k0_hw22 => k0_hw22

def k0_off45 (i : grid0.Coords) : Fin 1 → Nat :=
  let arg0 : BitVec 32 := BitVec.ofNat 32 (i 0).val
  let c64_i32_89 : BitVec 32 := 64#32
  let v223 : BitVec 32 := Scalar.muli arg0 c64_i32_89
  let c22_i32 : BitVec 32 := 22#32
  let v224 : BitVec 32 := Scalar.addi v223 c22_i32
  let v225 : Index := Scalar.indexCast v224
  ![v225.toNat]
def k0_off46 (v226 : BitVec 32) : Fin 2 → Nat :=
  let c0_i32_90 : BitVec 32 := 0#32
  let v227 : BitVec 32 := Scalar.maxsi v226 c0_i32_90
  let v228 : Index := Scalar.indexCast v227
  let c0_91 : Index := 0#32
  ![v228.toNat, 0]

def k0_chk23 (v226 : BitVec 32) : Prop :=
  (∀ a, (k0_off46 v226) a + S1x768.size a ≤ S4096x768.size a)
theorem k0_off46_inb : ∀ (v226 : BitVec 32) (k0_hw23 : k0_chk23 v226), ∀ a, (k0_off46 v226) a + S1x768.size a ≤ S4096x768.size a := fun v226 k0_hw23 => k0_hw23

def k0_off47 (i : grid0.Coords) : Fin 1 → Nat :=
  let arg0 : BitVec 32 := BitVec.ofNat 32 (i 0).val
  let c64_i32_93 : BitVec 32 := 64#32
  let v233 : BitVec 32 := Scalar.muli arg0 c64_i32_93
  let c23_i32 : BitVec 32 := 23#32
  let v234 : BitVec 32 := Scalar.addi v233 c23_i32
  let v235 : Index := Scalar.indexCast v234
  ![v235.toNat]
def k0_off48 (v236 : BitVec 32) : Fin 2 → Nat :=
  let c0_i32_94 : BitVec 32 := 0#32
  let v237 : BitVec 32 := Scalar.maxsi v236 c0_i32_94
  let v238 : Index := Scalar.indexCast v237
  let c0_95 : Index := 0#32
  ![v238.toNat, 0]

def k0_chk24 (v236 : BitVec 32) : Prop :=
  (∀ a, (k0_off48 v236) a + S1x768.size a ≤ S4096x768.size a)
theorem k0_off48_inb : ∀ (v236 : BitVec 32) (k0_hw24 : k0_chk24 v236), ∀ a, (k0_off48 v236) a + S1x768.size a ≤ S4096x768.size a := fun v236 k0_hw24 => k0_hw24

def k0_off49 (i : grid0.Coords) : Fin 1 → Nat :=
  let arg0 : BitVec 32 := BitVec.ofNat 32 (i 0).val
  let c64_i32_97 : BitVec 32 := 64#32
  let v243 : BitVec 32 := Scalar.muli arg0 c64_i32_97
  let c24_i32 : BitVec 32 := 24#32
  let v244 : BitVec 32 := Scalar.addi v243 c24_i32
  let v245 : Index := Scalar.indexCast v244
  ![v245.toNat]
def k0_off50 (v246 : BitVec 32) : Fin 2 → Nat :=
  let c0_i32_98 : BitVec 32 := 0#32
  let v247 : BitVec 32 := Scalar.maxsi v246 c0_i32_98
  let v248 : Index := Scalar.indexCast v247
  let c0_99 : Index := 0#32
  ![v248.toNat, 0]

def k0_chk25 (v246 : BitVec 32) : Prop :=
  (∀ a, (k0_off50 v246) a + S1x768.size a ≤ S4096x768.size a)
theorem k0_off50_inb : ∀ (v246 : BitVec 32) (k0_hw25 : k0_chk25 v246), ∀ a, (k0_off50 v246) a + S1x768.size a ≤ S4096x768.size a := fun v246 k0_hw25 => k0_hw25

def k0_off51 (i : grid0.Coords) : Fin 1 → Nat :=
  let arg0 : BitVec 32 := BitVec.ofNat 32 (i 0).val
  let c64_i32_101 : BitVec 32 := 64#32
  let v253 : BitVec 32 := Scalar.muli arg0 c64_i32_101
  let c25_i32 : BitVec 32 := 25#32
  let v254 : BitVec 32 := Scalar.addi v253 c25_i32
  let v255 : Index := Scalar.indexCast v254
  ![v255.toNat]
def k0_off52 (v256 : BitVec 32) : Fin 2 → Nat :=
  let c0_i32_102 : BitVec 32 := 0#32
  let v257 : BitVec 32 := Scalar.maxsi v256 c0_i32_102
  let v258 : Index := Scalar.indexCast v257
  let c0_103 : Index := 0#32
  ![v258.toNat, 0]

def k0_chk26 (v256 : BitVec 32) : Prop :=
  (∀ a, (k0_off52 v256) a + S1x768.size a ≤ S4096x768.size a)
theorem k0_off52_inb : ∀ (v256 : BitVec 32) (k0_hw26 : k0_chk26 v256), ∀ a, (k0_off52 v256) a + S1x768.size a ≤ S4096x768.size a := fun v256 k0_hw26 => k0_hw26

def k0_off53 (i : grid0.Coords) : Fin 1 → Nat :=
  let arg0 : BitVec 32 := BitVec.ofNat 32 (i 0).val
  let c64_i32_105 : BitVec 32 := 64#32
  let v263 : BitVec 32 := Scalar.muli arg0 c64_i32_105
  let c26_i32 : BitVec 32 := 26#32
  let v264 : BitVec 32 := Scalar.addi v263 c26_i32
  let v265 : Index := Scalar.indexCast v264
  ![v265.toNat]
def k0_off54 (v266 : BitVec 32) : Fin 2 → Nat :=
  let c0_i32_106 : BitVec 32 := 0#32
  let v267 : BitVec 32 := Scalar.maxsi v266 c0_i32_106
  let v268 : Index := Scalar.indexCast v267
  let c0_107 : Index := 0#32
  ![v268.toNat, 0]

def k0_chk27 (v266 : BitVec 32) : Prop :=
  (∀ a, (k0_off54 v266) a + S1x768.size a ≤ S4096x768.size a)
theorem k0_off54_inb : ∀ (v266 : BitVec 32) (k0_hw27 : k0_chk27 v266), ∀ a, (k0_off54 v266) a + S1x768.size a ≤ S4096x768.size a := fun v266 k0_hw27 => k0_hw27

def k0_off55 (i : grid0.Coords) : Fin 1 → Nat :=
  let arg0 : BitVec 32 := BitVec.ofNat 32 (i 0).val
  let c64_i32_109 : BitVec 32 := 64#32
  let v273 : BitVec 32 := Scalar.muli arg0 c64_i32_109
  let c27_i32 : BitVec 32 := 27#32
  let v274 : BitVec 32 := Scalar.addi v273 c27_i32
  let v275 : Index := Scalar.indexCast v274
  ![v275.toNat]
def k0_off56 (v276 : BitVec 32) : Fin 2 → Nat :=
  let c0_i32_110 : BitVec 32 := 0#32
  let v277 : BitVec 32 := Scalar.maxsi v276 c0_i32_110
  let v278 : Index := Scalar.indexCast v277
  let c0_111 : Index := 0#32
  ![v278.toNat, 0]

def k0_chk28 (v276 : BitVec 32) : Prop :=
  (∀ a, (k0_off56 v276) a + S1x768.size a ≤ S4096x768.size a)
theorem k0_off56_inb : ∀ (v276 : BitVec 32) (k0_hw28 : k0_chk28 v276), ∀ a, (k0_off56 v276) a + S1x768.size a ≤ S4096x768.size a := fun v276 k0_hw28 => k0_hw28

def k0_off57 (i : grid0.Coords) : Fin 1 → Nat :=
  let arg0 : BitVec 32 := BitVec.ofNat 32 (i 0).val
  let c64_i32_113 : BitVec 32 := 64#32
  let v283 : BitVec 32 := Scalar.muli arg0 c64_i32_113
  let c28_i32 : BitVec 32 := 28#32
  let v284 : BitVec 32 := Scalar.addi v283 c28_i32
  let v285 : Index := Scalar.indexCast v284
  ![v285.toNat]
def k0_off58 (v286 : BitVec 32) : Fin 2 → Nat :=
  let c0_i32_114 : BitVec 32 := 0#32
  let v287 : BitVec 32 := Scalar.maxsi v286 c0_i32_114
  let v288 : Index := Scalar.indexCast v287
  let c0_115 : Index := 0#32
  ![v288.toNat, 0]

def k0_chk29 (v286 : BitVec 32) : Prop :=
  (∀ a, (k0_off58 v286) a + S1x768.size a ≤ S4096x768.size a)
theorem k0_off58_inb : ∀ (v286 : BitVec 32) (k0_hw29 : k0_chk29 v286), ∀ a, (k0_off58 v286) a + S1x768.size a ≤ S4096x768.size a := fun v286 k0_hw29 => k0_hw29

def k0_off59 (i : grid0.Coords) : Fin 1 → Nat :=
  let arg0 : BitVec 32 := BitVec.ofNat 32 (i 0).val
  let c64_i32_117 : BitVec 32 := 64#32
  let v293 : BitVec 32 := Scalar.muli arg0 c64_i32_117
  let c29_i32 : BitVec 32 := 29#32
  let v294 : BitVec 32 := Scalar.addi v293 c29_i32
  let v295 : Index := Scalar.indexCast v294
  ![v295.toNat]
def k0_off60 (v296 : BitVec 32) : Fin 2 → Nat :=
  let c0_i32_118 : BitVec 32 := 0#32
  let v297 : BitVec 32 := Scalar.maxsi v296 c0_i32_118
  let v298 : Index := Scalar.indexCast v297
  let c0_119 : Index := 0#32
  ![v298.toNat, 0]

def k0_chk30 (v296 : BitVec 32) : Prop :=
  (∀ a, (k0_off60 v296) a + S1x768.size a ≤ S4096x768.size a)
theorem k0_off60_inb : ∀ (v296 : BitVec 32) (k0_hw30 : k0_chk30 v296), ∀ a, (k0_off60 v296) a + S1x768.size a ≤ S4096x768.size a := fun v296 k0_hw30 => k0_hw30

def k0_off61 (i : grid0.Coords) : Fin 1 → Nat :=
  let arg0 : BitVec 32 := BitVec.ofNat 32 (i 0).val
  let c64_i32_121 : BitVec 32 := 64#32
  let v303 : BitVec 32 := Scalar.muli arg0 c64_i32_121
  let c30_i32 : BitVec 32 := 30#32
  let v304 : BitVec 32 := Scalar.addi v303 c30_i32
  let v305 : Index := Scalar.indexCast v304
  ![v305.toNat]
def k0_off62 (v306 : BitVec 32) : Fin 2 → Nat :=
  let c0_i32_122 : BitVec 32 := 0#32
  let v307 : BitVec 32 := Scalar.maxsi v306 c0_i32_122
  let v308 : Index := Scalar.indexCast v307
  let c0_123 : Index := 0#32
  ![v308.toNat, 0]

def k0_chk31 (v306 : BitVec 32) : Prop :=
  (∀ a, (k0_off62 v306) a + S1x768.size a ≤ S4096x768.size a)
theorem k0_off62_inb : ∀ (v306 : BitVec 32) (k0_hw31 : k0_chk31 v306), ∀ a, (k0_off62 v306) a + S1x768.size a ≤ S4096x768.size a := fun v306 k0_hw31 => k0_hw31

def k0_off63 (i : grid0.Coords) : Fin 1 → Nat :=
  let arg0 : BitVec 32 := BitVec.ofNat 32 (i 0).val
  let c64_i32_125 : BitVec 32 := 64#32
  let v313 : BitVec 32 := Scalar.muli arg0 c64_i32_125
  let c31_i32 : BitVec 32 := 31#32
  let v314 : BitVec 32 := Scalar.addi v313 c31_i32
  let v315 : Index := Scalar.indexCast v314
  ![v315.toNat]
def k0_off64 (v316 : BitVec 32) : Fin 2 → Nat :=
  let c0_i32_126 : BitVec 32 := 0#32
  let v317 : BitVec 32 := Scalar.maxsi v316 c0_i32_126
  let v318 : Index := Scalar.indexCast v317
  let c0_127 : Index := 0#32
  ![v318.toNat, 0]

def k0_chk32 (v316 : BitVec 32) : Prop :=
  (∀ a, (k0_off64 v316) a + S1x768.size a ≤ S4096x768.size a)
theorem k0_off64_inb : ∀ (v316 : BitVec 32) (k0_hw32 : k0_chk32 v316), ∀ a, (k0_off64 v316) a + S1x768.size a ≤ S4096x768.size a := fun v316 k0_hw32 => k0_hw32

def k0_off65 (i : grid0.Coords) : Fin 1 → Nat :=
  let arg0 : BitVec 32 := BitVec.ofNat 32 (i 0).val
  let c64_i32_129 : BitVec 32 := 64#32
  let v323 : BitVec 32 := Scalar.muli arg0 c64_i32_129
  let c32_i32 : BitVec 32 := 32#32
  let v324 : BitVec 32 := Scalar.addi v323 c32_i32
  let v325 : Index := Scalar.indexCast v324
  ![v325.toNat]
def k0_off66 (v326 : BitVec 32) : Fin 2 → Nat :=
  let c0_i32_130 : BitVec 32 := 0#32
  let v327 : BitVec 32 := Scalar.maxsi v326 c0_i32_130
  let v328 : Index := Scalar.indexCast v327
  let c0_131 : Index := 0#32
  ![v328.toNat, 0]

def k0_chk33 (v326 : BitVec 32) : Prop :=
  (∀ a, (k0_off66 v326) a + S1x768.size a ≤ S4096x768.size a)
theorem k0_off66_inb : ∀ (v326 : BitVec 32) (k0_hw33 : k0_chk33 v326), ∀ a, (k0_off66 v326) a + S1x768.size a ≤ S4096x768.size a := fun v326 k0_hw33 => k0_hw33

def k0_off67 (i : grid0.Coords) : Fin 1 → Nat :=
  let arg0 : BitVec 32 := BitVec.ofNat 32 (i 0).val
  let c64_i32_133 : BitVec 32 := 64#32
  let v333 : BitVec 32 := Scalar.muli arg0 c64_i32_133
  let c33_i32 : BitVec 32 := 33#32
  let v334 : BitVec 32 := Scalar.addi v333 c33_i32
  let v335 : Index := Scalar.indexCast v334
  ![v335.toNat]
def k0_off68 (v336 : BitVec 32) : Fin 2 → Nat :=
  let c0_i32_134 : BitVec 32 := 0#32
  let v337 : BitVec 32 := Scalar.maxsi v336 c0_i32_134
  let v338 : Index := Scalar.indexCast v337
  let c0_135 : Index := 0#32
  ![v338.toNat, 0]

def k0_chk34 (v336 : BitVec 32) : Prop :=
  (∀ a, (k0_off68 v336) a + S1x768.size a ≤ S4096x768.size a)
theorem k0_off68_inb : ∀ (v336 : BitVec 32) (k0_hw34 : k0_chk34 v336), ∀ a, (k0_off68 v336) a + S1x768.size a ≤ S4096x768.size a := fun v336 k0_hw34 => k0_hw34

def k0_off69 (i : grid0.Coords) : Fin 1 → Nat :=
  let arg0 : BitVec 32 := BitVec.ofNat 32 (i 0).val
  let c64_i32_137 : BitVec 32 := 64#32
  let v343 : BitVec 32 := Scalar.muli arg0 c64_i32_137
  let c34_i32 : BitVec 32 := 34#32
  let v344 : BitVec 32 := Scalar.addi v343 c34_i32
  let v345 : Index := Scalar.indexCast v344
  ![v345.toNat]
def k0_off70 (v346 : BitVec 32) : Fin 2 → Nat :=
  let c0_i32_138 : BitVec 32 := 0#32
  let v347 : BitVec 32 := Scalar.maxsi v346 c0_i32_138
  let v348 : Index := Scalar.indexCast v347
  let c0_139 : Index := 0#32
  ![v348.toNat, 0]

def k0_chk35 (v346 : BitVec 32) : Prop :=
  (∀ a, (k0_off70 v346) a + S1x768.size a ≤ S4096x768.size a)
theorem k0_off70_inb : ∀ (v346 : BitVec 32) (k0_hw35 : k0_chk35 v346), ∀ a, (k0_off70 v346) a + S1x768.size a ≤ S4096x768.size a := fun v346 k0_hw35 => k0_hw35

def k0_off71 (i : grid0.Coords) : Fin 1 → Nat :=
  let arg0 : BitVec 32 := BitVec.ofNat 32 (i 0).val
  let c64_i32_141 : BitVec 32 := 64#32
  let v353 : BitVec 32 := Scalar.muli arg0 c64_i32_141
  let c35_i32 : BitVec 32 := 35#32
  let v354 : BitVec 32 := Scalar.addi v353 c35_i32
  let v355 : Index := Scalar.indexCast v354
  ![v355.toNat]
def k0_off72 (v356 : BitVec 32) : Fin 2 → Nat :=
  let c0_i32_142 : BitVec 32 := 0#32
  let v357 : BitVec 32 := Scalar.maxsi v356 c0_i32_142
  let v358 : Index := Scalar.indexCast v357
  let c0_143 : Index := 0#32
  ![v358.toNat, 0]

def k0_chk36 (v356 : BitVec 32) : Prop :=
  (∀ a, (k0_off72 v356) a + S1x768.size a ≤ S4096x768.size a)
theorem k0_off72_inb : ∀ (v356 : BitVec 32) (k0_hw36 : k0_chk36 v356), ∀ a, (k0_off72 v356) a + S1x768.size a ≤ S4096x768.size a := fun v356 k0_hw36 => k0_hw36

def k0_off73 (i : grid0.Coords) : Fin 1 → Nat :=
  let arg0 : BitVec 32 := BitVec.ofNat 32 (i 0).val
  let c64_i32_145 : BitVec 32 := 64#32
  let v363 : BitVec 32 := Scalar.muli arg0 c64_i32_145
  let c36_i32 : BitVec 32 := 36#32
  let v364 : BitVec 32 := Scalar.addi v363 c36_i32
  let v365 : Index := Scalar.indexCast v364
  ![v365.toNat]
def k0_off74 (v366 : BitVec 32) : Fin 2 → Nat :=
  let c0_i32_146 : BitVec 32 := 0#32
  let v367 : BitVec 32 := Scalar.maxsi v366 c0_i32_146
  let v368 : Index := Scalar.indexCast v367
  let c0_147 : Index := 0#32
  ![v368.toNat, 0]

def k0_chk37 (v366 : BitVec 32) : Prop :=
  (∀ a, (k0_off74 v366) a + S1x768.size a ≤ S4096x768.size a)
theorem k0_off74_inb : ∀ (v366 : BitVec 32) (k0_hw37 : k0_chk37 v366), ∀ a, (k0_off74 v366) a + S1x768.size a ≤ S4096x768.size a := fun v366 k0_hw37 => k0_hw37

def k0_off75 (i : grid0.Coords) : Fin 1 → Nat :=
  let arg0 : BitVec 32 := BitVec.ofNat 32 (i 0).val
  let c64_i32_149 : BitVec 32 := 64#32
  let v373 : BitVec 32 := Scalar.muli arg0 c64_i32_149
  let c37_i32 : BitVec 32 := 37#32
  let v374 : BitVec 32 := Scalar.addi v373 c37_i32
  let v375 : Index := Scalar.indexCast v374
  ![v375.toNat]
def k0_off76 (v376 : BitVec 32) : Fin 2 → Nat :=
  let c0_i32_150 : BitVec 32 := 0#32
  let v377 : BitVec 32 := Scalar.maxsi v376 c0_i32_150
  let v378 : Index := Scalar.indexCast v377
  let c0_151 : Index := 0#32
  ![v378.toNat, 0]

def k0_chk38 (v376 : BitVec 32) : Prop :=
  (∀ a, (k0_off76 v376) a + S1x768.size a ≤ S4096x768.size a)
theorem k0_off76_inb : ∀ (v376 : BitVec 32) (k0_hw38 : k0_chk38 v376), ∀ a, (k0_off76 v376) a + S1x768.size a ≤ S4096x768.size a := fun v376 k0_hw38 => k0_hw38

def k0_off77 (i : grid0.Coords) : Fin 1 → Nat :=
  let arg0 : BitVec 32 := BitVec.ofNat 32 (i 0).val
  let c64_i32_153 : BitVec 32 := 64#32
  let v383 : BitVec 32 := Scalar.muli arg0 c64_i32_153
  let c38_i32 : BitVec 32 := 38#32
  let v384 : BitVec 32 := Scalar.addi v383 c38_i32
  let v385 : Index := Scalar.indexCast v384
  ![v385.toNat]
def k0_off78 (v386 : BitVec 32) : Fin 2 → Nat :=
  let c0_i32_154 : BitVec 32 := 0#32
  let v387 : BitVec 32 := Scalar.maxsi v386 c0_i32_154
  let v388 : Index := Scalar.indexCast v387
  let c0_155 : Index := 0#32
  ![v388.toNat, 0]

def k0_chk39 (v386 : BitVec 32) : Prop :=
  (∀ a, (k0_off78 v386) a + S1x768.size a ≤ S4096x768.size a)
theorem k0_off78_inb : ∀ (v386 : BitVec 32) (k0_hw39 : k0_chk39 v386), ∀ a, (k0_off78 v386) a + S1x768.size a ≤ S4096x768.size a := fun v386 k0_hw39 => k0_hw39

def k0_off79 (i : grid0.Coords) : Fin 1 → Nat :=
  let arg0 : BitVec 32 := BitVec.ofNat 32 (i 0).val
  let c64_i32_157 : BitVec 32 := 64#32
  let v393 : BitVec 32 := Scalar.muli arg0 c64_i32_157
  let c39_i32 : BitVec 32 := 39#32
  let v394 : BitVec 32 := Scalar.addi v393 c39_i32
  let v395 : Index := Scalar.indexCast v394
  ![v395.toNat]
def k0_off80 (v396 : BitVec 32) : Fin 2 → Nat :=
  let c0_i32_158 : BitVec 32 := 0#32
  let v397 : BitVec 32 := Scalar.maxsi v396 c0_i32_158
  let v398 : Index := Scalar.indexCast v397
  let c0_159 : Index := 0#32
  ![v398.toNat, 0]

def k0_chk40 (v396 : BitVec 32) : Prop :=
  (∀ a, (k0_off80 v396) a + S1x768.size a ≤ S4096x768.size a)
theorem k0_off80_inb : ∀ (v396 : BitVec 32) (k0_hw40 : k0_chk40 v396), ∀ a, (k0_off80 v396) a + S1x768.size a ≤ S4096x768.size a := fun v396 k0_hw40 => k0_hw40

def k0_off81 (i : grid0.Coords) : Fin 1 → Nat :=
  let arg0 : BitVec 32 := BitVec.ofNat 32 (i 0).val
  let c64_i32_161 : BitVec 32 := 64#32
  let v403 : BitVec 32 := Scalar.muli arg0 c64_i32_161
  let c40_i32 : BitVec 32 := 40#32
  let v404 : BitVec 32 := Scalar.addi v403 c40_i32
  let v405 : Index := Scalar.indexCast v404
  ![v405.toNat]
def k0_off82 (v406 : BitVec 32) : Fin 2 → Nat :=
  let c0_i32_162 : BitVec 32 := 0#32
  let v407 : BitVec 32 := Scalar.maxsi v406 c0_i32_162
  let v408 : Index := Scalar.indexCast v407
  let c0_163 : Index := 0#32
  ![v408.toNat, 0]

def k0_chk41 (v406 : BitVec 32) : Prop :=
  (∀ a, (k0_off82 v406) a + S1x768.size a ≤ S4096x768.size a)
theorem k0_off82_inb : ∀ (v406 : BitVec 32) (k0_hw41 : k0_chk41 v406), ∀ a, (k0_off82 v406) a + S1x768.size a ≤ S4096x768.size a := fun v406 k0_hw41 => k0_hw41

def k0_off83 (i : grid0.Coords) : Fin 1 → Nat :=
  let arg0 : BitVec 32 := BitVec.ofNat 32 (i 0).val
  let c64_i32_165 : BitVec 32 := 64#32
  let v413 : BitVec 32 := Scalar.muli arg0 c64_i32_165
  let c41_i32 : BitVec 32 := 41#32
  let v414 : BitVec 32 := Scalar.addi v413 c41_i32
  let v415 : Index := Scalar.indexCast v414
  ![v415.toNat]
def k0_off84 (v416 : BitVec 32) : Fin 2 → Nat :=
  let c0_i32_166 : BitVec 32 := 0#32
  let v417 : BitVec 32 := Scalar.maxsi v416 c0_i32_166
  let v418 : Index := Scalar.indexCast v417
  let c0_167 : Index := 0#32
  ![v418.toNat, 0]

def k0_chk42 (v416 : BitVec 32) : Prop :=
  (∀ a, (k0_off84 v416) a + S1x768.size a ≤ S4096x768.size a)
theorem k0_off84_inb : ∀ (v416 : BitVec 32) (k0_hw42 : k0_chk42 v416), ∀ a, (k0_off84 v416) a + S1x768.size a ≤ S4096x768.size a := fun v416 k0_hw42 => k0_hw42

def k0_off85 (i : grid0.Coords) : Fin 1 → Nat :=
  let arg0 : BitVec 32 := BitVec.ofNat 32 (i 0).val
  let c64_i32_169 : BitVec 32 := 64#32
  let v423 : BitVec 32 := Scalar.muli arg0 c64_i32_169
  let c42_i32 : BitVec 32 := 42#32
  let v424 : BitVec 32 := Scalar.addi v423 c42_i32
  let v425 : Index := Scalar.indexCast v424
  ![v425.toNat]
def k0_off86 (v426 : BitVec 32) : Fin 2 → Nat :=
  let c0_i32_170 : BitVec 32 := 0#32
  let v427 : BitVec 32 := Scalar.maxsi v426 c0_i32_170
  let v428 : Index := Scalar.indexCast v427
  let c0_171 : Index := 0#32
  ![v428.toNat, 0]

def k0_chk43 (v426 : BitVec 32) : Prop :=
  (∀ a, (k0_off86 v426) a + S1x768.size a ≤ S4096x768.size a)
theorem k0_off86_inb : ∀ (v426 : BitVec 32) (k0_hw43 : k0_chk43 v426), ∀ a, (k0_off86 v426) a + S1x768.size a ≤ S4096x768.size a := fun v426 k0_hw43 => k0_hw43

def k0_off87 (i : grid0.Coords) : Fin 1 → Nat :=
  let arg0 : BitVec 32 := BitVec.ofNat 32 (i 0).val
  let c64_i32_173 : BitVec 32 := 64#32
  let v433 : BitVec 32 := Scalar.muli arg0 c64_i32_173
  let c43_i32 : BitVec 32 := 43#32
  let v434 : BitVec 32 := Scalar.addi v433 c43_i32
  let v435 : Index := Scalar.indexCast v434
  ![v435.toNat]
def k0_off88 (v436 : BitVec 32) : Fin 2 → Nat :=
  let c0_i32_174 : BitVec 32 := 0#32
  let v437 : BitVec 32 := Scalar.maxsi v436 c0_i32_174
  let v438 : Index := Scalar.indexCast v437
  let c0_175 : Index := 0#32
  ![v438.toNat, 0]

def k0_chk44 (v436 : BitVec 32) : Prop :=
  (∀ a, (k0_off88 v436) a + S1x768.size a ≤ S4096x768.size a)
theorem k0_off88_inb : ∀ (v436 : BitVec 32) (k0_hw44 : k0_chk44 v436), ∀ a, (k0_off88 v436) a + S1x768.size a ≤ S4096x768.size a := fun v436 k0_hw44 => k0_hw44

def k0_off89 (i : grid0.Coords) : Fin 1 → Nat :=
  let arg0 : BitVec 32 := BitVec.ofNat 32 (i 0).val
  let c64_i32_177 : BitVec 32 := 64#32
  let v443 : BitVec 32 := Scalar.muli arg0 c64_i32_177
  let c44_i32 : BitVec 32 := 44#32
  let v444 : BitVec 32 := Scalar.addi v443 c44_i32
  let v445 : Index := Scalar.indexCast v444
  ![v445.toNat]
def k0_off90 (v446 : BitVec 32) : Fin 2 → Nat :=
  let c0_i32_178 : BitVec 32 := 0#32
  let v447 : BitVec 32 := Scalar.maxsi v446 c0_i32_178
  let v448 : Index := Scalar.indexCast v447
  let c0_179 : Index := 0#32
  ![v448.toNat, 0]

def k0_chk45 (v446 : BitVec 32) : Prop :=
  (∀ a, (k0_off90 v446) a + S1x768.size a ≤ S4096x768.size a)
theorem k0_off90_inb : ∀ (v446 : BitVec 32) (k0_hw45 : k0_chk45 v446), ∀ a, (k0_off90 v446) a + S1x768.size a ≤ S4096x768.size a := fun v446 k0_hw45 => k0_hw45

def k0_off91 (i : grid0.Coords) : Fin 1 → Nat :=
  let arg0 : BitVec 32 := BitVec.ofNat 32 (i 0).val
  let c64_i32_181 : BitVec 32 := 64#32
  let v453 : BitVec 32 := Scalar.muli arg0 c64_i32_181
  let c45_i32 : BitVec 32 := 45#32
  let v454 : BitVec 32 := Scalar.addi v453 c45_i32
  let v455 : Index := Scalar.indexCast v454
  ![v455.toNat]
def k0_off92 (v456 : BitVec 32) : Fin 2 → Nat :=
  let c0_i32_182 : BitVec 32 := 0#32
  let v457 : BitVec 32 := Scalar.maxsi v456 c0_i32_182
  let v458 : Index := Scalar.indexCast v457
  let c0_183 : Index := 0#32
  ![v458.toNat, 0]

def k0_chk46 (v456 : BitVec 32) : Prop :=
  (∀ a, (k0_off92 v456) a + S1x768.size a ≤ S4096x768.size a)
theorem k0_off92_inb : ∀ (v456 : BitVec 32) (k0_hw46 : k0_chk46 v456), ∀ a, (k0_off92 v456) a + S1x768.size a ≤ S4096x768.size a := fun v456 k0_hw46 => k0_hw46

def k0_off93 (i : grid0.Coords) : Fin 1 → Nat :=
  let arg0 : BitVec 32 := BitVec.ofNat 32 (i 0).val
  let c64_i32_185 : BitVec 32 := 64#32
  let v463 : BitVec 32 := Scalar.muli arg0 c64_i32_185
  let c46_i32 : BitVec 32 := 46#32
  let v464 : BitVec 32 := Scalar.addi v463 c46_i32
  let v465 : Index := Scalar.indexCast v464
  ![v465.toNat]
def k0_off94 (v466 : BitVec 32) : Fin 2 → Nat :=
  let c0_i32_186 : BitVec 32 := 0#32
  let v467 : BitVec 32 := Scalar.maxsi v466 c0_i32_186
  let v468 : Index := Scalar.indexCast v467
  let c0_187 : Index := 0#32
  ![v468.toNat, 0]

def k0_chk47 (v466 : BitVec 32) : Prop :=
  (∀ a, (k0_off94 v466) a + S1x768.size a ≤ S4096x768.size a)
theorem k0_off94_inb : ∀ (v466 : BitVec 32) (k0_hw47 : k0_chk47 v466), ∀ a, (k0_off94 v466) a + S1x768.size a ≤ S4096x768.size a := fun v466 k0_hw47 => k0_hw47

def k0_off95 (i : grid0.Coords) : Fin 1 → Nat :=
  let arg0 : BitVec 32 := BitVec.ofNat 32 (i 0).val
  let c64_i32_189 : BitVec 32 := 64#32
  let v473 : BitVec 32 := Scalar.muli arg0 c64_i32_189
  let c47_i32 : BitVec 32 := 47#32
  let v474 : BitVec 32 := Scalar.addi v473 c47_i32
  let v475 : Index := Scalar.indexCast v474
  ![v475.toNat]
def k0_off96 (v476 : BitVec 32) : Fin 2 → Nat :=
  let c0_i32_190 : BitVec 32 := 0#32
  let v477 : BitVec 32 := Scalar.maxsi v476 c0_i32_190
  let v478 : Index := Scalar.indexCast v477
  let c0_191 : Index := 0#32
  ![v478.toNat, 0]

def k0_chk48 (v476 : BitVec 32) : Prop :=
  (∀ a, (k0_off96 v476) a + S1x768.size a ≤ S4096x768.size a)
theorem k0_off96_inb : ∀ (v476 : BitVec 32) (k0_hw48 : k0_chk48 v476), ∀ a, (k0_off96 v476) a + S1x768.size a ≤ S4096x768.size a := fun v476 k0_hw48 => k0_hw48

def k0_off97 (i : grid0.Coords) : Fin 1 → Nat :=
  let arg0 : BitVec 32 := BitVec.ofNat 32 (i 0).val
  let c64_i32_193 : BitVec 32 := 64#32
  let v483 : BitVec 32 := Scalar.muli arg0 c64_i32_193
  let c48_i32 : BitVec 32 := 48#32
  let v484 : BitVec 32 := Scalar.addi v483 c48_i32
  let v485 : Index := Scalar.indexCast v484
  ![v485.toNat]
def k0_off98 (v486 : BitVec 32) : Fin 2 → Nat :=
  let c0_i32_194 : BitVec 32 := 0#32
  let v487 : BitVec 32 := Scalar.maxsi v486 c0_i32_194
  let v488 : Index := Scalar.indexCast v487
  let c0_195 : Index := 0#32
  ![v488.toNat, 0]

def k0_chk49 (v486 : BitVec 32) : Prop :=
  (∀ a, (k0_off98 v486) a + S1x768.size a ≤ S4096x768.size a)
theorem k0_off98_inb : ∀ (v486 : BitVec 32) (k0_hw49 : k0_chk49 v486), ∀ a, (k0_off98 v486) a + S1x768.size a ≤ S4096x768.size a := fun v486 k0_hw49 => k0_hw49

def k0_off99 (i : grid0.Coords) : Fin 1 → Nat :=
  let arg0 : BitVec 32 := BitVec.ofNat 32 (i 0).val
  let c64_i32_197 : BitVec 32 := 64#32
  let v493 : BitVec 32 := Scalar.muli arg0 c64_i32_197
  let c49_i32 : BitVec 32 := 49#32
  let v494 : BitVec 32 := Scalar.addi v493 c49_i32
  let v495 : Index := Scalar.indexCast v494
  ![v495.toNat]
def k0_off100 (v496 : BitVec 32) : Fin 2 → Nat :=
  let c0_i32_198 : BitVec 32 := 0#32
  let v497 : BitVec 32 := Scalar.maxsi v496 c0_i32_198
  let v498 : Index := Scalar.indexCast v497
  let c0_199 : Index := 0#32
  ![v498.toNat, 0]

def k0_chk50 (v496 : BitVec 32) : Prop :=
  (∀ a, (k0_off100 v496) a + S1x768.size a ≤ S4096x768.size a)
theorem k0_off100_inb : ∀ (v496 : BitVec 32) (k0_hw50 : k0_chk50 v496), ∀ a, (k0_off100 v496) a + S1x768.size a ≤ S4096x768.size a := fun v496 k0_hw50 => k0_hw50

def k0_off101 (i : grid0.Coords) : Fin 1 → Nat :=
  let arg0 : BitVec 32 := BitVec.ofNat 32 (i 0).val
  let c64_i32_201 : BitVec 32 := 64#32
  let v503 : BitVec 32 := Scalar.muli arg0 c64_i32_201
  let c50_i32 : BitVec 32 := 50#32
  let v504 : BitVec 32 := Scalar.addi v503 c50_i32
  let v505 : Index := Scalar.indexCast v504
  ![v505.toNat]
def k0_off102 (v506 : BitVec 32) : Fin 2 → Nat :=
  let c0_i32_202 : BitVec 32 := 0#32
  let v507 : BitVec 32 := Scalar.maxsi v506 c0_i32_202
  let v508 : Index := Scalar.indexCast v507
  let c0_203 : Index := 0#32
  ![v508.toNat, 0]

def k0_chk51 (v506 : BitVec 32) : Prop :=
  (∀ a, (k0_off102 v506) a + S1x768.size a ≤ S4096x768.size a)
theorem k0_off102_inb : ∀ (v506 : BitVec 32) (k0_hw51 : k0_chk51 v506), ∀ a, (k0_off102 v506) a + S1x768.size a ≤ S4096x768.size a := fun v506 k0_hw51 => k0_hw51

def k0_off103 (i : grid0.Coords) : Fin 1 → Nat :=
  let arg0 : BitVec 32 := BitVec.ofNat 32 (i 0).val
  let c64_i32_205 : BitVec 32 := 64#32
  let v513 : BitVec 32 := Scalar.muli arg0 c64_i32_205
  let c51_i32 : BitVec 32 := 51#32
  let v514 : BitVec 32 := Scalar.addi v513 c51_i32
  let v515 : Index := Scalar.indexCast v514
  ![v515.toNat]
def k0_off104 (v516 : BitVec 32) : Fin 2 → Nat :=
  let c0_i32_206 : BitVec 32 := 0#32
  let v517 : BitVec 32 := Scalar.maxsi v516 c0_i32_206
  let v518 : Index := Scalar.indexCast v517
  let c0_207 : Index := 0#32
  ![v518.toNat, 0]

def k0_chk52 (v516 : BitVec 32) : Prop :=
  (∀ a, (k0_off104 v516) a + S1x768.size a ≤ S4096x768.size a)
theorem k0_off104_inb : ∀ (v516 : BitVec 32) (k0_hw52 : k0_chk52 v516), ∀ a, (k0_off104 v516) a + S1x768.size a ≤ S4096x768.size a := fun v516 k0_hw52 => k0_hw52

def k0_off105 (i : grid0.Coords) : Fin 1 → Nat :=
  let arg0 : BitVec 32 := BitVec.ofNat 32 (i 0).val
  let c64_i32_209 : BitVec 32 := 64#32
  let v523 : BitVec 32 := Scalar.muli arg0 c64_i32_209
  let c52_i32 : BitVec 32 := 52#32
  let v524 : BitVec 32 := Scalar.addi v523 c52_i32
  let v525 : Index := Scalar.indexCast v524
  ![v525.toNat]
def k0_off106 (v526 : BitVec 32) : Fin 2 → Nat :=
  let c0_i32_210 : BitVec 32 := 0#32
  let v527 : BitVec 32 := Scalar.maxsi v526 c0_i32_210
  let v528 : Index := Scalar.indexCast v527
  let c0_211 : Index := 0#32
  ![v528.toNat, 0]

def k0_chk53 (v526 : BitVec 32) : Prop :=
  (∀ a, (k0_off106 v526) a + S1x768.size a ≤ S4096x768.size a)
theorem k0_off106_inb : ∀ (v526 : BitVec 32) (k0_hw53 : k0_chk53 v526), ∀ a, (k0_off106 v526) a + S1x768.size a ≤ S4096x768.size a := fun v526 k0_hw53 => k0_hw53

def k0_off107 (i : grid0.Coords) : Fin 1 → Nat :=
  let arg0 : BitVec 32 := BitVec.ofNat 32 (i 0).val
  let c64_i32_213 : BitVec 32 := 64#32
  let v533 : BitVec 32 := Scalar.muli arg0 c64_i32_213
  let c53_i32 : BitVec 32 := 53#32
  let v534 : BitVec 32 := Scalar.addi v533 c53_i32
  let v535 : Index := Scalar.indexCast v534
  ![v535.toNat]
def k0_off108 (v536 : BitVec 32) : Fin 2 → Nat :=
  let c0_i32_214 : BitVec 32 := 0#32
  let v537 : BitVec 32 := Scalar.maxsi v536 c0_i32_214
  let v538 : Index := Scalar.indexCast v537
  let c0_215 : Index := 0#32
  ![v538.toNat, 0]

def k0_chk54 (v536 : BitVec 32) : Prop :=
  (∀ a, (k0_off108 v536) a + S1x768.size a ≤ S4096x768.size a)
theorem k0_off108_inb : ∀ (v536 : BitVec 32) (k0_hw54 : k0_chk54 v536), ∀ a, (k0_off108 v536) a + S1x768.size a ≤ S4096x768.size a := fun v536 k0_hw54 => k0_hw54

def k0_off109 (i : grid0.Coords) : Fin 1 → Nat :=
  let arg0 : BitVec 32 := BitVec.ofNat 32 (i 0).val
  let c64_i32_217 : BitVec 32 := 64#32
  let v543 : BitVec 32 := Scalar.muli arg0 c64_i32_217
  let c54_i32 : BitVec 32 := 54#32
  let v544 : BitVec 32 := Scalar.addi v543 c54_i32
  let v545 : Index := Scalar.indexCast v544
  ![v545.toNat]
def k0_off110 (v546 : BitVec 32) : Fin 2 → Nat :=
  let c0_i32_218 : BitVec 32 := 0#32
  let v547 : BitVec 32 := Scalar.maxsi v546 c0_i32_218
  let v548 : Index := Scalar.indexCast v547
  let c0_219 : Index := 0#32
  ![v548.toNat, 0]

def k0_chk55 (v546 : BitVec 32) : Prop :=
  (∀ a, (k0_off110 v546) a + S1x768.size a ≤ S4096x768.size a)
theorem k0_off110_inb : ∀ (v546 : BitVec 32) (k0_hw55 : k0_chk55 v546), ∀ a, (k0_off110 v546) a + S1x768.size a ≤ S4096x768.size a := fun v546 k0_hw55 => k0_hw55

def k0_off111 (i : grid0.Coords) : Fin 1 → Nat :=
  let arg0 : BitVec 32 := BitVec.ofNat 32 (i 0).val
  let c64_i32_221 : BitVec 32 := 64#32
  let v553 : BitVec 32 := Scalar.muli arg0 c64_i32_221
  let c55_i32 : BitVec 32 := 55#32
  let v554 : BitVec 32 := Scalar.addi v553 c55_i32
  let v555 : Index := Scalar.indexCast v554
  ![v555.toNat]
def k0_off112 (v556 : BitVec 32) : Fin 2 → Nat :=
  let c0_i32_222 : BitVec 32 := 0#32
  let v557 : BitVec 32 := Scalar.maxsi v556 c0_i32_222
  let v558 : Index := Scalar.indexCast v557
  let c0_223 : Index := 0#32
  ![v558.toNat, 0]

def k0_chk56 (v556 : BitVec 32) : Prop :=
  (∀ a, (k0_off112 v556) a + S1x768.size a ≤ S4096x768.size a)
theorem k0_off112_inb : ∀ (v556 : BitVec 32) (k0_hw56 : k0_chk56 v556), ∀ a, (k0_off112 v556) a + S1x768.size a ≤ S4096x768.size a := fun v556 k0_hw56 => k0_hw56

def k0_off113 (i : grid0.Coords) : Fin 1 → Nat :=
  let arg0 : BitVec 32 := BitVec.ofNat 32 (i 0).val
  let c64_i32_225 : BitVec 32 := 64#32
  let v563 : BitVec 32 := Scalar.muli arg0 c64_i32_225
  let c56_i32 : BitVec 32 := 56#32
  let v564 : BitVec 32 := Scalar.addi v563 c56_i32
  let v565 : Index := Scalar.indexCast v564
  ![v565.toNat]
def k0_off114 (v566 : BitVec 32) : Fin 2 → Nat :=
  let c0_i32_226 : BitVec 32 := 0#32
  let v567 : BitVec 32 := Scalar.maxsi v566 c0_i32_226
  let v568 : Index := Scalar.indexCast v567
  let c0_227 : Index := 0#32
  ![v568.toNat, 0]

def k0_chk57 (v566 : BitVec 32) : Prop :=
  (∀ a, (k0_off114 v566) a + S1x768.size a ≤ S4096x768.size a)
theorem k0_off114_inb : ∀ (v566 : BitVec 32) (k0_hw57 : k0_chk57 v566), ∀ a, (k0_off114 v566) a + S1x768.size a ≤ S4096x768.size a := fun v566 k0_hw57 => k0_hw57

def k0_off115 (i : grid0.Coords) : Fin 1 → Nat :=
  let arg0 : BitVec 32 := BitVec.ofNat 32 (i 0).val
  let c64_i32_229 : BitVec 32 := 64#32
  let v573 : BitVec 32 := Scalar.muli arg0 c64_i32_229
  let c57_i32 : BitVec 32 := 57#32
  let v574 : BitVec 32 := Scalar.addi v573 c57_i32
  let v575 : Index := Scalar.indexCast v574
  ![v575.toNat]
def k0_off116 (v576 : BitVec 32) : Fin 2 → Nat :=
  let c0_i32_230 : BitVec 32 := 0#32
  let v577 : BitVec 32 := Scalar.maxsi v576 c0_i32_230
  let v578 : Index := Scalar.indexCast v577
  let c0_231 : Index := 0#32
  ![v578.toNat, 0]

def k0_chk58 (v576 : BitVec 32) : Prop :=
  (∀ a, (k0_off116 v576) a + S1x768.size a ≤ S4096x768.size a)
theorem k0_off116_inb : ∀ (v576 : BitVec 32) (k0_hw58 : k0_chk58 v576), ∀ a, (k0_off116 v576) a + S1x768.size a ≤ S4096x768.size a := fun v576 k0_hw58 => k0_hw58

def k0_off117 (i : grid0.Coords) : Fin 1 → Nat :=
  let arg0 : BitVec 32 := BitVec.ofNat 32 (i 0).val
  let c64_i32_233 : BitVec 32 := 64#32
  let v583 : BitVec 32 := Scalar.muli arg0 c64_i32_233
  let c58_i32 : BitVec 32 := 58#32
  let v584 : BitVec 32 := Scalar.addi v583 c58_i32
  let v585 : Index := Scalar.indexCast v584
  ![v585.toNat]
def k0_off118 (v586 : BitVec 32) : Fin 2 → Nat :=
  let c0_i32_234 : BitVec 32 := 0#32
  let v587 : BitVec 32 := Scalar.maxsi v586 c0_i32_234
  let v588 : Index := Scalar.indexCast v587
  let c0_235 : Index := 0#32
  ![v588.toNat, 0]

def k0_chk59 (v586 : BitVec 32) : Prop :=
  (∀ a, (k0_off118 v586) a + S1x768.size a ≤ S4096x768.size a)
theorem k0_off118_inb : ∀ (v586 : BitVec 32) (k0_hw59 : k0_chk59 v586), ∀ a, (k0_off118 v586) a + S1x768.size a ≤ S4096x768.size a := fun v586 k0_hw59 => k0_hw59

def k0_off119 (i : grid0.Coords) : Fin 1 → Nat :=
  let arg0 : BitVec 32 := BitVec.ofNat 32 (i 0).val
  let c64_i32_237 : BitVec 32 := 64#32
  let v593 : BitVec 32 := Scalar.muli arg0 c64_i32_237
  let c59_i32 : BitVec 32 := 59#32
  let v594 : BitVec 32 := Scalar.addi v593 c59_i32
  let v595 : Index := Scalar.indexCast v594
  ![v595.toNat]
def k0_off120 (v596 : BitVec 32) : Fin 2 → Nat :=
  let c0_i32_238 : BitVec 32 := 0#32
  let v597 : BitVec 32 := Scalar.maxsi v596 c0_i32_238
  let v598 : Index := Scalar.indexCast v597
  let c0_239 : Index := 0#32
  ![v598.toNat, 0]

def k0_chk60 (v596 : BitVec 32) : Prop :=
  (∀ a, (k0_off120 v596) a + S1x768.size a ≤ S4096x768.size a)
theorem k0_off120_inb : ∀ (v596 : BitVec 32) (k0_hw60 : k0_chk60 v596), ∀ a, (k0_off120 v596) a + S1x768.size a ≤ S4096x768.size a := fun v596 k0_hw60 => k0_hw60

def k0_off121 (i : grid0.Coords) : Fin 1 → Nat :=
  let arg0 : BitVec 32 := BitVec.ofNat 32 (i 0).val
  let c64_i32_241 : BitVec 32 := 64#32
  let v603 : BitVec 32 := Scalar.muli arg0 c64_i32_241
  let c60_i32 : BitVec 32 := 60#32
  let v604 : BitVec 32 := Scalar.addi v603 c60_i32
  let v605 : Index := Scalar.indexCast v604
  ![v605.toNat]
def k0_off122 (v606 : BitVec 32) : Fin 2 → Nat :=
  let c0_i32_242 : BitVec 32 := 0#32
  let v607 : BitVec 32 := Scalar.maxsi v606 c0_i32_242
  let v608 : Index := Scalar.indexCast v607
  let c0_243 : Index := 0#32
  ![v608.toNat, 0]

def k0_chk61 (v606 : BitVec 32) : Prop :=
  (∀ a, (k0_off122 v606) a + S1x768.size a ≤ S4096x768.size a)
theorem k0_off122_inb : ∀ (v606 : BitVec 32) (k0_hw61 : k0_chk61 v606), ∀ a, (k0_off122 v606) a + S1x768.size a ≤ S4096x768.size a := fun v606 k0_hw61 => k0_hw61

def k0_off123 (i : grid0.Coords) : Fin 1 → Nat :=
  let arg0 : BitVec 32 := BitVec.ofNat 32 (i 0).val
  let c64_i32_245 : BitVec 32 := 64#32
  let v613 : BitVec 32 := Scalar.muli arg0 c64_i32_245
  let c61_i32 : BitVec 32 := 61#32
  let v614 : BitVec 32 := Scalar.addi v613 c61_i32
  let v615 : Index := Scalar.indexCast v614
  ![v615.toNat]
def k0_off124 (v616 : BitVec 32) : Fin 2 → Nat :=
  let c0_i32_246 : BitVec 32 := 0#32
  let v617 : BitVec 32 := Scalar.maxsi v616 c0_i32_246
  let v618 : Index := Scalar.indexCast v617
  let c0_247 : Index := 0#32
  ![v618.toNat, 0]

def k0_chk62 (v616 : BitVec 32) : Prop :=
  (∀ a, (k0_off124 v616) a + S1x768.size a ≤ S4096x768.size a)
theorem k0_off124_inb : ∀ (v616 : BitVec 32) (k0_hw62 : k0_chk62 v616), ∀ a, (k0_off124 v616) a + S1x768.size a ≤ S4096x768.size a := fun v616 k0_hw62 => k0_hw62

def k0_off125 (i : grid0.Coords) : Fin 1 → Nat :=
  let arg0 : BitVec 32 := BitVec.ofNat 32 (i 0).val
  let c64_i32_249 : BitVec 32 := 64#32
  let v623 : BitVec 32 := Scalar.muli arg0 c64_i32_249
  let c62_i32 : BitVec 32 := 62#32
  let v624 : BitVec 32 := Scalar.addi v623 c62_i32
  let v625 : Index := Scalar.indexCast v624
  ![v625.toNat]
def k0_off126 (v626 : BitVec 32) : Fin 2 → Nat :=
  let c0_i32_250 : BitVec 32 := 0#32
  let v627 : BitVec 32 := Scalar.maxsi v626 c0_i32_250
  let v628 : Index := Scalar.indexCast v627
  let c0_251 : Index := 0#32
  ![v628.toNat, 0]

def k0_chk63 (v626 : BitVec 32) : Prop :=
  (∀ a, (k0_off126 v626) a + S1x768.size a ≤ S4096x768.size a)
theorem k0_off126_inb : ∀ (v626 : BitVec 32) (k0_hw63 : k0_chk63 v626), ∀ a, (k0_off126 v626) a + S1x768.size a ≤ S4096x768.size a := fun v626 k0_hw63 => k0_hw63

def k0_off127 (i : grid0.Coords) : Fin 1 → Nat :=
  let arg0 : BitVec 32 := BitVec.ofNat 32 (i 0).val
  let c64_i32_253 : BitVec 32 := 64#32
  let v633 : BitVec 32 := Scalar.muli arg0 c64_i32_253
  let c63_i32 : BitVec 32 := 63#32
  let v634 : BitVec 32 := Scalar.addi v633 c63_i32
  let v635 : Index := Scalar.indexCast v634
  ![v635.toNat]
def k0_off128 (v636 : BitVec 32) : Fin 2 → Nat :=
  let c0_i32_254 : BitVec 32 := 0#32
  let v637 : BitVec 32 := Scalar.maxsi v636 c0_i32_254
  let v638 : Index := Scalar.indexCast v637
  let c0_255 : Index := 0#32
  ![v638.toNat, 0]

def k0_chk64 (v636 : BitVec 32) : Prop :=
  (∀ a, (k0_off128 v636) a + S1x768.size a ≤ S4096x768.size a)
theorem k0_off128_inb : ∀ (v636 : BitVec 32) (k0_hw64 : k0_chk64 v636), ∀ a, (k0_off128 v636) a + S1x768.size a ≤ S4096x768.size a := fun v636 k0_hw64 => k0_hw64

def k0_off129 (i : grid0.Coords) : Fin 1 → Nat :=
  let arg0 : BitVec 32 := BitVec.ofNat 32 (i 0).val
  let c64_i32_282 : BitVec 32 := 64#32
  let v675 : BitVec 32 := Scalar.muli arg0 c64_i32_282
  let c0_i32_283 : BitVec 32 := 0#32
  let v676 : BitVec 32 := Scalar.addi v675 c0_i32_283
  let v677 : Index := Scalar.indexCast v676
  ![v677.toNat]
def k0_off130 (v678 : BitVec 32) : Fin 2 → Nat :=
  let v1187 : Index := Scalar.indexCast v678
  let c0_538 : Index := 0#32
  ![v1187.toNat, 0]
def k0_cond2 (v678 : BitVec 32) : BitVec 1 :=
  let c0_i32_284 : BitVec 32 := 0#32
  let v680 : BitVec 1 := Scalar.cmpi .sge v678 c0_i32_284
  let v681 : BitVec 32 := Scalar.extui v680
  let c0_i32_285 : BitVec 32 := 0#32
  let v682 : BitVec 1 := Scalar.cmpi .ne v681 c0_i32_285
  v682

def k0_chk65 (v678 : BitVec 32) : Prop :=
  (∀ (k0_h2 : k0_cond2 v678 = 1#1), ∀ a, (k0_off130 v678) a + S1x768.size a ≤ S4096x768.size a)
theorem k0_off130_inb : ∀ (v678 : BitVec 32) (k0_hw65 : k0_chk65 v678), ∀ (k0_h2 : k0_cond2 v678 = 1#1), ∀ a, (k0_off130 v678) a + S1x768.size a ≤ S4096x768.size a := fun v678 k0_hw65 k0_h2 => k0_hw65 k0_h2

def k0_off131 (i : grid0.Coords) : Fin 1 → Nat :=
  let arg0 : BitVec 32 := BitVec.ofNat 32 (i 0).val
  let c64_i32_286 : BitVec 32 := 64#32
  let v683 : BitVec 32 := Scalar.muli arg0 c64_i32_286
  let c1_i32_287 : BitVec 32 := 1#32
  let v684 : BitVec 32 := Scalar.addi v683 c1_i32_287
  let v685 : Index := Scalar.indexCast v684
  ![v685.toNat]
def k0_off132 (v686 : BitVec 32) : Fin 2 → Nat :=
  let v1187 : Index := Scalar.indexCast v686
  let c0_538 : Index := 0#32
  ![v1187.toNat, 0]
def k0_cond3 (v686 : BitVec 32) : BitVec 1 :=
  let c0_i32_288 : BitVec 32 := 0#32
  let v688 : BitVec 1 := Scalar.cmpi .sge v686 c0_i32_288
  let v689 : BitVec 32 := Scalar.extui v688
  let c0_i32_289 : BitVec 32 := 0#32
  let v690 : BitVec 1 := Scalar.cmpi .ne v689 c0_i32_289
  v690

def k0_chk66 (v686 : BitVec 32) : Prop :=
  (∀ (k0_h3 : k0_cond3 v686 = 1#1), ∀ a, (k0_off132 v686) a + S1x768.size a ≤ S4096x768.size a)
theorem k0_off132_inb : ∀ (v686 : BitVec 32) (k0_hw66 : k0_chk66 v686), ∀ (k0_h3 : k0_cond3 v686 = 1#1), ∀ a, (k0_off132 v686) a + S1x768.size a ≤ S4096x768.size a := fun v686 k0_hw66 k0_h3 => k0_hw66 k0_h3

def k0_off133 (i : grid0.Coords) : Fin 1 → Nat :=
  let arg0 : BitVec 32 := BitVec.ofNat 32 (i 0).val
  let c64_i32_290 : BitVec 32 := 64#32
  let v691 : BitVec 32 := Scalar.muli arg0 c64_i32_290
  let c2_i32_291 : BitVec 32 := 2#32
  let v692 : BitVec 32 := Scalar.addi v691 c2_i32_291
  let v693 : Index := Scalar.indexCast v692
  ![v693.toNat]
def k0_off134 (v694 : BitVec 32) : Fin 2 → Nat :=
  let v1187 : Index := Scalar.indexCast v694
  let c0_538 : Index := 0#32
  ![v1187.toNat, 0]
def k0_cond4 (v694 : BitVec 32) : BitVec 1 :=
  let c0_i32_292 : BitVec 32 := 0#32
  let v696 : BitVec 1 := Scalar.cmpi .sge v694 c0_i32_292
  let v697 : BitVec 32 := Scalar.extui v696
  let c0_i32_293 : BitVec 32 := 0#32
  let v698 : BitVec 1 := Scalar.cmpi .ne v697 c0_i32_293
  v698

def k0_chk67 (v694 : BitVec 32) : Prop :=
  (∀ (k0_h4 : k0_cond4 v694 = 1#1), ∀ a, (k0_off134 v694) a + S1x768.size a ≤ S4096x768.size a)
theorem k0_off134_inb : ∀ (v694 : BitVec 32) (k0_hw67 : k0_chk67 v694), ∀ (k0_h4 : k0_cond4 v694 = 1#1), ∀ a, (k0_off134 v694) a + S1x768.size a ≤ S4096x768.size a := fun v694 k0_hw67 k0_h4 => k0_hw67 k0_h4

def k0_off135 (i : grid0.Coords) : Fin 1 → Nat :=
  let arg0 : BitVec 32 := BitVec.ofNat 32 (i 0).val
  let c64_i32_294 : BitVec 32 := 64#32
  let v699 : BitVec 32 := Scalar.muli arg0 c64_i32_294
  let c3_i32_295 : BitVec 32 := 3#32
  let v700 : BitVec 32 := Scalar.addi v699 c3_i32_295
  let v701 : Index := Scalar.indexCast v700
  ![v701.toNat]
def k0_off136 (v702 : BitVec 32) : Fin 2 → Nat :=
  let v1187 : Index := Scalar.indexCast v702
  let c0_538 : Index := 0#32
  ![v1187.toNat, 0]
def k0_cond5 (v702 : BitVec 32) : BitVec 1 :=
  let c0_i32_296 : BitVec 32 := 0#32
  let v704 : BitVec 1 := Scalar.cmpi .sge v702 c0_i32_296
  let v705 : BitVec 32 := Scalar.extui v704
  let c0_i32_297 : BitVec 32 := 0#32
  let v706 : BitVec 1 := Scalar.cmpi .ne v705 c0_i32_297
  v706

def k0_chk68 (v702 : BitVec 32) : Prop :=
  (∀ (k0_h5 : k0_cond5 v702 = 1#1), ∀ a, (k0_off136 v702) a + S1x768.size a ≤ S4096x768.size a)
theorem k0_off136_inb : ∀ (v702 : BitVec 32) (k0_hw68 : k0_chk68 v702), ∀ (k0_h5 : k0_cond5 v702 = 1#1), ∀ a, (k0_off136 v702) a + S1x768.size a ≤ S4096x768.size a := fun v702 k0_hw68 k0_h5 => k0_hw68 k0_h5

def k0_off137 (i : grid0.Coords) : Fin 1 → Nat :=
  let arg0 : BitVec 32 := BitVec.ofNat 32 (i 0).val
  let c64_i32_298 : BitVec 32 := 64#32
  let v707 : BitVec 32 := Scalar.muli arg0 c64_i32_298
  let c4_i32_299 : BitVec 32 := 4#32
  let v708 : BitVec 32 := Scalar.addi v707 c4_i32_299
  let v709 : Index := Scalar.indexCast v708
  ![v709.toNat]
def k0_off138 (v710 : BitVec 32) : Fin 2 → Nat :=
  let v1187 : Index := Scalar.indexCast v710
  let c0_538 : Index := 0#32
  ![v1187.toNat, 0]
def k0_cond6 (v710 : BitVec 32) : BitVec 1 :=
  let c0_i32_300 : BitVec 32 := 0#32
  let v712 : BitVec 1 := Scalar.cmpi .sge v710 c0_i32_300
  let v713 : BitVec 32 := Scalar.extui v712
  let c0_i32_301 : BitVec 32 := 0#32
  let v714 : BitVec 1 := Scalar.cmpi .ne v713 c0_i32_301
  v714

def k0_chk69 (v710 : BitVec 32) : Prop :=
  (∀ (k0_h6 : k0_cond6 v710 = 1#1), ∀ a, (k0_off138 v710) a + S1x768.size a ≤ S4096x768.size a)
theorem k0_off138_inb : ∀ (v710 : BitVec 32) (k0_hw69 : k0_chk69 v710), ∀ (k0_h6 : k0_cond6 v710 = 1#1), ∀ a, (k0_off138 v710) a + S1x768.size a ≤ S4096x768.size a := fun v710 k0_hw69 k0_h6 => k0_hw69 k0_h6

def k0_off139 (i : grid0.Coords) : Fin 1 → Nat :=
  let arg0 : BitVec 32 := BitVec.ofNat 32 (i 0).val
  let c64_i32_302 : BitVec 32 := 64#32
  let v715 : BitVec 32 := Scalar.muli arg0 c64_i32_302
  let c5_i32_303 : BitVec 32 := 5#32
  let v716 : BitVec 32 := Scalar.addi v715 c5_i32_303
  let v717 : Index := Scalar.indexCast v716
  ![v717.toNat]
def k0_off140 (v718 : BitVec 32) : Fin 2 → Nat :=
  let v1187 : Index := Scalar.indexCast v718
  let c0_538 : Index := 0#32
  ![v1187.toNat, 0]
def k0_cond7 (v718 : BitVec 32) : BitVec 1 :=
  let c0_i32_304 : BitVec 32 := 0#32
  let v720 : BitVec 1 := Scalar.cmpi .sge v718 c0_i32_304
  let v721 : BitVec 32 := Scalar.extui v720
  let c0_i32_305 : BitVec 32 := 0#32
  let v722 : BitVec 1 := Scalar.cmpi .ne v721 c0_i32_305
  v722

def k0_chk70 (v718 : BitVec 32) : Prop :=
  (∀ (k0_h7 : k0_cond7 v718 = 1#1), ∀ a, (k0_off140 v718) a + S1x768.size a ≤ S4096x768.size a)
theorem k0_off140_inb : ∀ (v718 : BitVec 32) (k0_hw70 : k0_chk70 v718), ∀ (k0_h7 : k0_cond7 v718 = 1#1), ∀ a, (k0_off140 v718) a + S1x768.size a ≤ S4096x768.size a := fun v718 k0_hw70 k0_h7 => k0_hw70 k0_h7

def k0_off141 (i : grid0.Coords) : Fin 1 → Nat :=
  let arg0 : BitVec 32 := BitVec.ofNat 32 (i 0).val
  let c64_i32_306 : BitVec 32 := 64#32
  let v723 : BitVec 32 := Scalar.muli arg0 c64_i32_306
  let c6_i32_307 : BitVec 32 := 6#32
  let v724 : BitVec 32 := Scalar.addi v723 c6_i32_307
  let v725 : Index := Scalar.indexCast v724
  ![v725.toNat]
def k0_off142 (v726 : BitVec 32) : Fin 2 → Nat :=
  let v1187 : Index := Scalar.indexCast v726
  let c0_538 : Index := 0#32
  ![v1187.toNat, 0]
def k0_cond8 (v726 : BitVec 32) : BitVec 1 :=
  let c0_i32_308 : BitVec 32 := 0#32
  let v728 : BitVec 1 := Scalar.cmpi .sge v726 c0_i32_308
  let v729 : BitVec 32 := Scalar.extui v728
  let c0_i32_309 : BitVec 32 := 0#32
  let v730 : BitVec 1 := Scalar.cmpi .ne v729 c0_i32_309
  v730

def k0_chk71 (v726 : BitVec 32) : Prop :=
  (∀ (k0_h8 : k0_cond8 v726 = 1#1), ∀ a, (k0_off142 v726) a + S1x768.size a ≤ S4096x768.size a)
theorem k0_off142_inb : ∀ (v726 : BitVec 32) (k0_hw71 : k0_chk71 v726), ∀ (k0_h8 : k0_cond8 v726 = 1#1), ∀ a, (k0_off142 v726) a + S1x768.size a ≤ S4096x768.size a := fun v726 k0_hw71 k0_h8 => k0_hw71 k0_h8

def k0_off143 (i : grid0.Coords) : Fin 1 → Nat :=
  let arg0 : BitVec 32 := BitVec.ofNat 32 (i 0).val
  let c64_i32_310 : BitVec 32 := 64#32
  let v731 : BitVec 32 := Scalar.muli arg0 c64_i32_310
  let c7_i32_311 : BitVec 32 := 7#32
  let v732 : BitVec 32 := Scalar.addi v731 c7_i32_311
  let v733 : Index := Scalar.indexCast v732
  ![v733.toNat]
def k0_off144 (v734 : BitVec 32) : Fin 2 → Nat :=
  let v1187 : Index := Scalar.indexCast v734
  let c0_538 : Index := 0#32
  ![v1187.toNat, 0]
def k0_cond9 (v734 : BitVec 32) : BitVec 1 :=
  let c0_i32_312 : BitVec 32 := 0#32
  let v736 : BitVec 1 := Scalar.cmpi .sge v734 c0_i32_312
  let v737 : BitVec 32 := Scalar.extui v736
  let c0_i32_313 : BitVec 32 := 0#32
  let v738 : BitVec 1 := Scalar.cmpi .ne v737 c0_i32_313
  v738

def k0_chk72 (v734 : BitVec 32) : Prop :=
  (∀ (k0_h9 : k0_cond9 v734 = 1#1), ∀ a, (k0_off144 v734) a + S1x768.size a ≤ S4096x768.size a)
theorem k0_off144_inb : ∀ (v734 : BitVec 32) (k0_hw72 : k0_chk72 v734), ∀ (k0_h9 : k0_cond9 v734 = 1#1), ∀ a, (k0_off144 v734) a + S1x768.size a ≤ S4096x768.size a := fun v734 k0_hw72 k0_h9 => k0_hw72 k0_h9

def k0_off145 (i : grid0.Coords) : Fin 1 → Nat :=
  let arg0 : BitVec 32 := BitVec.ofNat 32 (i 0).val
  let c64_i32_314 : BitVec 32 := 64#32
  let v739 : BitVec 32 := Scalar.muli arg0 c64_i32_314
  let c8_i32_315 : BitVec 32 := 8#32
  let v740 : BitVec 32 := Scalar.addi v739 c8_i32_315
  let v741 : Index := Scalar.indexCast v740
  ![v741.toNat]
def k0_off146 (v742 : BitVec 32) : Fin 2 → Nat :=
  let v1187 : Index := Scalar.indexCast v742
  let c0_538 : Index := 0#32
  ![v1187.toNat, 0]
def k0_cond10 (v742 : BitVec 32) : BitVec 1 :=
  let c0_i32_316 : BitVec 32 := 0#32
  let v744 : BitVec 1 := Scalar.cmpi .sge v742 c0_i32_316
  let v745 : BitVec 32 := Scalar.extui v744
  let c0_i32_317 : BitVec 32 := 0#32
  let v746 : BitVec 1 := Scalar.cmpi .ne v745 c0_i32_317
  v746

def k0_chk73 (v742 : BitVec 32) : Prop :=
  (∀ (k0_h10 : k0_cond10 v742 = 1#1), ∀ a, (k0_off146 v742) a + S1x768.size a ≤ S4096x768.size a)
theorem k0_off146_inb : ∀ (v742 : BitVec 32) (k0_hw73 : k0_chk73 v742), ∀ (k0_h10 : k0_cond10 v742 = 1#1), ∀ a, (k0_off146 v742) a + S1x768.size a ≤ S4096x768.size a := fun v742 k0_hw73 k0_h10 => k0_hw73 k0_h10

def k0_off147 (i : grid0.Coords) : Fin 1 → Nat :=
  let arg0 : BitVec 32 := BitVec.ofNat 32 (i 0).val
  let c64_i32_318 : BitVec 32 := 64#32
  let v747 : BitVec 32 := Scalar.muli arg0 c64_i32_318
  let c9_i32_319 : BitVec 32 := 9#32
  let v748 : BitVec 32 := Scalar.addi v747 c9_i32_319
  let v749 : Index := Scalar.indexCast v748
  ![v749.toNat]
def k0_off148 (v750 : BitVec 32) : Fin 2 → Nat :=
  let v1187 : Index := Scalar.indexCast v750
  let c0_538 : Index := 0#32
  ![v1187.toNat, 0]
def k0_cond11 (v750 : BitVec 32) : BitVec 1 :=
  let c0_i32_320 : BitVec 32 := 0#32
  let v752 : BitVec 1 := Scalar.cmpi .sge v750 c0_i32_320
  let v753 : BitVec 32 := Scalar.extui v752
  let c0_i32_321 : BitVec 32 := 0#32
  let v754 : BitVec 1 := Scalar.cmpi .ne v753 c0_i32_321
  v754

def k0_chk74 (v750 : BitVec 32) : Prop :=
  (∀ (k0_h11 : k0_cond11 v750 = 1#1), ∀ a, (k0_off148 v750) a + S1x768.size a ≤ S4096x768.size a)
theorem k0_off148_inb : ∀ (v750 : BitVec 32) (k0_hw74 : k0_chk74 v750), ∀ (k0_h11 : k0_cond11 v750 = 1#1), ∀ a, (k0_off148 v750) a + S1x768.size a ≤ S4096x768.size a := fun v750 k0_hw74 k0_h11 => k0_hw74 k0_h11

def k0_off149 (i : grid0.Coords) : Fin 1 → Nat :=
  let arg0 : BitVec 32 := BitVec.ofNat 32 (i 0).val
  let c64_i32_322 : BitVec 32 := 64#32
  let v755 : BitVec 32 := Scalar.muli arg0 c64_i32_322
  let c10_i32_323 : BitVec 32 := 10#32
  let v756 : BitVec 32 := Scalar.addi v755 c10_i32_323
  let v757 : Index := Scalar.indexCast v756
  ![v757.toNat]
def k0_off150 (v758 : BitVec 32) : Fin 2 → Nat :=
  let v1187 : Index := Scalar.indexCast v758
  let c0_538 : Index := 0#32
  ![v1187.toNat, 0]
def k0_cond12 (v758 : BitVec 32) : BitVec 1 :=
  let c0_i32_324 : BitVec 32 := 0#32
  let v760 : BitVec 1 := Scalar.cmpi .sge v758 c0_i32_324
  let v761 : BitVec 32 := Scalar.extui v760
  let c0_i32_325 : BitVec 32 := 0#32
  let v762 : BitVec 1 := Scalar.cmpi .ne v761 c0_i32_325
  v762

def k0_chk75 (v758 : BitVec 32) : Prop :=
  (∀ (k0_h12 : k0_cond12 v758 = 1#1), ∀ a, (k0_off150 v758) a + S1x768.size a ≤ S4096x768.size a)
theorem k0_off150_inb : ∀ (v758 : BitVec 32) (k0_hw75 : k0_chk75 v758), ∀ (k0_h12 : k0_cond12 v758 = 1#1), ∀ a, (k0_off150 v758) a + S1x768.size a ≤ S4096x768.size a := fun v758 k0_hw75 k0_h12 => k0_hw75 k0_h12

def k0_off151 (i : grid0.Coords) : Fin 1 → Nat :=
  let arg0 : BitVec 32 := BitVec.ofNat 32 (i 0).val
  let c64_i32_326 : BitVec 32 := 64#32
  let v763 : BitVec 32 := Scalar.muli arg0 c64_i32_326
  let c11_i32_327 : BitVec 32 := 11#32
  let v764 : BitVec 32 := Scalar.addi v763 c11_i32_327
  let v765 : Index := Scalar.indexCast v764
  ![v765.toNat]
def k0_off152 (v766 : BitVec 32) : Fin 2 → Nat :=
  let v1187 : Index := Scalar.indexCast v766
  let c0_538 : Index := 0#32
  ![v1187.toNat, 0]
def k0_cond13 (v766 : BitVec 32) : BitVec 1 :=
  let c0_i32_328 : BitVec 32 := 0#32
  let v768 : BitVec 1 := Scalar.cmpi .sge v766 c0_i32_328
  let v769 : BitVec 32 := Scalar.extui v768
  let c0_i32_329 : BitVec 32 := 0#32
  let v770 : BitVec 1 := Scalar.cmpi .ne v769 c0_i32_329
  v770

def k0_chk76 (v766 : BitVec 32) : Prop :=
  (∀ (k0_h13 : k0_cond13 v766 = 1#1), ∀ a, (k0_off152 v766) a + S1x768.size a ≤ S4096x768.size a)
theorem k0_off152_inb : ∀ (v766 : BitVec 32) (k0_hw76 : k0_chk76 v766), ∀ (k0_h13 : k0_cond13 v766 = 1#1), ∀ a, (k0_off152 v766) a + S1x768.size a ≤ S4096x768.size a := fun v766 k0_hw76 k0_h13 => k0_hw76 k0_h13

def k0_off153 (i : grid0.Coords) : Fin 1 → Nat :=
  let arg0 : BitVec 32 := BitVec.ofNat 32 (i 0).val
  let c64_i32_330 : BitVec 32 := 64#32
  let v771 : BitVec 32 := Scalar.muli arg0 c64_i32_330
  let c12_i32_331 : BitVec 32 := 12#32
  let v772 : BitVec 32 := Scalar.addi v771 c12_i32_331
  let v773 : Index := Scalar.indexCast v772
  ![v773.toNat]
def k0_off154 (v774 : BitVec 32) : Fin 2 → Nat :=
  let v1187 : Index := Scalar.indexCast v774
  let c0_538 : Index := 0#32
  ![v1187.toNat, 0]
def k0_cond14 (v774 : BitVec 32) : BitVec 1 :=
  let c0_i32_332 : BitVec 32 := 0#32
  let v776 : BitVec 1 := Scalar.cmpi .sge v774 c0_i32_332
  let v777 : BitVec 32 := Scalar.extui v776
  let c0_i32_333 : BitVec 32 := 0#32
  let v778 : BitVec 1 := Scalar.cmpi .ne v777 c0_i32_333
  v778

def k0_chk77 (v774 : BitVec 32) : Prop :=
  (∀ (k0_h14 : k0_cond14 v774 = 1#1), ∀ a, (k0_off154 v774) a + S1x768.size a ≤ S4096x768.size a)
theorem k0_off154_inb : ∀ (v774 : BitVec 32) (k0_hw77 : k0_chk77 v774), ∀ (k0_h14 : k0_cond14 v774 = 1#1), ∀ a, (k0_off154 v774) a + S1x768.size a ≤ S4096x768.size a := fun v774 k0_hw77 k0_h14 => k0_hw77 k0_h14

def k0_off155 (i : grid0.Coords) : Fin 1 → Nat :=
  let arg0 : BitVec 32 := BitVec.ofNat 32 (i 0).val
  let c64_i32_334 : BitVec 32 := 64#32
  let v779 : BitVec 32 := Scalar.muli arg0 c64_i32_334
  let c13_i32_335 : BitVec 32 := 13#32
  let v780 : BitVec 32 := Scalar.addi v779 c13_i32_335
  let v781 : Index := Scalar.indexCast v780
  ![v781.toNat]
def k0_off156 (v782 : BitVec 32) : Fin 2 → Nat :=
  let v1187 : Index := Scalar.indexCast v782
  let c0_538 : Index := 0#32
  ![v1187.toNat, 0]
def k0_cond15 (v782 : BitVec 32) : BitVec 1 :=
  let c0_i32_336 : BitVec 32 := 0#32
  let v784 : BitVec 1 := Scalar.cmpi .sge v782 c0_i32_336
  let v785 : BitVec 32 := Scalar.extui v784
  let c0_i32_337 : BitVec 32 := 0#32
  let v786 : BitVec 1 := Scalar.cmpi .ne v785 c0_i32_337
  v786

def k0_chk78 (v782 : BitVec 32) : Prop :=
  (∀ (k0_h15 : k0_cond15 v782 = 1#1), ∀ a, (k0_off156 v782) a + S1x768.size a ≤ S4096x768.size a)
theorem k0_off156_inb : ∀ (v782 : BitVec 32) (k0_hw78 : k0_chk78 v782), ∀ (k0_h15 : k0_cond15 v782 = 1#1), ∀ a, (k0_off156 v782) a + S1x768.size a ≤ S4096x768.size a := fun v782 k0_hw78 k0_h15 => k0_hw78 k0_h15

def k0_off157 (i : grid0.Coords) : Fin 1 → Nat :=
  let arg0 : BitVec 32 := BitVec.ofNat 32 (i 0).val
  let c64_i32_338 : BitVec 32 := 64#32
  let v787 : BitVec 32 := Scalar.muli arg0 c64_i32_338
  let c14_i32_339 : BitVec 32 := 14#32
  let v788 : BitVec 32 := Scalar.addi v787 c14_i32_339
  let v789 : Index := Scalar.indexCast v788
  ![v789.toNat]
def k0_off158 (v790 : BitVec 32) : Fin 2 → Nat :=
  let v1187 : Index := Scalar.indexCast v790
  let c0_538 : Index := 0#32
  ![v1187.toNat, 0]
def k0_cond16 (v790 : BitVec 32) : BitVec 1 :=
  let c0_i32_340 : BitVec 32 := 0#32
  let v792 : BitVec 1 := Scalar.cmpi .sge v790 c0_i32_340
  let v793 : BitVec 32 := Scalar.extui v792
  let c0_i32_341 : BitVec 32 := 0#32
  let v794 : BitVec 1 := Scalar.cmpi .ne v793 c0_i32_341
  v794

def k0_chk79 (v790 : BitVec 32) : Prop :=
  (∀ (k0_h16 : k0_cond16 v790 = 1#1), ∀ a, (k0_off158 v790) a + S1x768.size a ≤ S4096x768.size a)
theorem k0_off158_inb : ∀ (v790 : BitVec 32) (k0_hw79 : k0_chk79 v790), ∀ (k0_h16 : k0_cond16 v790 = 1#1), ∀ a, (k0_off158 v790) a + S1x768.size a ≤ S4096x768.size a := fun v790 k0_hw79 k0_h16 => k0_hw79 k0_h16

def k0_off159 (i : grid0.Coords) : Fin 1 → Nat :=
  let arg0 : BitVec 32 := BitVec.ofNat 32 (i 0).val
  let c64_i32_342 : BitVec 32 := 64#32
  let v795 : BitVec 32 := Scalar.muli arg0 c64_i32_342
  let c15_i32_343 : BitVec 32 := 15#32
  let v796 : BitVec 32 := Scalar.addi v795 c15_i32_343
  let v797 : Index := Scalar.indexCast v796
  ![v797.toNat]
def k0_off160 (v798 : BitVec 32) : Fin 2 → Nat :=
  let v1187 : Index := Scalar.indexCast v798
  let c0_538 : Index := 0#32
  ![v1187.toNat, 0]
def k0_cond17 (v798 : BitVec 32) : BitVec 1 :=
  let c0_i32_344 : BitVec 32 := 0#32
  let v800 : BitVec 1 := Scalar.cmpi .sge v798 c0_i32_344
  let v801 : BitVec 32 := Scalar.extui v800
  let c0_i32_345 : BitVec 32 := 0#32
  let v802 : BitVec 1 := Scalar.cmpi .ne v801 c0_i32_345
  v802

def k0_chk80 (v798 : BitVec 32) : Prop :=
  (∀ (k0_h17 : k0_cond17 v798 = 1#1), ∀ a, (k0_off160 v798) a + S1x768.size a ≤ S4096x768.size a)
theorem k0_off160_inb : ∀ (v798 : BitVec 32) (k0_hw80 : k0_chk80 v798), ∀ (k0_h17 : k0_cond17 v798 = 1#1), ∀ a, (k0_off160 v798) a + S1x768.size a ≤ S4096x768.size a := fun v798 k0_hw80 k0_h17 => k0_hw80 k0_h17

def k0_off161 (i : grid0.Coords) : Fin 1 → Nat :=
  let arg0 : BitVec 32 := BitVec.ofNat 32 (i 0).val
  let c64_i32_346 : BitVec 32 := 64#32
  let v803 : BitVec 32 := Scalar.muli arg0 c64_i32_346
  let c16_i32_347 : BitVec 32 := 16#32
  let v804 : BitVec 32 := Scalar.addi v803 c16_i32_347
  let v805 : Index := Scalar.indexCast v804
  ![v805.toNat]
def k0_off162 (v806 : BitVec 32) : Fin 2 → Nat :=
  let v1187 : Index := Scalar.indexCast v806
  let c0_538 : Index := 0#32
  ![v1187.toNat, 0]
def k0_cond18 (v806 : BitVec 32) : BitVec 1 :=
  let c0_i32_348 : BitVec 32 := 0#32
  let v808 : BitVec 1 := Scalar.cmpi .sge v806 c0_i32_348
  let v809 : BitVec 32 := Scalar.extui v808
  let c0_i32_349 : BitVec 32 := 0#32
  let v810 : BitVec 1 := Scalar.cmpi .ne v809 c0_i32_349
  v810

def k0_chk81 (v806 : BitVec 32) : Prop :=
  (∀ (k0_h18 : k0_cond18 v806 = 1#1), ∀ a, (k0_off162 v806) a + S1x768.size a ≤ S4096x768.size a)
theorem k0_off162_inb : ∀ (v806 : BitVec 32) (k0_hw81 : k0_chk81 v806), ∀ (k0_h18 : k0_cond18 v806 = 1#1), ∀ a, (k0_off162 v806) a + S1x768.size a ≤ S4096x768.size a := fun v806 k0_hw81 k0_h18 => k0_hw81 k0_h18

def k0_off163 (i : grid0.Coords) : Fin 1 → Nat :=
  let arg0 : BitVec 32 := BitVec.ofNat 32 (i 0).val
  let c64_i32_350 : BitVec 32 := 64#32
  let v811 : BitVec 32 := Scalar.muli arg0 c64_i32_350
  let c17_i32_351 : BitVec 32 := 17#32
  let v812 : BitVec 32 := Scalar.addi v811 c17_i32_351
  let v813 : Index := Scalar.indexCast v812
  ![v813.toNat]
def k0_off164 (v814 : BitVec 32) : Fin 2 → Nat :=
  let v1187 : Index := Scalar.indexCast v814
  let c0_538 : Index := 0#32
  ![v1187.toNat, 0]
def k0_cond19 (v814 : BitVec 32) : BitVec 1 :=
  let c0_i32_352 : BitVec 32 := 0#32
  let v816 : BitVec 1 := Scalar.cmpi .sge v814 c0_i32_352
  let v817 : BitVec 32 := Scalar.extui v816
  let c0_i32_353 : BitVec 32 := 0#32
  let v818 : BitVec 1 := Scalar.cmpi .ne v817 c0_i32_353
  v818

def k0_chk82 (v814 : BitVec 32) : Prop :=
  (∀ (k0_h19 : k0_cond19 v814 = 1#1), ∀ a, (k0_off164 v814) a + S1x768.size a ≤ S4096x768.size a)
theorem k0_off164_inb : ∀ (v814 : BitVec 32) (k0_hw82 : k0_chk82 v814), ∀ (k0_h19 : k0_cond19 v814 = 1#1), ∀ a, (k0_off164 v814) a + S1x768.size a ≤ S4096x768.size a := fun v814 k0_hw82 k0_h19 => k0_hw82 k0_h19

def k0_off165 (i : grid0.Coords) : Fin 1 → Nat :=
  let arg0 : BitVec 32 := BitVec.ofNat 32 (i 0).val
  let c64_i32_354 : BitVec 32 := 64#32
  let v819 : BitVec 32 := Scalar.muli arg0 c64_i32_354
  let c18_i32_355 : BitVec 32 := 18#32
  let v820 : BitVec 32 := Scalar.addi v819 c18_i32_355
  let v821 : Index := Scalar.indexCast v820
  ![v821.toNat]
def k0_off166 (v822 : BitVec 32) : Fin 2 → Nat :=
  let v1187 : Index := Scalar.indexCast v822
  let c0_538 : Index := 0#32
  ![v1187.toNat, 0]
def k0_cond20 (v822 : BitVec 32) : BitVec 1 :=
  let c0_i32_356 : BitVec 32 := 0#32
  let v824 : BitVec 1 := Scalar.cmpi .sge v822 c0_i32_356
  let v825 : BitVec 32 := Scalar.extui v824
  let c0_i32_357 : BitVec 32 := 0#32
  let v826 : BitVec 1 := Scalar.cmpi .ne v825 c0_i32_357
  v826

def k0_chk83 (v822 : BitVec 32) : Prop :=
  (∀ (k0_h20 : k0_cond20 v822 = 1#1), ∀ a, (k0_off166 v822) a + S1x768.size a ≤ S4096x768.size a)
theorem k0_off166_inb : ∀ (v822 : BitVec 32) (k0_hw83 : k0_chk83 v822), ∀ (k0_h20 : k0_cond20 v822 = 1#1), ∀ a, (k0_off166 v822) a + S1x768.size a ≤ S4096x768.size a := fun v822 k0_hw83 k0_h20 => k0_hw83 k0_h20

def k0_off167 (i : grid0.Coords) : Fin 1 → Nat :=
  let arg0 : BitVec 32 := BitVec.ofNat 32 (i 0).val
  let c64_i32_358 : BitVec 32 := 64#32
  let v827 : BitVec 32 := Scalar.muli arg0 c64_i32_358
  let c19_i32_359 : BitVec 32 := 19#32
  let v828 : BitVec 32 := Scalar.addi v827 c19_i32_359
  let v829 : Index := Scalar.indexCast v828
  ![v829.toNat]
def k0_off168 (v830 : BitVec 32) : Fin 2 → Nat :=
  let v1187 : Index := Scalar.indexCast v830
  let c0_538 : Index := 0#32
  ![v1187.toNat, 0]
def k0_cond21 (v830 : BitVec 32) : BitVec 1 :=
  let c0_i32_360 : BitVec 32 := 0#32
  let v832 : BitVec 1 := Scalar.cmpi .sge v830 c0_i32_360
  let v833 : BitVec 32 := Scalar.extui v832
  let c0_i32_361 : BitVec 32 := 0#32
  let v834 : BitVec 1 := Scalar.cmpi .ne v833 c0_i32_361
  v834

def k0_chk84 (v830 : BitVec 32) : Prop :=
  (∀ (k0_h21 : k0_cond21 v830 = 1#1), ∀ a, (k0_off168 v830) a + S1x768.size a ≤ S4096x768.size a)
theorem k0_off168_inb : ∀ (v830 : BitVec 32) (k0_hw84 : k0_chk84 v830), ∀ (k0_h21 : k0_cond21 v830 = 1#1), ∀ a, (k0_off168 v830) a + S1x768.size a ≤ S4096x768.size a := fun v830 k0_hw84 k0_h21 => k0_hw84 k0_h21

def k0_off169 (i : grid0.Coords) : Fin 1 → Nat :=
  let arg0 : BitVec 32 := BitVec.ofNat 32 (i 0).val
  let c64_i32_362 : BitVec 32 := 64#32
  let v835 : BitVec 32 := Scalar.muli arg0 c64_i32_362
  let c20_i32_363 : BitVec 32 := 20#32
  let v836 : BitVec 32 := Scalar.addi v835 c20_i32_363
  let v837 : Index := Scalar.indexCast v836
  ![v837.toNat]
def k0_off170 (v838 : BitVec 32) : Fin 2 → Nat :=
  let v1187 : Index := Scalar.indexCast v838
  let c0_538 : Index := 0#32
  ![v1187.toNat, 0]
def k0_cond22 (v838 : BitVec 32) : BitVec 1 :=
  let c0_i32_364 : BitVec 32 := 0#32
  let v840 : BitVec 1 := Scalar.cmpi .sge v838 c0_i32_364
  let v841 : BitVec 32 := Scalar.extui v840
  let c0_i32_365 : BitVec 32 := 0#32
  let v842 : BitVec 1 := Scalar.cmpi .ne v841 c0_i32_365
  v842

def k0_chk85 (v838 : BitVec 32) : Prop :=
  (∀ (k0_h22 : k0_cond22 v838 = 1#1), ∀ a, (k0_off170 v838) a + S1x768.size a ≤ S4096x768.size a)
theorem k0_off170_inb : ∀ (v838 : BitVec 32) (k0_hw85 : k0_chk85 v838), ∀ (k0_h22 : k0_cond22 v838 = 1#1), ∀ a, (k0_off170 v838) a + S1x768.size a ≤ S4096x768.size a := fun v838 k0_hw85 k0_h22 => k0_hw85 k0_h22

def k0_off171 (i : grid0.Coords) : Fin 1 → Nat :=
  let arg0 : BitVec 32 := BitVec.ofNat 32 (i 0).val
  let c64_i32_366 : BitVec 32 := 64#32
  let v843 : BitVec 32 := Scalar.muli arg0 c64_i32_366
  let c21_i32_367 : BitVec 32 := 21#32
  let v844 : BitVec 32 := Scalar.addi v843 c21_i32_367
  let v845 : Index := Scalar.indexCast v844
  ![v845.toNat]
def k0_off172 (v846 : BitVec 32) : Fin 2 → Nat :=
  let v1187 : Index := Scalar.indexCast v846
  let c0_538 : Index := 0#32
  ![v1187.toNat, 0]
def k0_cond23 (v846 : BitVec 32) : BitVec 1 :=
  let c0_i32_368 : BitVec 32 := 0#32
  let v848 : BitVec 1 := Scalar.cmpi .sge v846 c0_i32_368
  let v849 : BitVec 32 := Scalar.extui v848
  let c0_i32_369 : BitVec 32 := 0#32
  let v850 : BitVec 1 := Scalar.cmpi .ne v849 c0_i32_369
  v850

def k0_chk86 (v846 : BitVec 32) : Prop :=
  (∀ (k0_h23 : k0_cond23 v846 = 1#1), ∀ a, (k0_off172 v846) a + S1x768.size a ≤ S4096x768.size a)
theorem k0_off172_inb : ∀ (v846 : BitVec 32) (k0_hw86 : k0_chk86 v846), ∀ (k0_h23 : k0_cond23 v846 = 1#1), ∀ a, (k0_off172 v846) a + S1x768.size a ≤ S4096x768.size a := fun v846 k0_hw86 k0_h23 => k0_hw86 k0_h23

def k0_off173 (i : grid0.Coords) : Fin 1 → Nat :=
  let arg0 : BitVec 32 := BitVec.ofNat 32 (i 0).val
  let c64_i32_370 : BitVec 32 := 64#32
  let v851 : BitVec 32 := Scalar.muli arg0 c64_i32_370
  let c22_i32_371 : BitVec 32 := 22#32
  let v852 : BitVec 32 := Scalar.addi v851 c22_i32_371
  let v853 : Index := Scalar.indexCast v852
  ![v853.toNat]
def k0_off174 (v854 : BitVec 32) : Fin 2 → Nat :=
  let v1187 : Index := Scalar.indexCast v854
  let c0_538 : Index := 0#32
  ![v1187.toNat, 0]
def k0_cond24 (v854 : BitVec 32) : BitVec 1 :=
  let c0_i32_372 : BitVec 32 := 0#32
  let v856 : BitVec 1 := Scalar.cmpi .sge v854 c0_i32_372
  let v857 : BitVec 32 := Scalar.extui v856
  let c0_i32_373 : BitVec 32 := 0#32
  let v858 : BitVec 1 := Scalar.cmpi .ne v857 c0_i32_373
  v858

def k0_chk87 (v854 : BitVec 32) : Prop :=
  (∀ (k0_h24 : k0_cond24 v854 = 1#1), ∀ a, (k0_off174 v854) a + S1x768.size a ≤ S4096x768.size a)
theorem k0_off174_inb : ∀ (v854 : BitVec 32) (k0_hw87 : k0_chk87 v854), ∀ (k0_h24 : k0_cond24 v854 = 1#1), ∀ a, (k0_off174 v854) a + S1x768.size a ≤ S4096x768.size a := fun v854 k0_hw87 k0_h24 => k0_hw87 k0_h24

def k0_off175 (i : grid0.Coords) : Fin 1 → Nat :=
  let arg0 : BitVec 32 := BitVec.ofNat 32 (i 0).val
  let c64_i32_374 : BitVec 32 := 64#32
  let v859 : BitVec 32 := Scalar.muli arg0 c64_i32_374
  let c23_i32_375 : BitVec 32 := 23#32
  let v860 : BitVec 32 := Scalar.addi v859 c23_i32_375
  let v861 : Index := Scalar.indexCast v860
  ![v861.toNat]
def k0_off176 (v862 : BitVec 32) : Fin 2 → Nat :=
  let v1187 : Index := Scalar.indexCast v862
  let c0_538 : Index := 0#32
  ![v1187.toNat, 0]
def k0_cond25 (v862 : BitVec 32) : BitVec 1 :=
  let c0_i32_376 : BitVec 32 := 0#32
  let v864 : BitVec 1 := Scalar.cmpi .sge v862 c0_i32_376
  let v865 : BitVec 32 := Scalar.extui v864
  let c0_i32_377 : BitVec 32 := 0#32
  let v866 : BitVec 1 := Scalar.cmpi .ne v865 c0_i32_377
  v866

def k0_chk88 (v862 : BitVec 32) : Prop :=
  (∀ (k0_h25 : k0_cond25 v862 = 1#1), ∀ a, (k0_off176 v862) a + S1x768.size a ≤ S4096x768.size a)
theorem k0_off176_inb : ∀ (v862 : BitVec 32) (k0_hw88 : k0_chk88 v862), ∀ (k0_h25 : k0_cond25 v862 = 1#1), ∀ a, (k0_off176 v862) a + S1x768.size a ≤ S4096x768.size a := fun v862 k0_hw88 k0_h25 => k0_hw88 k0_h25

def k0_off177 (i : grid0.Coords) : Fin 1 → Nat :=
  let arg0 : BitVec 32 := BitVec.ofNat 32 (i 0).val
  let c64_i32_378 : BitVec 32 := 64#32
  let v867 : BitVec 32 := Scalar.muli arg0 c64_i32_378
  let c24_i32_379 : BitVec 32 := 24#32
  let v868 : BitVec 32 := Scalar.addi v867 c24_i32_379
  let v869 : Index := Scalar.indexCast v868
  ![v869.toNat]
def k0_off178 (v870 : BitVec 32) : Fin 2 → Nat :=
  let v1187 : Index := Scalar.indexCast v870
  let c0_538 : Index := 0#32
  ![v1187.toNat, 0]
def k0_cond26 (v870 : BitVec 32) : BitVec 1 :=
  let c0_i32_380 : BitVec 32 := 0#32
  let v872 : BitVec 1 := Scalar.cmpi .sge v870 c0_i32_380
  let v873 : BitVec 32 := Scalar.extui v872
  let c0_i32_381 : BitVec 32 := 0#32
  let v874 : BitVec 1 := Scalar.cmpi .ne v873 c0_i32_381
  v874

def k0_chk89 (v870 : BitVec 32) : Prop :=
  (∀ (k0_h26 : k0_cond26 v870 = 1#1), ∀ a, (k0_off178 v870) a + S1x768.size a ≤ S4096x768.size a)
theorem k0_off178_inb : ∀ (v870 : BitVec 32) (k0_hw89 : k0_chk89 v870), ∀ (k0_h26 : k0_cond26 v870 = 1#1), ∀ a, (k0_off178 v870) a + S1x768.size a ≤ S4096x768.size a := fun v870 k0_hw89 k0_h26 => k0_hw89 k0_h26

def k0_off179 (i : grid0.Coords) : Fin 1 → Nat :=
  let arg0 : BitVec 32 := BitVec.ofNat 32 (i 0).val
  let c64_i32_382 : BitVec 32 := 64#32
  let v875 : BitVec 32 := Scalar.muli arg0 c64_i32_382
  let c25_i32_383 : BitVec 32 := 25#32
  let v876 : BitVec 32 := Scalar.addi v875 c25_i32_383
  let v877 : Index := Scalar.indexCast v876
  ![v877.toNat]
def k0_off180 (v878 : BitVec 32) : Fin 2 → Nat :=
  let v1187 : Index := Scalar.indexCast v878
  let c0_538 : Index := 0#32
  ![v1187.toNat, 0]
def k0_cond27 (v878 : BitVec 32) : BitVec 1 :=
  let c0_i32_384 : BitVec 32 := 0#32
  let v880 : BitVec 1 := Scalar.cmpi .sge v878 c0_i32_384
  let v881 : BitVec 32 := Scalar.extui v880
  let c0_i32_385 : BitVec 32 := 0#32
  let v882 : BitVec 1 := Scalar.cmpi .ne v881 c0_i32_385
  v882

def k0_chk90 (v878 : BitVec 32) : Prop :=
  (∀ (k0_h27 : k0_cond27 v878 = 1#1), ∀ a, (k0_off180 v878) a + S1x768.size a ≤ S4096x768.size a)
theorem k0_off180_inb : ∀ (v878 : BitVec 32) (k0_hw90 : k0_chk90 v878), ∀ (k0_h27 : k0_cond27 v878 = 1#1), ∀ a, (k0_off180 v878) a + S1x768.size a ≤ S4096x768.size a := fun v878 k0_hw90 k0_h27 => k0_hw90 k0_h27

def k0_off181 (i : grid0.Coords) : Fin 1 → Nat :=
  let arg0 : BitVec 32 := BitVec.ofNat 32 (i 0).val
  let c64_i32_386 : BitVec 32 := 64#32
  let v883 : BitVec 32 := Scalar.muli arg0 c64_i32_386
  let c26_i32_387 : BitVec 32 := 26#32
  let v884 : BitVec 32 := Scalar.addi v883 c26_i32_387
  let v885 : Index := Scalar.indexCast v884
  ![v885.toNat]
def k0_off182 (v886 : BitVec 32) : Fin 2 → Nat :=
  let v1187 : Index := Scalar.indexCast v886
  let c0_538 : Index := 0#32
  ![v1187.toNat, 0]
def k0_cond28 (v886 : BitVec 32) : BitVec 1 :=
  let c0_i32_388 : BitVec 32 := 0#32
  let v888 : BitVec 1 := Scalar.cmpi .sge v886 c0_i32_388
  let v889 : BitVec 32 := Scalar.extui v888
  let c0_i32_389 : BitVec 32 := 0#32
  let v890 : BitVec 1 := Scalar.cmpi .ne v889 c0_i32_389
  v890

def k0_chk91 (v886 : BitVec 32) : Prop :=
  (∀ (k0_h28 : k0_cond28 v886 = 1#1), ∀ a, (k0_off182 v886) a + S1x768.size a ≤ S4096x768.size a)
theorem k0_off182_inb : ∀ (v886 : BitVec 32) (k0_hw91 : k0_chk91 v886), ∀ (k0_h28 : k0_cond28 v886 = 1#1), ∀ a, (k0_off182 v886) a + S1x768.size a ≤ S4096x768.size a := fun v886 k0_hw91 k0_h28 => k0_hw91 k0_h28

def k0_off183 (i : grid0.Coords) : Fin 1 → Nat :=
  let arg0 : BitVec 32 := BitVec.ofNat 32 (i 0).val
  let c64_i32_390 : BitVec 32 := 64#32
  let v891 : BitVec 32 := Scalar.muli arg0 c64_i32_390
  let c27_i32_391 : BitVec 32 := 27#32
  let v892 : BitVec 32 := Scalar.addi v891 c27_i32_391
  let v893 : Index := Scalar.indexCast v892
  ![v893.toNat]
def k0_off184 (v894 : BitVec 32) : Fin 2 → Nat :=
  let v1187 : Index := Scalar.indexCast v894
  let c0_538 : Index := 0#32
  ![v1187.toNat, 0]
def k0_cond29 (v894 : BitVec 32) : BitVec 1 :=
  let c0_i32_392 : BitVec 32 := 0#32
  let v896 : BitVec 1 := Scalar.cmpi .sge v894 c0_i32_392
  let v897 : BitVec 32 := Scalar.extui v896
  let c0_i32_393 : BitVec 32 := 0#32
  let v898 : BitVec 1 := Scalar.cmpi .ne v897 c0_i32_393
  v898

def k0_chk92 (v894 : BitVec 32) : Prop :=
  (∀ (k0_h29 : k0_cond29 v894 = 1#1), ∀ a, (k0_off184 v894) a + S1x768.size a ≤ S4096x768.size a)
theorem k0_off184_inb : ∀ (v894 : BitVec 32) (k0_hw92 : k0_chk92 v894), ∀ (k0_h29 : k0_cond29 v894 = 1#1), ∀ a, (k0_off184 v894) a + S1x768.size a ≤ S4096x768.size a := fun v894 k0_hw92 k0_h29 => k0_hw92 k0_h29

def k0_off185 (i : grid0.Coords) : Fin 1 → Nat :=
  let arg0 : BitVec 32 := BitVec.ofNat 32 (i 0).val
  let c64_i32_394 : BitVec 32 := 64#32
  let v899 : BitVec 32 := Scalar.muli arg0 c64_i32_394
  let c28_i32_395 : BitVec 32 := 28#32
  let v900 : BitVec 32 := Scalar.addi v899 c28_i32_395
  let v901 : Index := Scalar.indexCast v900
  ![v901.toNat]
def k0_off186 (v902 : BitVec 32) : Fin 2 → Nat :=
  let v1187 : Index := Scalar.indexCast v902
  let c0_538 : Index := 0#32
  ![v1187.toNat, 0]
def k0_cond30 (v902 : BitVec 32) : BitVec 1 :=
  let c0_i32_396 : BitVec 32 := 0#32
  let v904 : BitVec 1 := Scalar.cmpi .sge v902 c0_i32_396
  let v905 : BitVec 32 := Scalar.extui v904
  let c0_i32_397 : BitVec 32 := 0#32
  let v906 : BitVec 1 := Scalar.cmpi .ne v905 c0_i32_397
  v906

def k0_chk93 (v902 : BitVec 32) : Prop :=
  (∀ (k0_h30 : k0_cond30 v902 = 1#1), ∀ a, (k0_off186 v902) a + S1x768.size a ≤ S4096x768.size a)
theorem k0_off186_inb : ∀ (v902 : BitVec 32) (k0_hw93 : k0_chk93 v902), ∀ (k0_h30 : k0_cond30 v902 = 1#1), ∀ a, (k0_off186 v902) a + S1x768.size a ≤ S4096x768.size a := fun v902 k0_hw93 k0_h30 => k0_hw93 k0_h30

def k0_off187 (i : grid0.Coords) : Fin 1 → Nat :=
  let arg0 : BitVec 32 := BitVec.ofNat 32 (i 0).val
  let c64_i32_398 : BitVec 32 := 64#32
  let v907 : BitVec 32 := Scalar.muli arg0 c64_i32_398
  let c29_i32_399 : BitVec 32 := 29#32
  let v908 : BitVec 32 := Scalar.addi v907 c29_i32_399
  let v909 : Index := Scalar.indexCast v908
  ![v909.toNat]
def k0_off188 (v910 : BitVec 32) : Fin 2 → Nat :=
  let v1187 : Index := Scalar.indexCast v910
  let c0_538 : Index := 0#32
  ![v1187.toNat, 0]
def k0_cond31 (v910 : BitVec 32) : BitVec 1 :=
  let c0_i32_400 : BitVec 32 := 0#32
  let v912 : BitVec 1 := Scalar.cmpi .sge v910 c0_i32_400
  let v913 : BitVec 32 := Scalar.extui v912
  let c0_i32_401 : BitVec 32 := 0#32
  let v914 : BitVec 1 := Scalar.cmpi .ne v913 c0_i32_401
  v914

def k0_chk94 (v910 : BitVec 32) : Prop :=
  (∀ (k0_h31 : k0_cond31 v910 = 1#1), ∀ a, (k0_off188 v910) a + S1x768.size a ≤ S4096x768.size a)
theorem k0_off188_inb : ∀ (v910 : BitVec 32) (k0_hw94 : k0_chk94 v910), ∀ (k0_h31 : k0_cond31 v910 = 1#1), ∀ a, (k0_off188 v910) a + S1x768.size a ≤ S4096x768.size a := fun v910 k0_hw94 k0_h31 => k0_hw94 k0_h31

def k0_off189 (i : grid0.Coords) : Fin 1 → Nat :=
  let arg0 : BitVec 32 := BitVec.ofNat 32 (i 0).val
  let c64_i32_402 : BitVec 32 := 64#32
  let v915 : BitVec 32 := Scalar.muli arg0 c64_i32_402
  let c30_i32_403 : BitVec 32 := 30#32
  let v916 : BitVec 32 := Scalar.addi v915 c30_i32_403
  let v917 : Index := Scalar.indexCast v916
  ![v917.toNat]
def k0_off190 (v918 : BitVec 32) : Fin 2 → Nat :=
  let v1187 : Index := Scalar.indexCast v918
  let c0_538 : Index := 0#32
  ![v1187.toNat, 0]
def k0_cond32 (v918 : BitVec 32) : BitVec 1 :=
  let c0_i32_404 : BitVec 32 := 0#32
  let v920 : BitVec 1 := Scalar.cmpi .sge v918 c0_i32_404
  let v921 : BitVec 32 := Scalar.extui v920
  let c0_i32_405 : BitVec 32 := 0#32
  let v922 : BitVec 1 := Scalar.cmpi .ne v921 c0_i32_405
  v922

def k0_chk95 (v918 : BitVec 32) : Prop :=
  (∀ (k0_h32 : k0_cond32 v918 = 1#1), ∀ a, (k0_off190 v918) a + S1x768.size a ≤ S4096x768.size a)
theorem k0_off190_inb : ∀ (v918 : BitVec 32) (k0_hw95 : k0_chk95 v918), ∀ (k0_h32 : k0_cond32 v918 = 1#1), ∀ a, (k0_off190 v918) a + S1x768.size a ≤ S4096x768.size a := fun v918 k0_hw95 k0_h32 => k0_hw95 k0_h32

def k0_off191 (i : grid0.Coords) : Fin 1 → Nat :=
  let arg0 : BitVec 32 := BitVec.ofNat 32 (i 0).val
  let c64_i32_406 : BitVec 32 := 64#32
  let v923 : BitVec 32 := Scalar.muli arg0 c64_i32_406
  let c31_i32_407 : BitVec 32 := 31#32
  let v924 : BitVec 32 := Scalar.addi v923 c31_i32_407
  let v925 : Index := Scalar.indexCast v924
  ![v925.toNat]
def k0_off192 (v926 : BitVec 32) : Fin 2 → Nat :=
  let v1187 : Index := Scalar.indexCast v926
  let c0_538 : Index := 0#32
  ![v1187.toNat, 0]
def k0_cond33 (v926 : BitVec 32) : BitVec 1 :=
  let c0_i32_408 : BitVec 32 := 0#32
  let v928 : BitVec 1 := Scalar.cmpi .sge v926 c0_i32_408
  let v929 : BitVec 32 := Scalar.extui v928
  let c0_i32_409 : BitVec 32 := 0#32
  let v930 : BitVec 1 := Scalar.cmpi .ne v929 c0_i32_409
  v930

def k0_chk96 (v926 : BitVec 32) : Prop :=
  (∀ (k0_h33 : k0_cond33 v926 = 1#1), ∀ a, (k0_off192 v926) a + S1x768.size a ≤ S4096x768.size a)
theorem k0_off192_inb : ∀ (v926 : BitVec 32) (k0_hw96 : k0_chk96 v926), ∀ (k0_h33 : k0_cond33 v926 = 1#1), ∀ a, (k0_off192 v926) a + S1x768.size a ≤ S4096x768.size a := fun v926 k0_hw96 k0_h33 => k0_hw96 k0_h33

def k0_off193 (i : grid0.Coords) : Fin 1 → Nat :=
  let arg0 : BitVec 32 := BitVec.ofNat 32 (i 0).val
  let c64_i32_410 : BitVec 32 := 64#32
  let v931 : BitVec 32 := Scalar.muli arg0 c64_i32_410
  let c32_i32_411 : BitVec 32 := 32#32
  let v932 : BitVec 32 := Scalar.addi v931 c32_i32_411
  let v933 : Index := Scalar.indexCast v932
  ![v933.toNat]
def k0_off194 (v934 : BitVec 32) : Fin 2 → Nat :=
  let v1187 : Index := Scalar.indexCast v934
  let c0_538 : Index := 0#32
  ![v1187.toNat, 0]
def k0_cond34 (v934 : BitVec 32) : BitVec 1 :=
  let c0_i32_412 : BitVec 32 := 0#32
  let v936 : BitVec 1 := Scalar.cmpi .sge v934 c0_i32_412
  let v937 : BitVec 32 := Scalar.extui v936
  let c0_i32_413 : BitVec 32 := 0#32
  let v938 : BitVec 1 := Scalar.cmpi .ne v937 c0_i32_413
  v938

def k0_chk97 (v934 : BitVec 32) : Prop :=
  (∀ (k0_h34 : k0_cond34 v934 = 1#1), ∀ a, (k0_off194 v934) a + S1x768.size a ≤ S4096x768.size a)
theorem k0_off194_inb : ∀ (v934 : BitVec 32) (k0_hw97 : k0_chk97 v934), ∀ (k0_h34 : k0_cond34 v934 = 1#1), ∀ a, (k0_off194 v934) a + S1x768.size a ≤ S4096x768.size a := fun v934 k0_hw97 k0_h34 => k0_hw97 k0_h34

def k0_off195 (i : grid0.Coords) : Fin 1 → Nat :=
  let arg0 : BitVec 32 := BitVec.ofNat 32 (i 0).val
  let c64_i32_414 : BitVec 32 := 64#32
  let v939 : BitVec 32 := Scalar.muli arg0 c64_i32_414
  let c33_i32_415 : BitVec 32 := 33#32
  let v940 : BitVec 32 := Scalar.addi v939 c33_i32_415
  let v941 : Index := Scalar.indexCast v940
  ![v941.toNat]
def k0_off196 (v942 : BitVec 32) : Fin 2 → Nat :=
  let v1187 : Index := Scalar.indexCast v942
  let c0_538 : Index := 0#32
  ![v1187.toNat, 0]
def k0_cond35 (v942 : BitVec 32) : BitVec 1 :=
  let c0_i32_416 : BitVec 32 := 0#32
  let v944 : BitVec 1 := Scalar.cmpi .sge v942 c0_i32_416
  let v945 : BitVec 32 := Scalar.extui v944
  let c0_i32_417 : BitVec 32 := 0#32
  let v946 : BitVec 1 := Scalar.cmpi .ne v945 c0_i32_417
  v946

def k0_chk98 (v942 : BitVec 32) : Prop :=
  (∀ (k0_h35 : k0_cond35 v942 = 1#1), ∀ a, (k0_off196 v942) a + S1x768.size a ≤ S4096x768.size a)
theorem k0_off196_inb : ∀ (v942 : BitVec 32) (k0_hw98 : k0_chk98 v942), ∀ (k0_h35 : k0_cond35 v942 = 1#1), ∀ a, (k0_off196 v942) a + S1x768.size a ≤ S4096x768.size a := fun v942 k0_hw98 k0_h35 => k0_hw98 k0_h35

def k0_off197 (i : grid0.Coords) : Fin 1 → Nat :=
  let arg0 : BitVec 32 := BitVec.ofNat 32 (i 0).val
  let c64_i32_418 : BitVec 32 := 64#32
  let v947 : BitVec 32 := Scalar.muli arg0 c64_i32_418
  let c34_i32_419 : BitVec 32 := 34#32
  let v948 : BitVec 32 := Scalar.addi v947 c34_i32_419
  let v949 : Index := Scalar.indexCast v948
  ![v949.toNat]
def k0_off198 (v950 : BitVec 32) : Fin 2 → Nat :=
  let v1187 : Index := Scalar.indexCast v950
  let c0_538 : Index := 0#32
  ![v1187.toNat, 0]
def k0_cond36 (v950 : BitVec 32) : BitVec 1 :=
  let c0_i32_420 : BitVec 32 := 0#32
  let v952 : BitVec 1 := Scalar.cmpi .sge v950 c0_i32_420
  let v953 : BitVec 32 := Scalar.extui v952
  let c0_i32_421 : BitVec 32 := 0#32
  let v954 : BitVec 1 := Scalar.cmpi .ne v953 c0_i32_421
  v954

def k0_chk99 (v950 : BitVec 32) : Prop :=
  (∀ (k0_h36 : k0_cond36 v950 = 1#1), ∀ a, (k0_off198 v950) a + S1x768.size a ≤ S4096x768.size a)
theorem k0_off198_inb : ∀ (v950 : BitVec 32) (k0_hw99 : k0_chk99 v950), ∀ (k0_h36 : k0_cond36 v950 = 1#1), ∀ a, (k0_off198 v950) a + S1x768.size a ≤ S4096x768.size a := fun v950 k0_hw99 k0_h36 => k0_hw99 k0_h36

def k0_off199 (i : grid0.Coords) : Fin 1 → Nat :=
  let arg0 : BitVec 32 := BitVec.ofNat 32 (i 0).val
  let c64_i32_422 : BitVec 32 := 64#32
  let v955 : BitVec 32 := Scalar.muli arg0 c64_i32_422
  let c35_i32_423 : BitVec 32 := 35#32
  let v956 : BitVec 32 := Scalar.addi v955 c35_i32_423
  let v957 : Index := Scalar.indexCast v956
  ![v957.toNat]
def k0_off200 (v958 : BitVec 32) : Fin 2 → Nat :=
  let v1187 : Index := Scalar.indexCast v958
  let c0_538 : Index := 0#32
  ![v1187.toNat, 0]
def k0_cond37 (v958 : BitVec 32) : BitVec 1 :=
  let c0_i32_424 : BitVec 32 := 0#32
  let v960 : BitVec 1 := Scalar.cmpi .sge v958 c0_i32_424
  let v961 : BitVec 32 := Scalar.extui v960
  let c0_i32_425 : BitVec 32 := 0#32
  let v962 : BitVec 1 := Scalar.cmpi .ne v961 c0_i32_425
  v962

def k0_chk100 (v958 : BitVec 32) : Prop :=
  (∀ (k0_h37 : k0_cond37 v958 = 1#1), ∀ a, (k0_off200 v958) a + S1x768.size a ≤ S4096x768.size a)
theorem k0_off200_inb : ∀ (v958 : BitVec 32) (k0_hw100 : k0_chk100 v958), ∀ (k0_h37 : k0_cond37 v958 = 1#1), ∀ a, (k0_off200 v958) a + S1x768.size a ≤ S4096x768.size a := fun v958 k0_hw100 k0_h37 => k0_hw100 k0_h37

def k0_off201 (i : grid0.Coords) : Fin 1 → Nat :=
  let arg0 : BitVec 32 := BitVec.ofNat 32 (i 0).val
  let c64_i32_426 : BitVec 32 := 64#32
  let v963 : BitVec 32 := Scalar.muli arg0 c64_i32_426
  let c36_i32_427 : BitVec 32 := 36#32
  let v964 : BitVec 32 := Scalar.addi v963 c36_i32_427
  let v965 : Index := Scalar.indexCast v964
  ![v965.toNat]
def k0_off202 (v966 : BitVec 32) : Fin 2 → Nat :=
  let v1187 : Index := Scalar.indexCast v966
  let c0_538 : Index := 0#32
  ![v1187.toNat, 0]
def k0_cond38 (v966 : BitVec 32) : BitVec 1 :=
  let c0_i32_428 : BitVec 32 := 0#32
  let v968 : BitVec 1 := Scalar.cmpi .sge v966 c0_i32_428
  let v969 : BitVec 32 := Scalar.extui v968
  let c0_i32_429 : BitVec 32 := 0#32
  let v970 : BitVec 1 := Scalar.cmpi .ne v969 c0_i32_429
  v970

def k0_chk101 (v966 : BitVec 32) : Prop :=
  (∀ (k0_h38 : k0_cond38 v966 = 1#1), ∀ a, (k0_off202 v966) a + S1x768.size a ≤ S4096x768.size a)
theorem k0_off202_inb : ∀ (v966 : BitVec 32) (k0_hw101 : k0_chk101 v966), ∀ (k0_h38 : k0_cond38 v966 = 1#1), ∀ a, (k0_off202 v966) a + S1x768.size a ≤ S4096x768.size a := fun v966 k0_hw101 k0_h38 => k0_hw101 k0_h38

def k0_off203 (i : grid0.Coords) : Fin 1 → Nat :=
  let arg0 : BitVec 32 := BitVec.ofNat 32 (i 0).val
  let c64_i32_430 : BitVec 32 := 64#32
  let v971 : BitVec 32 := Scalar.muli arg0 c64_i32_430
  let c37_i32_431 : BitVec 32 := 37#32
  let v972 : BitVec 32 := Scalar.addi v971 c37_i32_431
  let v973 : Index := Scalar.indexCast v972
  ![v973.toNat]
def k0_off204 (v974 : BitVec 32) : Fin 2 → Nat :=
  let v1187 : Index := Scalar.indexCast v974
  let c0_538 : Index := 0#32
  ![v1187.toNat, 0]
def k0_cond39 (v974 : BitVec 32) : BitVec 1 :=
  let c0_i32_432 : BitVec 32 := 0#32
  let v976 : BitVec 1 := Scalar.cmpi .sge v974 c0_i32_432
  let v977 : BitVec 32 := Scalar.extui v976
  let c0_i32_433 : BitVec 32 := 0#32
  let v978 : BitVec 1 := Scalar.cmpi .ne v977 c0_i32_433
  v978

def k0_chk102 (v974 : BitVec 32) : Prop :=
  (∀ (k0_h39 : k0_cond39 v974 = 1#1), ∀ a, (k0_off204 v974) a + S1x768.size a ≤ S4096x768.size a)
theorem k0_off204_inb : ∀ (v974 : BitVec 32) (k0_hw102 : k0_chk102 v974), ∀ (k0_h39 : k0_cond39 v974 = 1#1), ∀ a, (k0_off204 v974) a + S1x768.size a ≤ S4096x768.size a := fun v974 k0_hw102 k0_h39 => k0_hw102 k0_h39

def k0_off205 (i : grid0.Coords) : Fin 1 → Nat :=
  let arg0 : BitVec 32 := BitVec.ofNat 32 (i 0).val
  let c64_i32_434 : BitVec 32 := 64#32
  let v979 : BitVec 32 := Scalar.muli arg0 c64_i32_434
  let c38_i32_435 : BitVec 32 := 38#32
  let v980 : BitVec 32 := Scalar.addi v979 c38_i32_435
  let v981 : Index := Scalar.indexCast v980
  ![v981.toNat]
def k0_off206 (v982 : BitVec 32) : Fin 2 → Nat :=
  let v1187 : Index := Scalar.indexCast v982
  let c0_538 : Index := 0#32
  ![v1187.toNat, 0]
def k0_cond40 (v982 : BitVec 32) : BitVec 1 :=
  let c0_i32_436 : BitVec 32 := 0#32
  let v984 : BitVec 1 := Scalar.cmpi .sge v982 c0_i32_436
  let v985 : BitVec 32 := Scalar.extui v984
  let c0_i32_437 : BitVec 32 := 0#32
  let v986 : BitVec 1 := Scalar.cmpi .ne v985 c0_i32_437
  v986

def k0_chk103 (v982 : BitVec 32) : Prop :=
  (∀ (k0_h40 : k0_cond40 v982 = 1#1), ∀ a, (k0_off206 v982) a + S1x768.size a ≤ S4096x768.size a)
theorem k0_off206_inb : ∀ (v982 : BitVec 32) (k0_hw103 : k0_chk103 v982), ∀ (k0_h40 : k0_cond40 v982 = 1#1), ∀ a, (k0_off206 v982) a + S1x768.size a ≤ S4096x768.size a := fun v982 k0_hw103 k0_h40 => k0_hw103 k0_h40

def k0_off207 (i : grid0.Coords) : Fin 1 → Nat :=
  let arg0 : BitVec 32 := BitVec.ofNat 32 (i 0).val
  let c64_i32_438 : BitVec 32 := 64#32
  let v987 : BitVec 32 := Scalar.muli arg0 c64_i32_438
  let c39_i32_439 : BitVec 32 := 39#32
  let v988 : BitVec 32 := Scalar.addi v987 c39_i32_439
  let v989 : Index := Scalar.indexCast v988
  ![v989.toNat]
def k0_off208 (v990 : BitVec 32) : Fin 2 → Nat :=
  let v1187 : Index := Scalar.indexCast v990
  let c0_538 : Index := 0#32
  ![v1187.toNat, 0]
def k0_cond41 (v990 : BitVec 32) : BitVec 1 :=
  let c0_i32_440 : BitVec 32 := 0#32
  let v992 : BitVec 1 := Scalar.cmpi .sge v990 c0_i32_440
  let v993 : BitVec 32 := Scalar.extui v992
  let c0_i32_441 : BitVec 32 := 0#32
  let v994 : BitVec 1 := Scalar.cmpi .ne v993 c0_i32_441
  v994

def k0_chk104 (v990 : BitVec 32) : Prop :=
  (∀ (k0_h41 : k0_cond41 v990 = 1#1), ∀ a, (k0_off208 v990) a + S1x768.size a ≤ S4096x768.size a)
theorem k0_off208_inb : ∀ (v990 : BitVec 32) (k0_hw104 : k0_chk104 v990), ∀ (k0_h41 : k0_cond41 v990 = 1#1), ∀ a, (k0_off208 v990) a + S1x768.size a ≤ S4096x768.size a := fun v990 k0_hw104 k0_h41 => k0_hw104 k0_h41

def k0_off209 (i : grid0.Coords) : Fin 1 → Nat :=
  let arg0 : BitVec 32 := BitVec.ofNat 32 (i 0).val
  let c64_i32_442 : BitVec 32 := 64#32
  let v995 : BitVec 32 := Scalar.muli arg0 c64_i32_442
  let c40_i32_443 : BitVec 32 := 40#32
  let v996 : BitVec 32 := Scalar.addi v995 c40_i32_443
  let v997 : Index := Scalar.indexCast v996
  ![v997.toNat]
def k0_off210 (v998 : BitVec 32) : Fin 2 → Nat :=
  let v1187 : Index := Scalar.indexCast v998
  let c0_538 : Index := 0#32
  ![v1187.toNat, 0]
def k0_cond42 (v998 : BitVec 32) : BitVec 1 :=
  let c0_i32_444 : BitVec 32 := 0#32
  let v1000 : BitVec 1 := Scalar.cmpi .sge v998 c0_i32_444
  let v1001 : BitVec 32 := Scalar.extui v1000
  let c0_i32_445 : BitVec 32 := 0#32
  let v1002 : BitVec 1 := Scalar.cmpi .ne v1001 c0_i32_445
  v1002

def k0_chk105 (v998 : BitVec 32) : Prop :=
  (∀ (k0_h42 : k0_cond42 v998 = 1#1), ∀ a, (k0_off210 v998) a + S1x768.size a ≤ S4096x768.size a)
theorem k0_off210_inb : ∀ (v998 : BitVec 32) (k0_hw105 : k0_chk105 v998), ∀ (k0_h42 : k0_cond42 v998 = 1#1), ∀ a, (k0_off210 v998) a + S1x768.size a ≤ S4096x768.size a := fun v998 k0_hw105 k0_h42 => k0_hw105 k0_h42

def k0_off211 (i : grid0.Coords) : Fin 1 → Nat :=
  let arg0 : BitVec 32 := BitVec.ofNat 32 (i 0).val
  let c64_i32_446 : BitVec 32 := 64#32
  let v1003 : BitVec 32 := Scalar.muli arg0 c64_i32_446
  let c41_i32_447 : BitVec 32 := 41#32
  let v1004 : BitVec 32 := Scalar.addi v1003 c41_i32_447
  let v1005 : Index := Scalar.indexCast v1004
  ![v1005.toNat]
def k0_off212 (v1006 : BitVec 32) : Fin 2 → Nat :=
  let v1187 : Index := Scalar.indexCast v1006
  let c0_538 : Index := 0#32
  ![v1187.toNat, 0]
def k0_cond43 (v1006 : BitVec 32) : BitVec 1 :=
  let c0_i32_448 : BitVec 32 := 0#32
  let v1008 : BitVec 1 := Scalar.cmpi .sge v1006 c0_i32_448
  let v1009 : BitVec 32 := Scalar.extui v1008
  let c0_i32_449 : BitVec 32 := 0#32
  let v1010 : BitVec 1 := Scalar.cmpi .ne v1009 c0_i32_449
  v1010

def k0_chk106 (v1006 : BitVec 32) : Prop :=
  (∀ (k0_h43 : k0_cond43 v1006 = 1#1), ∀ a, (k0_off212 v1006) a + S1x768.size a ≤ S4096x768.size a)
theorem k0_off212_inb : ∀ (v1006 : BitVec 32) (k0_hw106 : k0_chk106 v1006), ∀ (k0_h43 : k0_cond43 v1006 = 1#1), ∀ a, (k0_off212 v1006) a + S1x768.size a ≤ S4096x768.size a := fun v1006 k0_hw106 k0_h43 => k0_hw106 k0_h43

def k0_off213 (i : grid0.Coords) : Fin 1 → Nat :=
  let arg0 : BitVec 32 := BitVec.ofNat 32 (i 0).val
  let c64_i32_450 : BitVec 32 := 64#32
  let v1011 : BitVec 32 := Scalar.muli arg0 c64_i32_450
  let c42_i32_451 : BitVec 32 := 42#32
  let v1012 : BitVec 32 := Scalar.addi v1011 c42_i32_451
  let v1013 : Index := Scalar.indexCast v1012
  ![v1013.toNat]
def k0_off214 (v1014 : BitVec 32) : Fin 2 → Nat :=
  let v1187 : Index := Scalar.indexCast v1014
  let c0_538 : Index := 0#32
  ![v1187.toNat, 0]
def k0_cond44 (v1014 : BitVec 32) : BitVec 1 :=
  let c0_i32_452 : BitVec 32 := 0#32
  let v1016 : BitVec 1 := Scalar.cmpi .sge v1014 c0_i32_452
  let v1017 : BitVec 32 := Scalar.extui v1016
  let c0_i32_453 : BitVec 32 := 0#32
  let v1018 : BitVec 1 := Scalar.cmpi .ne v1017 c0_i32_453
  v1018

def k0_chk107 (v1014 : BitVec 32) : Prop :=
  (∀ (k0_h44 : k0_cond44 v1014 = 1#1), ∀ a, (k0_off214 v1014) a + S1x768.size a ≤ S4096x768.size a)
theorem k0_off214_inb : ∀ (v1014 : BitVec 32) (k0_hw107 : k0_chk107 v1014), ∀ (k0_h44 : k0_cond44 v1014 = 1#1), ∀ a, (k0_off214 v1014) a + S1x768.size a ≤ S4096x768.size a := fun v1014 k0_hw107 k0_h44 => k0_hw107 k0_h44

def k0_off215 (i : grid0.Coords) : Fin 1 → Nat :=
  let arg0 : BitVec 32 := BitVec.ofNat 32 (i 0).val
  let c64_i32_454 : BitVec 32 := 64#32
  let v1019 : BitVec 32 := Scalar.muli arg0 c64_i32_454
  let c43_i32_455 : BitVec 32 := 43#32
  let v1020 : BitVec 32 := Scalar.addi v1019 c43_i32_455
  let v1021 : Index := Scalar.indexCast v1020
  ![v1021.toNat]
def k0_off216 (v1022 : BitVec 32) : Fin 2 → Nat :=
  let v1187 : Index := Scalar.indexCast v1022
  let c0_538 : Index := 0#32
  ![v1187.toNat, 0]
def k0_cond45 (v1022 : BitVec 32) : BitVec 1 :=
  let c0_i32_456 : BitVec 32 := 0#32
  let v1024 : BitVec 1 := Scalar.cmpi .sge v1022 c0_i32_456
  let v1025 : BitVec 32 := Scalar.extui v1024
  let c0_i32_457 : BitVec 32 := 0#32
  let v1026 : BitVec 1 := Scalar.cmpi .ne v1025 c0_i32_457
  v1026

def k0_chk108 (v1022 : BitVec 32) : Prop :=
  (∀ (k0_h45 : k0_cond45 v1022 = 1#1), ∀ a, (k0_off216 v1022) a + S1x768.size a ≤ S4096x768.size a)
theorem k0_off216_inb : ∀ (v1022 : BitVec 32) (k0_hw108 : k0_chk108 v1022), ∀ (k0_h45 : k0_cond45 v1022 = 1#1), ∀ a, (k0_off216 v1022) a + S1x768.size a ≤ S4096x768.size a := fun v1022 k0_hw108 k0_h45 => k0_hw108 k0_h45

def k0_off217 (i : grid0.Coords) : Fin 1 → Nat :=
  let arg0 : BitVec 32 := BitVec.ofNat 32 (i 0).val
  let c64_i32_458 : BitVec 32 := 64#32
  let v1027 : BitVec 32 := Scalar.muli arg0 c64_i32_458
  let c44_i32_459 : BitVec 32 := 44#32
  let v1028 : BitVec 32 := Scalar.addi v1027 c44_i32_459
  let v1029 : Index := Scalar.indexCast v1028
  ![v1029.toNat]
def k0_off218 (v1030 : BitVec 32) : Fin 2 → Nat :=
  let v1187 : Index := Scalar.indexCast v1030
  let c0_538 : Index := 0#32
  ![v1187.toNat, 0]
def k0_cond46 (v1030 : BitVec 32) : BitVec 1 :=
  let c0_i32_460 : BitVec 32 := 0#32
  let v1032 : BitVec 1 := Scalar.cmpi .sge v1030 c0_i32_460
  let v1033 : BitVec 32 := Scalar.extui v1032
  let c0_i32_461 : BitVec 32 := 0#32
  let v1034 : BitVec 1 := Scalar.cmpi .ne v1033 c0_i32_461
  v1034

def k0_chk109 (v1030 : BitVec 32) : Prop :=
  (∀ (k0_h46 : k0_cond46 v1030 = 1#1), ∀ a, (k0_off218 v1030) a + S1x768.size a ≤ S4096x768.size a)
theorem k0_off218_inb : ∀ (v1030 : BitVec 32) (k0_hw109 : k0_chk109 v1030), ∀ (k0_h46 : k0_cond46 v1030 = 1#1), ∀ a, (k0_off218 v1030) a + S1x768.size a ≤ S4096x768.size a := fun v1030 k0_hw109 k0_h46 => k0_hw109 k0_h46

def k0_off219 (i : grid0.Coords) : Fin 1 → Nat :=
  let arg0 : BitVec 32 := BitVec.ofNat 32 (i 0).val
  let c64_i32_462 : BitVec 32 := 64#32
  let v1035 : BitVec 32 := Scalar.muli arg0 c64_i32_462
  let c45_i32_463 : BitVec 32 := 45#32
  let v1036 : BitVec 32 := Scalar.addi v1035 c45_i32_463
  let v1037 : Index := Scalar.indexCast v1036
  ![v1037.toNat]
def k0_off220 (v1038 : BitVec 32) : Fin 2 → Nat :=
  let v1187 : Index := Scalar.indexCast v1038
  let c0_538 : Index := 0#32
  ![v1187.toNat, 0]
def k0_cond47 (v1038 : BitVec 32) : BitVec 1 :=
  let c0_i32_464 : BitVec 32 := 0#32
  let v1040 : BitVec 1 := Scalar.cmpi .sge v1038 c0_i32_464
  let v1041 : BitVec 32 := Scalar.extui v1040
  let c0_i32_465 : BitVec 32 := 0#32
  let v1042 : BitVec 1 := Scalar.cmpi .ne v1041 c0_i32_465
  v1042

def k0_chk110 (v1038 : BitVec 32) : Prop :=
  (∀ (k0_h47 : k0_cond47 v1038 = 1#1), ∀ a, (k0_off220 v1038) a + S1x768.size a ≤ S4096x768.size a)
theorem k0_off220_inb : ∀ (v1038 : BitVec 32) (k0_hw110 : k0_chk110 v1038), ∀ (k0_h47 : k0_cond47 v1038 = 1#1), ∀ a, (k0_off220 v1038) a + S1x768.size a ≤ S4096x768.size a := fun v1038 k0_hw110 k0_h47 => k0_hw110 k0_h47

def k0_off221 (i : grid0.Coords) : Fin 1 → Nat :=
  let arg0 : BitVec 32 := BitVec.ofNat 32 (i 0).val
  let c64_i32_466 : BitVec 32 := 64#32
  let v1043 : BitVec 32 := Scalar.muli arg0 c64_i32_466
  let c46_i32_467 : BitVec 32 := 46#32
  let v1044 : BitVec 32 := Scalar.addi v1043 c46_i32_467
  let v1045 : Index := Scalar.indexCast v1044
  ![v1045.toNat]
def k0_off222 (v1046 : BitVec 32) : Fin 2 → Nat :=
  let v1187 : Index := Scalar.indexCast v1046
  let c0_538 : Index := 0#32
  ![v1187.toNat, 0]
def k0_cond48 (v1046 : BitVec 32) : BitVec 1 :=
  let c0_i32_468 : BitVec 32 := 0#32
  let v1048 : BitVec 1 := Scalar.cmpi .sge v1046 c0_i32_468
  let v1049 : BitVec 32 := Scalar.extui v1048
  let c0_i32_469 : BitVec 32 := 0#32
  let v1050 : BitVec 1 := Scalar.cmpi .ne v1049 c0_i32_469
  v1050

def k0_chk111 (v1046 : BitVec 32) : Prop :=
  (∀ (k0_h48 : k0_cond48 v1046 = 1#1), ∀ a, (k0_off222 v1046) a + S1x768.size a ≤ S4096x768.size a)
theorem k0_off222_inb : ∀ (v1046 : BitVec 32) (k0_hw111 : k0_chk111 v1046), ∀ (k0_h48 : k0_cond48 v1046 = 1#1), ∀ a, (k0_off222 v1046) a + S1x768.size a ≤ S4096x768.size a := fun v1046 k0_hw111 k0_h48 => k0_hw111 k0_h48

def k0_off223 (i : grid0.Coords) : Fin 1 → Nat :=
  let arg0 : BitVec 32 := BitVec.ofNat 32 (i 0).val
  let c64_i32_470 : BitVec 32 := 64#32
  let v1051 : BitVec 32 := Scalar.muli arg0 c64_i32_470
  let c47_i32_471 : BitVec 32 := 47#32
  let v1052 : BitVec 32 := Scalar.addi v1051 c47_i32_471
  let v1053 : Index := Scalar.indexCast v1052
  ![v1053.toNat]
def k0_off224 (v1054 : BitVec 32) : Fin 2 → Nat :=
  let v1187 : Index := Scalar.indexCast v1054
  let c0_538 : Index := 0#32
  ![v1187.toNat, 0]
def k0_cond49 (v1054 : BitVec 32) : BitVec 1 :=
  let c0_i32_472 : BitVec 32 := 0#32
  let v1056 : BitVec 1 := Scalar.cmpi .sge v1054 c0_i32_472
  let v1057 : BitVec 32 := Scalar.extui v1056
  let c0_i32_473 : BitVec 32 := 0#32
  let v1058 : BitVec 1 := Scalar.cmpi .ne v1057 c0_i32_473
  v1058

def k0_chk112 (v1054 : BitVec 32) : Prop :=
  (∀ (k0_h49 : k0_cond49 v1054 = 1#1), ∀ a, (k0_off224 v1054) a + S1x768.size a ≤ S4096x768.size a)
theorem k0_off224_inb : ∀ (v1054 : BitVec 32) (k0_hw112 : k0_chk112 v1054), ∀ (k0_h49 : k0_cond49 v1054 = 1#1), ∀ a, (k0_off224 v1054) a + S1x768.size a ≤ S4096x768.size a := fun v1054 k0_hw112 k0_h49 => k0_hw112 k0_h49

def k0_off225 (i : grid0.Coords) : Fin 1 → Nat :=
  let arg0 : BitVec 32 := BitVec.ofNat 32 (i 0).val
  let c64_i32_474 : BitVec 32 := 64#32
  let v1059 : BitVec 32 := Scalar.muli arg0 c64_i32_474
  let c48_i32_475 : BitVec 32 := 48#32
  let v1060 : BitVec 32 := Scalar.addi v1059 c48_i32_475
  let v1061 : Index := Scalar.indexCast v1060
  ![v1061.toNat]
def k0_off226 (v1062 : BitVec 32) : Fin 2 → Nat :=
  let v1187 : Index := Scalar.indexCast v1062
  let c0_538 : Index := 0#32
  ![v1187.toNat, 0]
def k0_cond50 (v1062 : BitVec 32) : BitVec 1 :=
  let c0_i32_476 : BitVec 32 := 0#32
  let v1064 : BitVec 1 := Scalar.cmpi .sge v1062 c0_i32_476
  let v1065 : BitVec 32 := Scalar.extui v1064
  let c0_i32_477 : BitVec 32 := 0#32
  let v1066 : BitVec 1 := Scalar.cmpi .ne v1065 c0_i32_477
  v1066

def k0_chk113 (v1062 : BitVec 32) : Prop :=
  (∀ (k0_h50 : k0_cond50 v1062 = 1#1), ∀ a, (k0_off226 v1062) a + S1x768.size a ≤ S4096x768.size a)
theorem k0_off226_inb : ∀ (v1062 : BitVec 32) (k0_hw113 : k0_chk113 v1062), ∀ (k0_h50 : k0_cond50 v1062 = 1#1), ∀ a, (k0_off226 v1062) a + S1x768.size a ≤ S4096x768.size a := fun v1062 k0_hw113 k0_h50 => k0_hw113 k0_h50

def k0_off227 (i : grid0.Coords) : Fin 1 → Nat :=
  let arg0 : BitVec 32 := BitVec.ofNat 32 (i 0).val
  let c64_i32_478 : BitVec 32 := 64#32
  let v1067 : BitVec 32 := Scalar.muli arg0 c64_i32_478
  let c49_i32_479 : BitVec 32 := 49#32
  let v1068 : BitVec 32 := Scalar.addi v1067 c49_i32_479
  let v1069 : Index := Scalar.indexCast v1068
  ![v1069.toNat]
def k0_off228 (v1070 : BitVec 32) : Fin 2 → Nat :=
  let v1187 : Index := Scalar.indexCast v1070
  let c0_538 : Index := 0#32
  ![v1187.toNat, 0]
def k0_cond51 (v1070 : BitVec 32) : BitVec 1 :=
  let c0_i32_480 : BitVec 32 := 0#32
  let v1072 : BitVec 1 := Scalar.cmpi .sge v1070 c0_i32_480
  let v1073 : BitVec 32 := Scalar.extui v1072
  let c0_i32_481 : BitVec 32 := 0#32
  let v1074 : BitVec 1 := Scalar.cmpi .ne v1073 c0_i32_481
  v1074

def k0_chk114 (v1070 : BitVec 32) : Prop :=
  (∀ (k0_h51 : k0_cond51 v1070 = 1#1), ∀ a, (k0_off228 v1070) a + S1x768.size a ≤ S4096x768.size a)
theorem k0_off228_inb : ∀ (v1070 : BitVec 32) (k0_hw114 : k0_chk114 v1070), ∀ (k0_h51 : k0_cond51 v1070 = 1#1), ∀ a, (k0_off228 v1070) a + S1x768.size a ≤ S4096x768.size a := fun v1070 k0_hw114 k0_h51 => k0_hw114 k0_h51

def k0_off229 (i : grid0.Coords) : Fin 1 → Nat :=
  let arg0 : BitVec 32 := BitVec.ofNat 32 (i 0).val
  let c64_i32_482 : BitVec 32 := 64#32
  let v1075 : BitVec 32 := Scalar.muli arg0 c64_i32_482
  let c50_i32_483 : BitVec 32 := 50#32
  let v1076 : BitVec 32 := Scalar.addi v1075 c50_i32_483
  let v1077 : Index := Scalar.indexCast v1076
  ![v1077.toNat]
def k0_off230 (v1078 : BitVec 32) : Fin 2 → Nat :=
  let v1187 : Index := Scalar.indexCast v1078
  let c0_538 : Index := 0#32
  ![v1187.toNat, 0]
def k0_cond52 (v1078 : BitVec 32) : BitVec 1 :=
  let c0_i32_484 : BitVec 32 := 0#32
  let v1080 : BitVec 1 := Scalar.cmpi .sge v1078 c0_i32_484
  let v1081 : BitVec 32 := Scalar.extui v1080
  let c0_i32_485 : BitVec 32 := 0#32
  let v1082 : BitVec 1 := Scalar.cmpi .ne v1081 c0_i32_485
  v1082

def k0_chk115 (v1078 : BitVec 32) : Prop :=
  (∀ (k0_h52 : k0_cond52 v1078 = 1#1), ∀ a, (k0_off230 v1078) a + S1x768.size a ≤ S4096x768.size a)
theorem k0_off230_inb : ∀ (v1078 : BitVec 32) (k0_hw115 : k0_chk115 v1078), ∀ (k0_h52 : k0_cond52 v1078 = 1#1), ∀ a, (k0_off230 v1078) a + S1x768.size a ≤ S4096x768.size a := fun v1078 k0_hw115 k0_h52 => k0_hw115 k0_h52

def k0_off231 (i : grid0.Coords) : Fin 1 → Nat :=
  let arg0 : BitVec 32 := BitVec.ofNat 32 (i 0).val
  let c64_i32_486 : BitVec 32 := 64#32
  let v1083 : BitVec 32 := Scalar.muli arg0 c64_i32_486
  let c51_i32_487 : BitVec 32 := 51#32
  let v1084 : BitVec 32 := Scalar.addi v1083 c51_i32_487
  let v1085 : Index := Scalar.indexCast v1084
  ![v1085.toNat]
def k0_off232 (v1086 : BitVec 32) : Fin 2 → Nat :=
  let v1187 : Index := Scalar.indexCast v1086
  let c0_538 : Index := 0#32
  ![v1187.toNat, 0]
def k0_cond53 (v1086 : BitVec 32) : BitVec 1 :=
  let c0_i32_488 : BitVec 32 := 0#32
  let v1088 : BitVec 1 := Scalar.cmpi .sge v1086 c0_i32_488
  let v1089 : BitVec 32 := Scalar.extui v1088
  let c0_i32_489 : BitVec 32 := 0#32
  let v1090 : BitVec 1 := Scalar.cmpi .ne v1089 c0_i32_489
  v1090

def k0_chk116 (v1086 : BitVec 32) : Prop :=
  (∀ (k0_h53 : k0_cond53 v1086 = 1#1), ∀ a, (k0_off232 v1086) a + S1x768.size a ≤ S4096x768.size a)
theorem k0_off232_inb : ∀ (v1086 : BitVec 32) (k0_hw116 : k0_chk116 v1086), ∀ (k0_h53 : k0_cond53 v1086 = 1#1), ∀ a, (k0_off232 v1086) a + S1x768.size a ≤ S4096x768.size a := fun v1086 k0_hw116 k0_h53 => k0_hw116 k0_h53

def k0_off233 (i : grid0.Coords) : Fin 1 → Nat :=
  let arg0 : BitVec 32 := BitVec.ofNat 32 (i 0).val
  let c64_i32_490 : BitVec 32 := 64#32
  let v1091 : BitVec 32 := Scalar.muli arg0 c64_i32_490
  let c52_i32_491 : BitVec 32 := 52#32
  let v1092 : BitVec 32 := Scalar.addi v1091 c52_i32_491
  let v1093 : Index := Scalar.indexCast v1092
  ![v1093.toNat]
def k0_off234 (v1094 : BitVec 32) : Fin 2 → Nat :=
  let v1187 : Index := Scalar.indexCast v1094
  let c0_538 : Index := 0#32
  ![v1187.toNat, 0]
def k0_cond54 (v1094 : BitVec 32) : BitVec 1 :=
  let c0_i32_492 : BitVec 32 := 0#32
  let v1096 : BitVec 1 := Scalar.cmpi .sge v1094 c0_i32_492
  let v1097 : BitVec 32 := Scalar.extui v1096
  let c0_i32_493 : BitVec 32 := 0#32
  let v1098 : BitVec 1 := Scalar.cmpi .ne v1097 c0_i32_493
  v1098

def k0_chk117 (v1094 : BitVec 32) : Prop :=
  (∀ (k0_h54 : k0_cond54 v1094 = 1#1), ∀ a, (k0_off234 v1094) a + S1x768.size a ≤ S4096x768.size a)
theorem k0_off234_inb : ∀ (v1094 : BitVec 32) (k0_hw117 : k0_chk117 v1094), ∀ (k0_h54 : k0_cond54 v1094 = 1#1), ∀ a, (k0_off234 v1094) a + S1x768.size a ≤ S4096x768.size a := fun v1094 k0_hw117 k0_h54 => k0_hw117 k0_h54

def k0_off235 (i : grid0.Coords) : Fin 1 → Nat :=
  let arg0 : BitVec 32 := BitVec.ofNat 32 (i 0).val
  let c64_i32_494 : BitVec 32 := 64#32
  let v1099 : BitVec 32 := Scalar.muli arg0 c64_i32_494
  let c53_i32_495 : BitVec 32 := 53#32
  let v1100 : BitVec 32 := Scalar.addi v1099 c53_i32_495
  let v1101 : Index := Scalar.indexCast v1100
  ![v1101.toNat]
def k0_off236 (v1102 : BitVec 32) : Fin 2 → Nat :=
  let v1187 : Index := Scalar.indexCast v1102
  let c0_538 : Index := 0#32
  ![v1187.toNat, 0]
def k0_cond55 (v1102 : BitVec 32) : BitVec 1 :=
  let c0_i32_496 : BitVec 32 := 0#32
  let v1104 : BitVec 1 := Scalar.cmpi .sge v1102 c0_i32_496
  let v1105 : BitVec 32 := Scalar.extui v1104
  let c0_i32_497 : BitVec 32 := 0#32
  let v1106 : BitVec 1 := Scalar.cmpi .ne v1105 c0_i32_497
  v1106

def k0_chk118 (v1102 : BitVec 32) : Prop :=
  (∀ (k0_h55 : k0_cond55 v1102 = 1#1), ∀ a, (k0_off236 v1102) a + S1x768.size a ≤ S4096x768.size a)
theorem k0_off236_inb : ∀ (v1102 : BitVec 32) (k0_hw118 : k0_chk118 v1102), ∀ (k0_h55 : k0_cond55 v1102 = 1#1), ∀ a, (k0_off236 v1102) a + S1x768.size a ≤ S4096x768.size a := fun v1102 k0_hw118 k0_h55 => k0_hw118 k0_h55

def k0_off237 (i : grid0.Coords) : Fin 1 → Nat :=
  let arg0 : BitVec 32 := BitVec.ofNat 32 (i 0).val
  let c64_i32_498 : BitVec 32 := 64#32
  let v1107 : BitVec 32 := Scalar.muli arg0 c64_i32_498
  let c54_i32_499 : BitVec 32 := 54#32
  let v1108 : BitVec 32 := Scalar.addi v1107 c54_i32_499
  let v1109 : Index := Scalar.indexCast v1108
  ![v1109.toNat]
def k0_off238 (v1110 : BitVec 32) : Fin 2 → Nat :=
  let v1187 : Index := Scalar.indexCast v1110
  let c0_538 : Index := 0#32
  ![v1187.toNat, 0]
def k0_cond56 (v1110 : BitVec 32) : BitVec 1 :=
  let c0_i32_500 : BitVec 32 := 0#32
  let v1112 : BitVec 1 := Scalar.cmpi .sge v1110 c0_i32_500
  let v1113 : BitVec 32 := Scalar.extui v1112
  let c0_i32_501 : BitVec 32 := 0#32
  let v1114 : BitVec 1 := Scalar.cmpi .ne v1113 c0_i32_501
  v1114

def k0_chk119 (v1110 : BitVec 32) : Prop :=
  (∀ (k0_h56 : k0_cond56 v1110 = 1#1), ∀ a, (k0_off238 v1110) a + S1x768.size a ≤ S4096x768.size a)
theorem k0_off238_inb : ∀ (v1110 : BitVec 32) (k0_hw119 : k0_chk119 v1110), ∀ (k0_h56 : k0_cond56 v1110 = 1#1), ∀ a, (k0_off238 v1110) a + S1x768.size a ≤ S4096x768.size a := fun v1110 k0_hw119 k0_h56 => k0_hw119 k0_h56

def k0_off239 (i : grid0.Coords) : Fin 1 → Nat :=
  let arg0 : BitVec 32 := BitVec.ofNat 32 (i 0).val
  let c64_i32_502 : BitVec 32 := 64#32
  let v1115 : BitVec 32 := Scalar.muli arg0 c64_i32_502
  let c55_i32_503 : BitVec 32 := 55#32
  let v1116 : BitVec 32 := Scalar.addi v1115 c55_i32_503
  let v1117 : Index := Scalar.indexCast v1116
  ![v1117.toNat]
def k0_off240 (v1118 : BitVec 32) : Fin 2 → Nat :=
  let v1187 : Index := Scalar.indexCast v1118
  let c0_538 : Index := 0#32
  ![v1187.toNat, 0]
def k0_cond57 (v1118 : BitVec 32) : BitVec 1 :=
  let c0_i32_504 : BitVec 32 := 0#32
  let v1120 : BitVec 1 := Scalar.cmpi .sge v1118 c0_i32_504
  let v1121 : BitVec 32 := Scalar.extui v1120
  let c0_i32_505 : BitVec 32 := 0#32
  let v1122 : BitVec 1 := Scalar.cmpi .ne v1121 c0_i32_505
  v1122

def k0_chk120 (v1118 : BitVec 32) : Prop :=
  (∀ (k0_h57 : k0_cond57 v1118 = 1#1), ∀ a, (k0_off240 v1118) a + S1x768.size a ≤ S4096x768.size a)
theorem k0_off240_inb : ∀ (v1118 : BitVec 32) (k0_hw120 : k0_chk120 v1118), ∀ (k0_h57 : k0_cond57 v1118 = 1#1), ∀ a, (k0_off240 v1118) a + S1x768.size a ≤ S4096x768.size a := fun v1118 k0_hw120 k0_h57 => k0_hw120 k0_h57

def k0_off241 (i : grid0.Coords) : Fin 1 → Nat :=
  let arg0 : BitVec 32 := BitVec.ofNat 32 (i 0).val
  let c64_i32_506 : BitVec 32 := 64#32
  let v1123 : BitVec 32 := Scalar.muli arg0 c64_i32_506
  let c56_i32_507 : BitVec 32 := 56#32
  let v1124 : BitVec 32 := Scalar.addi v1123 c56_i32_507
  let v1125 : Index := Scalar.indexCast v1124
  ![v1125.toNat]
def k0_off242 (v1126 : BitVec 32) : Fin 2 → Nat :=
  let v1187 : Index := Scalar.indexCast v1126
  let c0_538 : Index := 0#32
  ![v1187.toNat, 0]
def k0_cond58 (v1126 : BitVec 32) : BitVec 1 :=
  let c0_i32_508 : BitVec 32 := 0#32
  let v1128 : BitVec 1 := Scalar.cmpi .sge v1126 c0_i32_508
  let v1129 : BitVec 32 := Scalar.extui v1128
  let c0_i32_509 : BitVec 32 := 0#32
  let v1130 : BitVec 1 := Scalar.cmpi .ne v1129 c0_i32_509
  v1130

def k0_chk121 (v1126 : BitVec 32) : Prop :=
  (∀ (k0_h58 : k0_cond58 v1126 = 1#1), ∀ a, (k0_off242 v1126) a + S1x768.size a ≤ S4096x768.size a)
theorem k0_off242_inb : ∀ (v1126 : BitVec 32) (k0_hw121 : k0_chk121 v1126), ∀ (k0_h58 : k0_cond58 v1126 = 1#1), ∀ a, (k0_off242 v1126) a + S1x768.size a ≤ S4096x768.size a := fun v1126 k0_hw121 k0_h58 => k0_hw121 k0_h58

def k0_off243 (i : grid0.Coords) : Fin 1 → Nat :=
  let arg0 : BitVec 32 := BitVec.ofNat 32 (i 0).val
  let c64_i32_510 : BitVec 32 := 64#32
  let v1131 : BitVec 32 := Scalar.muli arg0 c64_i32_510
  let c57_i32_511 : BitVec 32 := 57#32
  let v1132 : BitVec 32 := Scalar.addi v1131 c57_i32_511
  let v1133 : Index := Scalar.indexCast v1132
  ![v1133.toNat]
def k0_off244 (v1134 : BitVec 32) : Fin 2 → Nat :=
  let v1187 : Index := Scalar.indexCast v1134
  let c0_538 : Index := 0#32
  ![v1187.toNat, 0]
def k0_cond59 (v1134 : BitVec 32) : BitVec 1 :=
  let c0_i32_512 : BitVec 32 := 0#32
  let v1136 : BitVec 1 := Scalar.cmpi .sge v1134 c0_i32_512
  let v1137 : BitVec 32 := Scalar.extui v1136
  let c0_i32_513 : BitVec 32 := 0#32
  let v1138 : BitVec 1 := Scalar.cmpi .ne v1137 c0_i32_513
  v1138

def k0_chk122 (v1134 : BitVec 32) : Prop :=
  (∀ (k0_h59 : k0_cond59 v1134 = 1#1), ∀ a, (k0_off244 v1134) a + S1x768.size a ≤ S4096x768.size a)
theorem k0_off244_inb : ∀ (v1134 : BitVec 32) (k0_hw122 : k0_chk122 v1134), ∀ (k0_h59 : k0_cond59 v1134 = 1#1), ∀ a, (k0_off244 v1134) a + S1x768.size a ≤ S4096x768.size a := fun v1134 k0_hw122 k0_h59 => k0_hw122 k0_h59

def k0_off245 (i : grid0.Coords) : Fin 1 → Nat :=
  let arg0 : BitVec 32 := BitVec.ofNat 32 (i 0).val
  let c64_i32_514 : BitVec 32 := 64#32
  let v1139 : BitVec 32 := Scalar.muli arg0 c64_i32_514
  let c58_i32_515 : BitVec 32 := 58#32
  let v1140 : BitVec 32 := Scalar.addi v1139 c58_i32_515
  let v1141 : Index := Scalar.indexCast v1140
  ![v1141.toNat]
def k0_off246 (v1142 : BitVec 32) : Fin 2 → Nat :=
  let v1187 : Index := Scalar.indexCast v1142
  let c0_538 : Index := 0#32
  ![v1187.toNat, 0]
def k0_cond60 (v1142 : BitVec 32) : BitVec 1 :=
  let c0_i32_516 : BitVec 32 := 0#32
  let v1144 : BitVec 1 := Scalar.cmpi .sge v1142 c0_i32_516
  let v1145 : BitVec 32 := Scalar.extui v1144
  let c0_i32_517 : BitVec 32 := 0#32
  let v1146 : BitVec 1 := Scalar.cmpi .ne v1145 c0_i32_517
  v1146

def k0_chk123 (v1142 : BitVec 32) : Prop :=
  (∀ (k0_h60 : k0_cond60 v1142 = 1#1), ∀ a, (k0_off246 v1142) a + S1x768.size a ≤ S4096x768.size a)
theorem k0_off246_inb : ∀ (v1142 : BitVec 32) (k0_hw123 : k0_chk123 v1142), ∀ (k0_h60 : k0_cond60 v1142 = 1#1), ∀ a, (k0_off246 v1142) a + S1x768.size a ≤ S4096x768.size a := fun v1142 k0_hw123 k0_h60 => k0_hw123 k0_h60

def k0_off247 (i : grid0.Coords) : Fin 1 → Nat :=
  let arg0 : BitVec 32 := BitVec.ofNat 32 (i 0).val
  let c64_i32_518 : BitVec 32 := 64#32
  let v1147 : BitVec 32 := Scalar.muli arg0 c64_i32_518
  let c59_i32_519 : BitVec 32 := 59#32
  let v1148 : BitVec 32 := Scalar.addi v1147 c59_i32_519
  let v1149 : Index := Scalar.indexCast v1148
  ![v1149.toNat]
def k0_off248 (v1150 : BitVec 32) : Fin 2 → Nat :=
  let v1187 : Index := Scalar.indexCast v1150
  let c0_538 : Index := 0#32
  ![v1187.toNat, 0]
def k0_cond61 (v1150 : BitVec 32) : BitVec 1 :=
  let c0_i32_520 : BitVec 32 := 0#32
  let v1152 : BitVec 1 := Scalar.cmpi .sge v1150 c0_i32_520
  let v1153 : BitVec 32 := Scalar.extui v1152
  let c0_i32_521 : BitVec 32 := 0#32
  let v1154 : BitVec 1 := Scalar.cmpi .ne v1153 c0_i32_521
  v1154

def k0_chk124 (v1150 : BitVec 32) : Prop :=
  (∀ (k0_h61 : k0_cond61 v1150 = 1#1), ∀ a, (k0_off248 v1150) a + S1x768.size a ≤ S4096x768.size a)
theorem k0_off248_inb : ∀ (v1150 : BitVec 32) (k0_hw124 : k0_chk124 v1150), ∀ (k0_h61 : k0_cond61 v1150 = 1#1), ∀ a, (k0_off248 v1150) a + S1x768.size a ≤ S4096x768.size a := fun v1150 k0_hw124 k0_h61 => k0_hw124 k0_h61

def k0_off249 (i : grid0.Coords) : Fin 1 → Nat :=
  let arg0 : BitVec 32 := BitVec.ofNat 32 (i 0).val
  let c64_i32_522 : BitVec 32 := 64#32
  let v1155 : BitVec 32 := Scalar.muli arg0 c64_i32_522
  let c60_i32_523 : BitVec 32 := 60#32
  let v1156 : BitVec 32 := Scalar.addi v1155 c60_i32_523
  let v1157 : Index := Scalar.indexCast v1156
  ![v1157.toNat]
def k0_off250 (v1158 : BitVec 32) : Fin 2 → Nat :=
  let v1187 : Index := Scalar.indexCast v1158
  let c0_538 : Index := 0#32
  ![v1187.toNat, 0]
def k0_cond62 (v1158 : BitVec 32) : BitVec 1 :=
  let c0_i32_524 : BitVec 32 := 0#32
  let v1160 : BitVec 1 := Scalar.cmpi .sge v1158 c0_i32_524
  let v1161 : BitVec 32 := Scalar.extui v1160
  let c0_i32_525 : BitVec 32 := 0#32
  let v1162 : BitVec 1 := Scalar.cmpi .ne v1161 c0_i32_525
  v1162

def k0_chk125 (v1158 : BitVec 32) : Prop :=
  (∀ (k0_h62 : k0_cond62 v1158 = 1#1), ∀ a, (k0_off250 v1158) a + S1x768.size a ≤ S4096x768.size a)
theorem k0_off250_inb : ∀ (v1158 : BitVec 32) (k0_hw125 : k0_chk125 v1158), ∀ (k0_h62 : k0_cond62 v1158 = 1#1), ∀ a, (k0_off250 v1158) a + S1x768.size a ≤ S4096x768.size a := fun v1158 k0_hw125 k0_h62 => k0_hw125 k0_h62

def k0_off251 (i : grid0.Coords) : Fin 1 → Nat :=
  let arg0 : BitVec 32 := BitVec.ofNat 32 (i 0).val
  let c64_i32_526 : BitVec 32 := 64#32
  let v1163 : BitVec 32 := Scalar.muli arg0 c64_i32_526
  let c61_i32_527 : BitVec 32 := 61#32
  let v1164 : BitVec 32 := Scalar.addi v1163 c61_i32_527
  let v1165 : Index := Scalar.indexCast v1164
  ![v1165.toNat]
def k0_off252 (v1166 : BitVec 32) : Fin 2 → Nat :=
  let v1187 : Index := Scalar.indexCast v1166
  let c0_538 : Index := 0#32
  ![v1187.toNat, 0]
def k0_cond63 (v1166 : BitVec 32) : BitVec 1 :=
  let c0_i32_528 : BitVec 32 := 0#32
  let v1168 : BitVec 1 := Scalar.cmpi .sge v1166 c0_i32_528
  let v1169 : BitVec 32 := Scalar.extui v1168
  let c0_i32_529 : BitVec 32 := 0#32
  let v1170 : BitVec 1 := Scalar.cmpi .ne v1169 c0_i32_529
  v1170

def k0_chk126 (v1166 : BitVec 32) : Prop :=
  (∀ (k0_h63 : k0_cond63 v1166 = 1#1), ∀ a, (k0_off252 v1166) a + S1x768.size a ≤ S4096x768.size a)
theorem k0_off252_inb : ∀ (v1166 : BitVec 32) (k0_hw126 : k0_chk126 v1166), ∀ (k0_h63 : k0_cond63 v1166 = 1#1), ∀ a, (k0_off252 v1166) a + S1x768.size a ≤ S4096x768.size a := fun v1166 k0_hw126 k0_h63 => k0_hw126 k0_h63

def k0_off253 (i : grid0.Coords) : Fin 1 → Nat :=
  let arg0 : BitVec 32 := BitVec.ofNat 32 (i 0).val
  let c64_i32_530 : BitVec 32 := 64#32
  let v1171 : BitVec 32 := Scalar.muli arg0 c64_i32_530
  let c62_i32_531 : BitVec 32 := 62#32
  let v1172 : BitVec 32 := Scalar.addi v1171 c62_i32_531
  let v1173 : Index := Scalar.indexCast v1172
  ![v1173.toNat]
def k0_off254 (v1174 : BitVec 32) : Fin 2 → Nat :=
  let v1187 : Index := Scalar.indexCast v1174
  let c0_538 : Index := 0#32
  ![v1187.toNat, 0]
def k0_cond64 (v1174 : BitVec 32) : BitVec 1 :=
  let c0_i32_532 : BitVec 32 := 0#32
  let v1176 : BitVec 1 := Scalar.cmpi .sge v1174 c0_i32_532
  let v1177 : BitVec 32 := Scalar.extui v1176
  let c0_i32_533 : BitVec 32 := 0#32
  let v1178 : BitVec 1 := Scalar.cmpi .ne v1177 c0_i32_533
  v1178

def k0_chk127 (v1174 : BitVec 32) : Prop :=
  (∀ (k0_h64 : k0_cond64 v1174 = 1#1), ∀ a, (k0_off254 v1174) a + S1x768.size a ≤ S4096x768.size a)
theorem k0_off254_inb : ∀ (v1174 : BitVec 32) (k0_hw127 : k0_chk127 v1174), ∀ (k0_h64 : k0_cond64 v1174 = 1#1), ∀ a, (k0_off254 v1174) a + S1x768.size a ≤ S4096x768.size a := fun v1174 k0_hw127 k0_h64 => k0_hw127 k0_h64

def k0_off255 (i : grid0.Coords) : Fin 1 → Nat :=
  let arg0 : BitVec 32 := BitVec.ofNat 32 (i 0).val
  let c64_i32_534 : BitVec 32 := 64#32
  let v1179 : BitVec 32 := Scalar.muli arg0 c64_i32_534
  let c63_i32_535 : BitVec 32 := 63#32
  let v1180 : BitVec 32 := Scalar.addi v1179 c63_i32_535
  let v1181 : Index := Scalar.indexCast v1180
  ![v1181.toNat]
def k0_off256 (v1182 : BitVec 32) : Fin 2 → Nat :=
  let v1187 : Index := Scalar.indexCast v1182
  let c0_538 : Index := 0#32
  ![v1187.toNat, 0]
def k0_cond65 (v1182 : BitVec 32) : BitVec 1 :=
  let c0_i32_536 : BitVec 32 := 0#32
  let v1184 : BitVec 1 := Scalar.cmpi .sge v1182 c0_i32_536
  let v1185 : BitVec 32 := Scalar.extui v1184
  let c0_i32_537 : BitVec 32 := 0#32
  let v1186 : BitVec 1 := Scalar.cmpi .ne v1185 c0_i32_537
  v1186

def k0_chk128 (v1182 : BitVec 32) : Prop :=
  (∀ (k0_h65 : k0_cond65 v1182 = 1#1), ∀ a, (k0_off256 v1182) a + S1x768.size a ≤ S4096x768.size a)
theorem k0_off256_inb : ∀ (v1182 : BitVec 32) (k0_hw128 : k0_chk128 v1182), ∀ (k0_h65 : k0_cond65 v1182 = 1#1), ∀ a, (k0_off256 v1182) a + S1x768.size a ≤ S4096x768.size a := fun v1182 k0_hw128 k0_h65 => k0_hw128 k0_h65

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096 : Shape := ⟨1, ![4096]⟩
abbrev S4096x768 : Shape := ⟨2, ![4096, 768]⟩
abbrev S64x768x768 : Shape := ⟨3, ![64, 768, 768]⟩
abbrev S64x1x768 : Shape := ⟨3, ![64, 1, 768]⟩
abbrev S64x64x1 : Shape := ⟨3, ![64, 64, 1]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S64x64x768 : Shape := ⟨3, ![64, 64, 768]⟩

abbrev nBuf : Space → Nat
  | .hbm => 75
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x768, .f32⟩
  | .hbm, ⟨2, _⟩ => ⟨S64x768x768, .f32⟩
  | .hbm, ⟨3, _⟩ => ⟨S64x1x768, .f32⟩
  | .hbm, ⟨4, _⟩ => ⟨S64x768x768, .f32⟩
  | .hbm, ⟨5, _⟩ => ⟨S64x1x768, .f32⟩
  | .hbm, ⟨6, _⟩ => ⟨S64x768x768, .f32⟩
  | .hbm, ⟨7, _⟩ => ⟨S64x1x768, .f32⟩
  | .hbm, ⟨8, _⟩ => ⟨S64x64x1, .f32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S1x1, .i32⟩
  | .hbm, ⟨25, _⟩ => ⟨S4096x1, .i32⟩
  | .hbm, ⟨26, _⟩ => ⟨S4096x1, .i1⟩
  | .hbm, ⟨27, _⟩ => ⟨S4096x1, .i1⟩
  | .hbm, ⟨28, _⟩ => ⟨S_, .i1⟩
  | .hbm, ⟨29, _⟩ => ⟨S4096, .i1⟩
  | .hbm, ⟨30, _⟩ => ⟨S4096x768, .f32⟩
  | .hbm, ⟨31, _⟩ => ⟨S4096x768, .i1⟩
  | .hbm, ⟨32, _⟩ => ⟨S_, .f32⟩
  | .hbm, ⟨33, _⟩ => ⟨S4096x768, .f32⟩
  | .hbm, ⟨34, _⟩ => ⟨S4096x768, .f32⟩
  | .hbm, ⟨35, _⟩ => ⟨S64x64x768, .f32⟩
  | .hbm, ⟨36, _⟩ => ⟨S64x64x768, .f32⟩
  | .hbm, ⟨37, _⟩ => ⟨S64x64x768, .f32⟩
  | .hbm, ⟨38, _⟩ => ⟨S64x64x768, .f32⟩
  | .hbm, ⟨39, _⟩ => ⟨S64x64x768, .f32⟩
  | .hbm, ⟨40, _⟩ => ⟨S64x64x768, .f32⟩
  | .hbm, ⟨41, _⟩ => ⟨S64x64x768, .f32⟩
  | .hbm, ⟨42, _⟩ => ⟨S64x64x768, .f32⟩
  | .hbm, ⟨43, _⟩ => ⟨S64x64x768, .f32⟩
  | .hbm, ⟨44, _⟩ => ⟨S_, .f32⟩
  | .hbm, ⟨45, _⟩ => ⟨S64x64x768, .f32⟩
  | .hbm, ⟨46, _⟩ => ⟨S64x64x768, .f32⟩
  | .hbm, ⟨47, _⟩ => ⟨S_, .f32⟩
  | .hbm, ⟨48, _⟩ => ⟨S64x64x768, .f32⟩
  | .hbm, ⟨49, _⟩ => ⟨S64x64x768, .f32⟩
  | .hbm, ⟨50, _⟩ => ⟨S64x64x768, .f32⟩
  | .hbm, ⟨51, _⟩ => ⟨S64x64x768, .f32⟩
  | .hbm, ⟨52, _⟩ => ⟨S64x64x768, .f32⟩
  | .hbm, ⟨53, _⟩ => ⟨S64x64x768, .f32⟩
  | .hbm, ⟨54, _⟩ => ⟨S64x64x768, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S4096, .f32⟩
  | .hbm, ⟨59, _⟩ => ⟨S64x64x1, .f32⟩
  | .hbm, ⟨60, _⟩ => ⟨S64x64x1, .f32⟩
  | .hbm, ⟨61, _⟩ => ⟨S64x64x768, .f32⟩
  | .hbm, ⟨62, _⟩ => ⟨S64x64x768, .f32⟩
  | .hbm, ⟨63, _⟩ => ⟨S_, .f32⟩
  | .hbm, ⟨64, _⟩ => ⟨S4096x768, .f32⟩
  | .hbm, ⟨65, _⟩ => ⟨S4096x768, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S4096x1, .i32⟩
  | .hbm, ⟨74, _⟩ => ⟨S4096x768, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_0 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst : Ref sig .tc := ⟨.hbm, 63, rfl⟩
abbrev main_v22 : Ref sig .tc := ⟨.hbm, 64, rfl⟩
abbrev main_v23 : Ref sig .tc := ⟨.hbm, 65, rfl⟩
abbrev main_c_1 : Ref sig .tc := ⟨.hbm, 66, rfl⟩
abbrev main_v24 : Ref sig .tc := ⟨.hbm, 67, rfl⟩
abbrev main_v25 : Ref sig .tc := ⟨.hbm, 68, rfl⟩
abbrev main_c_2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Router.lean ====
abbrev S4096x768 : Shape := ⟨2, ![4096, 768]⟩
abbrev S768x64 : Shape := ⟨2, ![768, 64]⟩
abbrev S4096x64 : Shape := ⟨2, ![4096, 64]⟩
abbrev S64x64 : Shape := ⟨2, ![64, 64]⟩
abbrev S256x768 : Shape := ⟨2, ![256, 768]⟩
abbrev S256x64 : Shape := ⟨2, ![256, 64]⟩
abbrev S8x64 : Shape := ⟨2, ![8, 64]⟩
abbrev S256 : Shape := ⟨1, ![256]⟩
abbrev S256x1 : Shape := ⟨2, ![256, 1]⟩
abbrev S1x64 : Shape := ⟨2, ![1, 64]⟩
abbrev S255x64 : Shape := ⟨2, ![255, 64]⟩
abbrev S2x64 : Shape := ⟨2, ![2, 64]⟩
abbrev S254x64 : Shape := ⟨2, ![254, 64]⟩
abbrev S4x64 : Shape := ⟨2, ![4, 64]⟩
abbrev S252x64 : Shape := ⟨2, ![252, 64]⟩
abbrev S248x64 : Shape := ⟨2, ![248, 64]⟩
abbrev S16x64 : Shape := ⟨2, ![16, 64]⟩
abbrev S240x64 : Shape := ⟨2, ![240, 64]⟩
abbrev S32x64 : Shape := ⟨2, ![32, 64]⟩
abbrev S224x64 : Shape := ⟨2, ![224, 64]⟩
abbrev S192x64 : Shape := ⟨2, ![192, 64]⟩
abbrev S128x64 : Shape := ⟨2, ![128, 64]⟩
abbrev S_ : Shape := ⟨0, ![]⟩

abbrev nBuf : Space → Nat
  | .hbm => 15
  | .vmem => 11
  | .smem => 0
  | _ => 0

abbrev bufTy : (tb : Table) → Fin (tcTables nBuf tb) → BufTy
  | .hbm, ⟨0, _⟩ => ⟨S4096x768, .f32⟩
  | .hbm, ⟨1, _⟩ => ⟨S768x64, .f32⟩
  | .hbm, ⟨2, _⟩ => ⟨S4096x64, .f32⟩
  | .hbm, ⟨3, _⟩ => ⟨S4096x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .i1⟩
  | .hbm, ⟨10, _⟩ => ⟨S64x64, .i32⟩
  | .hbm, ⟨11, _⟩ => ⟨S_, .i32⟩
  | .hbm, ⟨12, _⟩ => ⟨S_, .i32⟩
  | .hbm, ⟨13, _⟩ => ⟨S64x64, .i32⟩
  | .hbm, ⟨14, _⟩ => ⟨S64x64, .i32⟩
  | .local _ .vmem, ⟨0, _⟩ => ⟨S256x768, .f32⟩
  | .local _ .vmem, ⟨1, _⟩ => ⟨S256x768, .f32⟩
  | .local _ .vmem, ⟨2, _⟩ => ⟨S768x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S8x64, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouterReferenceIdeal.lean ====
abbrev S4096x768 : Shape := ⟨2, ![4096, 768]⟩
abbrev S768x64 : Shape := ⟨2, ![768, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x1x1 : Shape := ⟨3, ![4096, 1, 1]⟩
abbrev S1 : Shape := ⟨1, ![1]⟩
abbrev S1x1x1 : Shape := ⟨3, ![1, 1, 1]⟩
abbrev S64x64 : Shape := ⟨2, ![64, 64]⟩
abbrev S4096x2 : Shape := ⟨2, ![4096, 2]⟩

abbrev nBuf : Space → Nat
  | .hbm => 107
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x64, .f32⟩
  | .hbm, ⟨16, _⟩ => ⟨S4096x64, .f32⟩
  | .hbm, ⟨17, _⟩ => ⟨S4096x1, .f32⟩
  | .hbm, ⟨18, _⟩ => ⟨S4096x1, .i32⟩
  | .hbm, ⟨19, _⟩ => ⟨S4096, .i32⟩
  | .hbm, ⟨20, _⟩ => ⟨S4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S4096x1, .i32⟩
  | .hbm, ⟨25, _⟩ => ⟨S1x64, .i32⟩
  | .hbm, ⟨26, _⟩ => ⟨S4096x64, .i32⟩
  | .hbm, ⟨27, _⟩ => ⟨S4096x64, .i32⟩
  | .hbm, ⟨28, _⟩ => ⟨S4096x64, .i1⟩
  | .hbm, ⟨29, _⟩ => ⟨S4096x64, .i32⟩
  | .hbm, ⟨30, _⟩ => ⟨S_, .i32⟩
  | .hbm, ⟨31, _⟩ => ⟨S_, .i32⟩
  | .hbm, ⟨32, _⟩ => ⟨S4096x64, .i32⟩
  | .hbm, ⟨33, _⟩ => ⟨S_, .i32⟩
  | .hbm, ⟨34, _⟩ => ⟨S4096x64, .i32⟩
  | .hbm, ⟨35, _⟩ => ⟨S4096x64, .i32⟩
  | .hbm, ⟨36, _⟩ => ⟨S4096x1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S4096x1x1, .i32⟩
  | .hbm, ⟨45, _⟩ => ⟨S1, .i32⟩
  | .hbm, ⟨46, _⟩ => ⟨S_, .i32⟩
  | .hbm, ⟨47, _⟩ => ⟨S4096x1x1, .i32⟩
  | .hbm, ⟨48, _⟩ => ⟨S4096x1x1, .i1⟩
  | .hbm, ⟨49, _⟩ => ⟨S1x1x1, .i32⟩
  | .hbm, ⟨50, _⟩ => ⟨S4096x1x1, .i32⟩
  | .hbm, ⟨51, _⟩ => ⟨S4096x1x1, .i1⟩
  | .hbm, ⟨52, _⟩ => ⟨S4096x1x1, .i1⟩
  | .hbm, ⟨53, _⟩ => ⟨S_, .i1⟩
  | .hbm, ⟨54, _⟩ => ⟨S4096x1, .i1⟩
  | .hbm, ⟨55, _⟩ => ⟨S4096x1, .i32⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S_, .i32⟩
  | .hbm, ⟨68, _⟩ => ⟨S64x64, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S4096x1, .i32⟩
  | .hbm, ⟨84, _⟩ => ⟨S4096x1, .i32⟩
  | .hbm, ⟨85, _⟩ => ⟨S4096x2, .i32⟩
  | .hbm, ⟨86, _⟩ => ⟨S64x64, .i32⟩
  | .hbm, ⟨87, _⟩ => ⟨S_, .f32⟩
  | .hbm, ⟨88, _⟩ => ⟨S64x64, .f32⟩
  | .hbm, ⟨89, _⟩ => ⟨S_, .i32⟩
  | .hbm, ⟨90, _⟩ => ⟨S4096, .i32⟩
  | .hbm, ⟨91, _⟩ => ⟨S4096, .i1⟩
  | .hbm, ⟨92, _⟩ => ⟨S_, .i32⟩
  | .hbm, ⟨93, _⟩ => ⟨S4096, .i32⟩
  | .hbm, ⟨94, _⟩ => ⟨S4096, .i32⟩
  | .hbm, ⟨95, _⟩ => ⟨S4096, .i32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S4096x1, .i32⟩
  | .hbm, ⟨104, _⟩ => ⟨S4096x1, .i32⟩
  | .hbm, ⟨105, _⟩ => ⟨S4096x2, .i32⟩
  | .hbm, ⟨106, _⟩ => ⟨S64x64, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_call1_call0_c : Ref sig .tc := ⟨.hbm, 30, rfl⟩
abbrev main_call1_call0_v0 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_c_4 : Ref sig .tc := ⟨.hbm, 56, rfl⟩
abbrev main_call2_v14 : Ref sig .tc := ⟨.hbm, 57, rfl⟩
abbrev main_v22 : Ref sig .tc := ⟨.hbm, 58, rfl⟩
abbrev main_v23 : Ref sig .tc := ⟨.hbm, 59, rfl⟩
abbrev main_c_2 : Ref sig .tc := ⟨.hbm, 60, rfl⟩
abbrev main_v24 : Ref sig .tc := ⟨.hbm, 61, rfl⟩
abbrev main_v25 : Ref sig .tc := ⟨.hbm, 62, rfl⟩
abbrev main_c_3 : Ref sig .tc := ⟨.hbm, 63, rfl⟩
abbrev main_call3_v0 : Ref sig .tc := ⟨.hbm, 64, rfl⟩
abbrev main_call3_v1 : Ref sig .tc := ⟨.hbm, 65, rfl⟩
abbrev main_v26 : Ref sig .tc := ⟨.hbm, 66, rfl⟩
abbrev main_c_4 : Ref sig .tc := ⟨.hbm, 67, rfl⟩
abbrev main_v27 : Ref sig .tc := ⟨.hbm, 68, rfl⟩
abbrev main_c_5 : Ref sig .tc := ⟨.hbm, 69, rfl⟩
abbrev main_v28 : Ref sig .tc := ⟨.hbm, 70, rfl⟩
abbrev main_v29 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_7 : Ref sig .tc := ⟨.hbm, 76, rfl⟩
abbrev main_v33 : Ref sig .tc := ⟨.hbm, 77, rfl⟩
abbrev main_v34 : Ref sig .tc := ⟨.hbm, 78, rfl⟩
abbrev main_c_8 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_9 : Ref sig .tc := ⟨.hbm, 87, rfl⟩
abbrev main_v42 : Ref sig .tc := ⟨.hbm, 88, rfl⟩
abbrev main_c_10 : Ref sig .tc := ⟨.hbm, 89, rfl⟩
abbrev main_v43 : Ref sig .tc := ⟨.hbm, 90, rfl⟩
abbrev main_v44 : Ref sig .tc := ⟨.hbm, 91, rfl⟩
abbrev main_c_11 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_12 : Ref sig .tc := ⟨.hbm, 96, rfl⟩
abbrev main_v48 : Ref sig .tc := ⟨.hbm, 97, rfl⟩
abbrev main_v49 : Ref sig .tc := ⟨.hbm, 98, rfl⟩
abbrev main_c_13 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩

abbrev nD : Nat := 1
abbrev τ : Topo := Topo.v7x

variable {F : FTy → Type} [FloatOps F]
-- ==== Proof.Steps.lean ====
/-
  The body of the expert kernel, said once per kind of step. The printed body is unrolled: 64 token rows are
  gathered, the expert network runs, 64 rows are stored back. Here a gather step, a store step and the network
  are each one definition, the printed functions are shown to be sequences of them, and each kind of step has
  one rule.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.FrameBody
public import Idealize.ShloMosaic.Lib.Pipeline.Frame

@[expose] public section

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the kernel's body returning `α`. -/
abbrev Pr (F : FTy → Type) [FloatOps F] (α : Type) := Prog (TpuEff nD τ sig (Elt F) Λ₀ .tc) α

/-! ## Where a step reads and writes -/

/-- The slot the step `k` of the grid point `i` reads, as the kernel computes it. -/
def slotOff (i : grid0.Coords) (k : Fin 64) : Fin 1 → Nat :=
  ![(Scalar.indexCast (Scalar.addi (Scalar.muli (BitVec.ofNat 32 (i 0).val) 64#32) (BitVec.ofNat 32 k.val))).toNat]

/-- It is slot `64 * i + k`. -/
theorem slotOff_eq (i : grid0.Coords) (k : Fin 64) : slotOff i k = ![64 * (i 0).val + k.val] := by
  have hi : (i 0).val < 64 := (i 0).isLt
  have hk := k.isLt
  unfold slotOff
  congr 1
  show ((BitVec.ofNat 32 (i 0).val * 64#32 + BitVec.ofNat 32 k.val : BitVec 32)).toNat = _
  rw [BitVec.toNat_add, BitVec.toNat_mul, BitVec.toNat_ofNat, BitVec.toNat_ofNat, BitVec.toNat_ofNat]
  omega

theorem slotOff_inb (i : grid0.Coords) (k : Fin 64) : ∀ a, slotOff i k a + S1.size a ≤ S4096.size a := by
  have hi : (i 0).val < 64 := (i 0).isLt
  have hk := k.isLt
  rw [slotOff_eq]
  intro a; fin_cases a
  show 64 * (i 0).val + k.val + 1 ≤ 4096
  omega

theorem row_inb (k : Fin 64) : ∀ a, (![k.val, 0] : Fin 2 → Nat) a + S1x768.size a ≤ S64x768.size a := by
  have hk := k.isLt
  intro a; fin_cases a
  · show k.val + 1 ≤ 64; omega
  · show 0 + 768 ≤ 768; omega

theorem row_slices (k : Fin 64) : S64x768.Slices ![k.val, 0] S1x768 := ⟨rfl, row_inb k⟩

/-- Row `k` of a block of 64 rows. -/
def rowOf (v : FVec F S64x768 .f32) (k : Fin 64) : FVec F S1x768 .f32 := extractStridedSlice S1x768 ![k.val, 0] v (row_slices k)

/-! ## The steps -/

section Steps

variable (i : grid0.Coords) (arg1 : Memref sig .tc .smem S4096 .i32) (arg2 : Memref sig .tc .vmem S4096x768 .f32)
  (arg3 : Memref sig .tc .vmem S1x768x768 .f32) (arg4 : Memref sig .tc .vmem S1x1x768 .f32) (arg5 : Memref sig .tc .vmem S1x768x768 .f32)
  (arg6 : Memref sig .tc .vmem S1x1x768 .f32) (arg7 : Memref sig .tc .vmem S1x768x768 .f32) (arg8 : Memref sig .tc .vmem S1x1x768 .f32)
  (arg9 : Memref sig .tc .vmem S1x64x1 .f32) (arg10 : Memref sig .tc .vmem S4096x768 .f32) (arg11 : Memref sig .tc .vmem S64x768 .f32)

/-- Before anything else, the first grid point clears the result. -/
def zeroFirst {α : Type} (rest : Pr F α) : Pr F α :=
  if h : k0_cond1 i = 1#1 then do
    let _ ← Prog.lift (.load arg10 (Rect.unit (s := S4096x768) ![0, 0] S4096x768.size inb_S4096x768_S4096x768_0_0).toLoadRect (View.loadsAt_vmem h_S4096x768))
    Prog.lift (.store arg10 (Rect.unit (s := S4096x768) ![0, 0] S4096x768.size inb_S4096x768_S4096x768_0_0) (k0_pay2 (F := F)) Finset.univ (View.stores_vmem_bits_univ h_S4096x768 rfl) (.inl rfl))
    rest
  else rest

/-- The first half of a gather: read slot `k`'s word and check that its row is one of the array's. -/
def gatherWord {α : Type} (k : Fin 64) (rest : (v : Elt F .i32) → k0_chk1 v → Pr F α) : Pr F α := do
  let v : Elt F .i32 ← smemLoad arg1 (Rect.unit (s := S4096) (slotOff i k) S1.size (slotOff_inb i k)) numel1_S1 rfl
  have h : k0_chk1 v := (← Prog.lift (TpuEff.assume (k0_chk1 v) (k0_chk1.dec v))).down
  rest v h

/-- The second: read the token's row, and the scratch row it goes to. -/
def gatherLoad {α : Type} (k : Fin 64) (v : Elt F .i32) (h : k0_chk1 v) (rest : FVec F S1x768 .f32 → Pr F α) : Pr F α := do
  let x : Vec F S1x768 .f32 ← Prog.lift (.load arg2 (Rect.unit (s := S4096x768) (k0_off2 v) S1x768.size (k0_off2_inb v h)).toLoadRect (View.loadsAt_vmem h_S1x768))
  let _ ← Prog.lift (.load arg11 (Rect.unit (s := S64x768) ![k.val, 0] S1x768.size (row_inb k)).toLoadRect (View.loadsAt_vmem h_S1x768))
  rest (k0_pay3 x)

/-- The third: write the row to the scratch. -/
def gatherStore {α : Type} (k : Fin 64) (x : FVec F S1x768 .f32) (rest : Pr F α) : Pr F α := do
  Prog.lift (.store arg11 (Rect.unit (s := S64x768) ![k.val, 0] S1x768.size (row_inb k)) x Finset.univ (View.stores_vmem_bits_univ h_S1x768 rfl) (.inl rfl))
  rest

/-- A whole gather step. -/
def gather {α : Type} (k : Fin 64) (rest : Pr F α) : Pr F α :=
  gatherWord i arg1 k fun v h => gatherLoad arg2 arg11 k v h fun x => gatherStore arg11 k x rest

/-- `n` gather steps from step `k` on. -/
def gathers {α : Type} : (n k : Nat) → k + n ≤ 64 → Pr F α → Pr F α
  | 0, _, _, rest => rest
  | n + 1, k, h, rest => gather i arg1 arg2 arg11 ⟨k, by omega⟩ (gathers n (k + 1) (by omega) rest)

/-- The expert network's loads: the gathered rows, the expert's weights and biases, the slots' weights. -/
def network {α : Type} (rest : Vec F S64x768 .f32 → Vec F S1x768x768 .f32 → Vec F S1x1x768 .f32 → Vec F S1x768x768 .f32 → Vec F S1x1x768 .f32
    → Vec F S1x768x768 .f32 → Vec F S1x1x768 .f32 → Vec F S1x64x1 .f32 → Pr F α) : Pr F α := do
  let x : Vec F S64x768 .f32 ← Prog.lift (.load arg11 (Rect.unit (s := S64x768) ![0, 0] S64x768.size inb_S64x768_S64x768_0_0).toLoadRect (View.loadsAt_vmem h_S64x768))
  let wg : Vec F S1x768x768 .f32 ← Prog.lift (.load arg3 (Rect.unit (s := S1x768x768) ![0, 0, 0] S1x768x768.size inb_S1x768x768_S1x768x768_0_0_0).toLoadRect (View.loadsAt_vmem h_S1x768x768))
  let bg : Vec F S1x1x768 .f32 ← Prog.lift (.load arg4 (Rect.unit (s := S1x1x768) ![0, 0, 0] S1x1x768.size inb_S1x1x768_S1x1x768_0_0_0).toLoadRect (View.loadsAt_vmem h_S1x1x768))
  let wv : Vec F S1x768x768 .f32 ← Prog.lift (.load arg5 (Rect.unit (s := S1x768x768) ![0, 0, 0] S1x768x768.size inb_S1x768x768_S1x768x768_0_0_0).toLoadRect (View.loadsAt_vmem h_S1x768x768))
  let bv : Vec F S1x1x768 .f32 ← Prog.lift (.load arg6 (Rect.unit (s := S1x1x768) ![0, 0, 0] S1x1x768.size inb_S1x1x768_S1x1x768_0_0_0).toLoadRect (View.loadsAt_vmem h_S1x1x768))
  let wo : Vec F S1x768x768 .f32 ← Prog.lift (.load arg7 (Rect.unit (s := S1x768x768) ![0, 0, 0] S1x768x768.size inb_S1x768x768_S1x768x768_0_0_0).toLoadRect (View.loadsAt_vmem h_S1x768x768))
  let bo : Vec F S1x1x768 .f32 ← Prog.lift (.load arg8 (Rect.unit (s := S1x1x768) ![0, 0, 0] S1x1x768.size inb_S1x1x768_S1x1x768_0_0_0).toLoadRect (View.loadsAt_vmem h_S1x1x768))
  let w : Vec F S1x64x1 .f32 ← Prog.lift (.load arg9 (Rect.unit (s := S1x64x1) ![0, 0, 0] S1x64x1.size inb_S1x64x1_S1x64x1_0_0_0).toLoadRect (View.loadsAt_vmem h_S1x64x1))
  rest x wg bg wv bv wo bo w

/-- The first half of a store step: read slot `k`'s word and check that a token's row is one of the array's. -/
def storeWord {α : Type} (k : Fin 64) (rest : (v : Elt F .i32) → k0_chk65 v → Pr F α) : Pr F α := do
  let v : Elt F .i32 ← smemLoad arg1 (Rect.unit (s := S4096) (slotOff i k) S1.size (slotOff_inb i k)) numel1_S1 rfl
  have h : k0_chk65 v := (← Prog.lift (TpuEff.assume (k0_chk65 v) (k0_chk65.dec v))).down
  rest v h

/-- The second: where the word is a token, write its row. -/
def storeRow {α : Type} (v : Elt F .i32) (h : k0_chk65 v) (x : FVec F S1x768 .f32) (rest : Pr F α) : Pr F α :=
  if h2 : k0_cond2 v = 1#1 then do
    let _ ← Prog.lift (.load arg10 (Rect.unit (s := S4096x768) (k0_off130 v) S1x768.size (k0_off130_inb v h h2)).toLoadRect (View.loadsAt_vmem h_S1x768))
    Prog.lift (.store arg10 (Rect.unit (s := S4096x768) (k0_off130 v) S1x768.size (k0_off130_inb v h h2)) x Finset.univ (View.stores_vmem_bits_univ h_S1x768 rfl) (.inl rfl))
    rest
  else rest

/-- `n` store steps from step `k` on, of the rows of `y`. -/
def stores {α : Type} (y : FVec F S64x768 .f32) : (n k : Nat) → k + n ≤ 64 → Pr F α → Pr F α
  | 0, _, _, rest => rest
  | n + 1, k, h, rest =>
    storeWord i arg1 ⟨k, by omega⟩ fun v hv => storeRow arg10 v hv (rowOf y ⟨k, by omega⟩) (stores y n (k + 1) (by omega) rest)

end Steps

end Cert.Proof.Experts

end
-- ==== Proof.Body.lean ====
/-
  The printed body, part by part, as sequences of the steps of `Steps`: each equation holds by unfolding both
  sides, so the kernel checks it.
-/
module

public import proofs.«01_k».proof.Proof.Steps
public import Idealize.ShloMosaic.Lib.Pipeline.Regions

@[expose] public section

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (i : grid0.Coords)
  (arg1 : Memref sig .tc .smem S4096 .i32) (harg1 : arg1.IsWhole)
  (arg2 : Memref sig .tc .vmem S4096x768 .f32) (harg2 : arg2.IsWhole)
  (arg3 : Memref sig .tc .vmem S1x768x768 .f32) (harg3 : arg3.IsWhole)
  (arg4 : Memref sig .tc .vmem S1x1x768 .f32) (harg4 : arg4.IsWhole)
  (arg5 : Memref sig .tc .vmem S1x768x768 .f32) (harg5 : arg5.IsWhole)
  (arg6 : Memref sig .tc .vmem S1x1x768 .f32) (harg6 : arg6.IsWhole)
  (arg7 : Memref sig .tc .vmem S1x768x768 .f32) (harg7 : arg7.IsWhole)
  (arg8 : Memref sig .tc .vmem S1x1x768 .f32) (harg8 : arg8.IsWhole)
  (arg9 : Memref sig .tc .vmem S1x64x1 .f32) (harg9 : arg9.IsWhole)
  (arg10 : Memref sig .tc .vmem S4096x768 .f32) (harg10 : arg10.IsWhole)
  (arg11 : Memref sig .tc .vmem S64x768 .f32) (harg11 : arg11.IsWhole)

/-- A store step cut after its word is read: the word, its check and the row go to the next part, with a number
    that part does not use. -/
def cut (y : FVec F S64x768 .f32) (k : Fin 64) (z : BitVec 32 → BitVec 32) : Pr F (Σ' (v : Elt F .i32) (_ : k0_chk65 v) (_ : FVec F S1x768 .f32), BitVec 32) :=
  storeWord i arg1 k fun v h => .ret ⟨v, h, rowOf y k, z v⟩

/-- The part that ends in the second gather. -/
def part1' : Pr F (Σ' (_ : BitVec 32), FVec F S1x768 .f32) :=
  zeroFirst i arg10 (gathers i arg1 arg2 arg11 2 0 (by decide) (gatherWord i arg1 2 fun v h => gatherLoad arg2 arg11 2 v h fun x =>
    .ret ⟨BitVec.ofNat 32 (i 0).val, x⟩))

/-- What the network leaves: the gathered rows through the expert, times the slots' weights. -/
def netOut (x : Vec F S64x768 .f32) (wg : Vec F S1x768x768 .f32) (bg : Vec F S1x1x768 .f32) (wv : Vec F S1x768x768 .f32) (bv : Vec F S1x1x768 .f32)
    (wo : Vec F S1x768x768 .f32) (bo : Vec F S1x1x768 .f32) (w : Vec F S1x64x1 .f32) : FVec F S64x768 .f32 :=
  k0_pay69 (k0_pay67 x wg bg wv bv) (k0_pay68 wo) bo w

/-- The other gathers, the network, and the first three stores. -/
def part2' (x : FVec F S1x768 .f32) : Pr F (Σ' (_ : FVec F S64x768 .f32), BitVec 32) :=
  gatherStore arg11 2 x (gathers i arg1 arg2 arg11 61 3 (by decide) (network arg3 arg4 arg5 arg6 arg7 arg8 arg9 arg11
    fun x wg bg wv bv wo bo w => stores i arg1 arg10 (netOut x wg bg wv bv wo bo w) 3 0 (by decide) (.ret ⟨netOut x wg bg wv bv wo bo w, 64#32⟩)))

/-- Stores up to a cut: of the slots `k … k + n - 1` whole, of the next only the word. -/
def toCut (y : FVec F S64x768 .f32) (n k : Nat) (h : k + n < 64) (z : BitVec 32 → BitVec 32) :
    Pr F (Σ' (v : Elt F .i32) (_ : k0_chk65 v) (_ : FVec F S1x768 .f32), BitVec 32) :=
  stores i arg1 arg10 y n k (by omega) (cut i arg1 y ⟨k + n, h⟩ z)

/-- The same, the row left to the next part. -/
def toWord (y : FVec F S64x768 .f32) (n k : Nat) (h : k + n < 64) : Pr F (Σ' (v : Elt F .i32), k0_chk65 v) :=
  stores i arg1 arg10 y n k (by omega) (storeWord i arg1 ⟨k + n, h⟩ fun v hv => .ret ⟨v, hv⟩)

/-- The same, without the number. -/
def toRow (y : FVec F S64x768 .f32) (n k : Nat) (h : k + n < 64) : Pr F (Σ' (v : Elt F .i32) (_ : k0_chk65 v), FVec F S1x768 .f32) :=
  stores i arg1 arg10 y n k (by omega) (storeWord i arg1 ⟨k + n, h⟩ fun v hv => .ret ⟨v, hv, rowOf y ⟨k + n, h⟩⟩)

/-- The stores of the slots `k … k + 29` as the printed parts cut them, and then `rest` (`a` is the word of the
    grid point, which a part hands on). -/
def thirty {α : Type} (a : BitVec 32) (y : FVec F S64x768 .f32) (k : Nat) (h : k + 30 ≤ 64) (rest : BitVec 32 → Pr F α) : Pr F α := do
  stores i arg1 arg10 y 4 k (by omega) (.ret ⟨⟩)
  let c ← toCut i arg1 arg10 y 4 (k + 4) (by omega) fun _ => 0#32
  let c ← storeRow arg10 c.1 c.2.1 c.2.2.1 (toRow i arg1 arg10 y 3 (k + 9) (by omega))
  let _ ← storeRow arg10 c.1 c.2.1 c.2.2 (stores i arg1 arg10 y 4 (k + 13) (by omega)
    (.ret (⟨Scalar.muli a 64#32, BitVec.ofNat 32 (k + 17)⟩ : Σ' (_ : BitVec 32), BitVec 32)))
  let c ← toWord i arg1 arg10 y 4 (k + 17) (by omega)
  let c ← storeRow arg10 c.1 c.2 (rowOf y ⟨k + 21, by omega⟩) (toCut i arg1 arg10 y 3 (k + 22) (by omega) fun v => Scalar.extui (Scalar.cmpi .sge v 0#32))
  let z ← storeRow arg10 c.1 c.2.1 c.2.2.1 (stores i arg1 arg10 y 4 (k + 26) (by omega) (.ret 64#32))
  rest z

/-- The whole body. -/
def body' : Pr F PUnit := do
  let x ← part1' i arg1 arg2 arg10 arg11
  let y ← part2' i arg1 arg2 arg3 arg4 arg5 arg6 arg7 arg8 arg9 arg10 arg11 x.2
  thirty i arg1 arg10 x.1 y.1 3 (by decide) fun _ => thirty i arg1 arg10 x.1 y.1 33 (by decide) fun _ => stores i arg1 arg10 y.1 1 63 (by decide) (.ret ⟨⟩)

/-- The printed body is the sequence of the steps. -/
theorem body_eq : cc0__expert_ffn_body (F := F) i arg1 harg1 arg2 harg2 arg3 harg3 arg4 harg4 arg5 harg5 arg6 harg6 arg7 harg7 arg8 harg8 arg9 harg9 arg10 harg10 arg11 harg11
    = body' i arg1 arg2 arg3 arg4 arg5 arg6 arg7 arg8 arg9 arg10 arg11 := by chain_rfl

end Cert.Proof.Experts

end
-- ==== Proof.Rules.lean ====
/-
  What each kind of step does, as a rule: from the buffers at known contents, a step leaves the buffers at the
  contents stated. Then the whole body's rule, by going through the steps.
-/
module

public import proofs.«01_k».proof.Proof.Body
public import Idealize.ShloMosaic.Lib.WritesUnit
public import Idealize.ShloMosaic.Lib.VecWindow
public import Idealize.ShloMosaic.Lib.Pointwise.Reshape
public import Idealize.ShloMosaic.Lib.Pipeline.Regions

@[expose] public section

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The assertions about the machine's state. -/
abbrev SP (F : FTy → Type) [FloatOps F] := sProp (MT nD τ sig Unit (Elt F) ℕ (UR sig nD τ) ℕ)

/-! ## The contents the steps leave -/

theorem slot_lt (i : grid0.Coords) (k : Fin 64) : 64 * (i 0).val + k.val < 4096 := by
  have hi : (i 0).val < 64 := (i 0).isLt
  have hk := k.isLt
  omega

/-- Slot `64 * i + k`. -/
def slot (i : grid0.Coords) (k : Fin 64) : S4096.Idx := fun a => match a with | ⟨0, _⟩ => ⟨64 * (i 0).val + k.val, slot_lt i k⟩

/-- The token a word names: a negative word names token 0, as the gathers read it. -/
def tok (v : BitVec 32) : Fin 4096 := Fin.ofNat 4096 v.toInt.toNat

/-- Entry `(r, d)` of an array of 4096 rows. -/
def at2 (r : Fin 4096) (d : Fin 768) : S4096x768.Idx := fun a => match a with | ⟨0, _⟩ => r | ⟨1, _⟩ => d

/-- Entry `d` of a row. -/
def at1 (d : Fin 768) : S1x768.Idx := fun a => match a with | ⟨0, _⟩ => (0 : Fin 1) | ⟨1, _⟩ => d

/-- The row of `x` the word `v` names. -/
def tokRow (x : Vec F S4096x768 .f32) (v : BitVec 32) : Vec F S1x768 .f32 := fun j => x (at2 (tok v) (j 1))

/-- `X` with row `k` replaced by `x`. -/
def putRow (X : Vec F S64x768 .f32) (k : Fin 64) (x : Vec F S1x768 .f32) : Vec F S64x768 .f32 :=
  fun j => if (j 0).val = k.val then x (at1 (j 1)) else X j

/-- `O` with the row the word `v` names replaced by `x`, where `v` is no empty slot. -/
def putTok (O : Vec F S4096x768 .f32) (v : BitVec 32) (x : Vec F S1x768 .f32) : Vec F S4096x768 .f32 :=
  fun j => if 0 ≤ v.toInt ∧ (j 0).val = v.toInt.toNat then x (at1 (j 1)) else O j

/-! ## The words' checks and offsets -/

theorem off2_eq (v : BitVec 32) : k0_off2 v = ![v.toInt.toNat, 0] := by
  show ![(IntOp.maxsi v 0#32).toNat, (0#32).toNat] = _
  have h : (IntOp.maxsi v 0#32).toNat = v.toInt.toNat := by
    unfold IntOp.maxsi
    have hv := v.isLt
    rw [BitVec.toInt_eq_toNat_cond]
    by_cases hc : (0#32).slt v
    · rw [if_pos hc]
      have h0 : 0 < v.toInt := by simpa [BitVec.slt_iff_toInt_lt] using hc
      rw [BitVec.toInt_eq_toNat_cond] at h0
      split at h0 <;> rename_i h1
      · rw [if_pos h1]; simp
      · omega
    · rw [if_neg hc]
      have h0 : ¬ 0 < v.toInt := by simpa [BitVec.slt_iff_toInt_lt] using hc
      rw [BitVec.toInt_eq_toNat_cond] at h0
      simp only [BitVec.toNat_ofNat, Nat.zero_mod]
      split at h0 <;> rename_i h1
      · rw [if_pos h1]; omega
      · rw [if_neg h1]; omega
  rw [h]; rfl

theorem off130_eq (v : BitVec 32) (h : 0 ≤ v.toInt) : k0_off130 v = ![v.toInt.toNat, 0] := by
  show ![v.toNat, (0#32).toNat] = _
  have e : v.toNat = v.toInt.toNat := by
    rw [BitVec.toInt_eq_toNat_cond] at h ⊢
    split at h <;> rename_i hc
    · rw [if_pos hc]; simp
    · have := v.isLt; omega
  rw [e]; rfl

theorem cond2_iff (v : BitVec 32) : k0_cond2 v = 1#1 ↔ 0 ≤ v.toInt := by
  show IntOp.cmpi .ne ((IntOp.cmpi .sge v 0#32).setWidth 32) 0#32 = 1#1 ↔ _
  rw [IntOp.cmpi_ne, ← show IntOp.cmpi .sge v 0#32 = 1#1 ↔ 0 ≤ v.toInt by rw [IntOp.cmpi_sge]; simp]
  generalize IntOp.cmpi .sge v 0#32 = b
  revert b; decide

theorem chk1_of (v : BitVec 32) (h : v.toInt < 4096) : k0_chk1 v := by
  unfold k0_chk1
  rw [off2_eq]
  intro a; fin_cases a
  · show v.toInt.toNat + 1 ≤ 4096; omega
  · show 0 + 768 ≤ 768; omega

theorem chk65_of (v : BitVec 32) (h : v.toInt < 4096) : k0_chk65 v := by
  unfold k0_chk65
  intro hc
  rw [off130_eq v ((cond2_iff v).1 hc)]
  intro a; fin_cases a
  · show v.toInt.toNat + 1 ≤ 4096; omega
  · show 0 + 768 ≤ 768; omega

/-! ## The rules -/

section Rules

variable (c : Dev nD) (i : grid0.Coords) (arg1 : Memref sig .tc .smem S4096 .i32) (arg2 : Memref sig .tc .vmem S4096x768 .f32)
  (arg3 : Memref sig .tc .vmem S1x768x768 .f32) (arg4 : Memref sig .tc .vmem S1x1x768 .f32) (arg5 : Memref sig .tc .vmem S1x768x768 .f32)
  (arg6 : Memref sig .tc .vmem S1x1x768 .f32) (arg7 : Memref sig .tc .vmem S1x768x768 .f32) (arg8 : Memref sig .tc .vmem S1x1x768 .f32)
  (arg9 : Memref sig .tc .vmem S1x64x1 .f32) (arg10 : Memref sig .tc .vmem S4096x768 .f32) (arg11 : Memref sig .tc .vmem S64x768 .f32)
  (R : SP F) (q : PosShare TreeShare)

/-- The body's weakest precondition on core `c`. -/
abbrev bwp {α : Type} (p : Pr F α) (Q : α → SP F) : SP F :=
  wp frame (wpE (defs₀ (F := F)) Variants.none (c : Thread nD τ) none) Set.univ p Q

/-- The word read for step `k` is slot `64 * i + k`'s. -/
theorem word_eq (t : S4096.Idx → BitVec 32) (f : BufTy.Contents (Elt F) arg1.view.ty) (hf : View.read (Elt F) arg1.view f = t) (k : Fin 64)
    (x : S1.Idx) : (arg1.access (Rect.unit (s := S4096) (slotOff i k) S1.size (slotOff_inb i k))).read (Elt F) f x = t (slot i k) := by
  subst hf
  show arg1.view.read (Elt F) f ((Rect.unit (s := S4096) (slotOff i k) S1.size (slotOff_inb i k)).emb x) = _
  congr 1
  funext a
  apply Fin.ext
  show slotOff i k a + 1 * (x a).val = (slot i k a).val
  fin_cases a
  have hx : (x 0).val < 1 := (x 0).isLt
  rw [slotOff_eq]
  show 64 * (i 0).val + k.val + 1 * (x 0).val = 64 * (i 0).val + k.val
  omega

/-- The row read for the word `v`. -/
theorem row_read (x : Vec F S4096x768 .f32) (f : BufTy.Contents (Elt F) arg2.view.ty) (hf : View.read (Elt F) arg2.view f = x)
    (v : Elt F .i32) (hv : k0_chk1 v) :
    k0_pay3 (View.readAt (Elt F) arg2.view (Rect.unit (s := S4096x768) (k0_off2 v) S1x768.size (k0_off2_inb v hv)).toLoadRect f) = tokRow x v := by
  subst hf
  have hlt : v.toInt.toNat < 4096 := by
    have h0 := hv 0
    rw [off2_eq] at h0
    have h0 : v.toInt.toNat + 1 ≤ 4096 := h0
    omega
  unfold k0_pay3
  rw [shapeCast_id]
  funext j
  show arg2.view.read (Elt F) f ((Rect.unit (s := S4096x768) (k0_off2 v) S1x768.size (k0_off2_inb v hv)).emb j) = arg2.view.read (Elt F) f (at2 (tok v) (j 1))
  congr 1
  funext a
  apply Fin.ext
  show k0_off2 v a + 1 * (j a).val = (at2 (tok v) (j 1) a).val
  rw [off2_eq]
  fin_cases a
  · have hx : (j 0).val < 1 := (j 0).isLt
    show v.toInt.toNat + 1 * (j 0).val = v.toInt.toNat % 4096
    omega
  · show 0 + 1 * (j 1).val = (j 1).val
    omega

/-- Row `k` of the scratch after its store. -/
theorem put_read (X : Vec F S64x768 .f32) (f : BufTy.Contents (Elt F) arg11.view.ty) (hf : View.read (Elt F) arg11.view f = X)
    (k : Fin 64) (x : FVec F S1x768 .f32) :
    View.read (Elt F) arg11.view (arg11.view.writes (Elt F) f [⟨Rect.unit (s := S64x768) ![k.val, 0] S1x768.size (row_inb k), x⟩]) = putRow X k x := by
  subst hf
  funext j
  unfold putRow
  split <;> rename_i hj
  · exact View.read_writes_cons_unit_of_mem arg11.view f (row_inb k) x [] j (at1 (j 1)) rfl fun a => by
      fin_cases a
      · show (j 0).val = k.val + 0; omega
      · show (j 1).val = 0 + (j 1).val; omega
  · exact View.read_writes_cons_unit_of_not_mem arg11.view f (row_inb k) x [] j rfl 0 (by
      show (j 0).val < k.val ∨ k.val + 1 ≤ (j 0).val
      omega)

/-- A token's row of the result after its store. -/
theorem tok_read (O : Vec F S4096x768 .f32) (f : BufTy.Contents (Elt F) arg10.view.ty) (hf : View.read (Elt F) arg10.view f = O)
    (v : Elt F .i32) (hv : k0_chk65 v) (h2 : k0_cond2 v = 1#1) (x : FVec F S1x768 .f32) :
    View.read (Elt F) arg10.view (arg10.view.writes (Elt F) f [⟨Rect.unit (s := S4096x768) (k0_off130 v) S1x768.size (k0_off130_inb v hv h2), x⟩]) = putTok O v x := by
  subst hf
  have h0 := (cond2_iff v).1 h2
  funext j
  unfold putTok
  split <;> rename_i hj
  · exact View.read_writes_cons_unit_of_mem arg10.view f (k0_off130_inb v hv h2) x [] j (at1 (j 1)) (off130_eq v h0) fun a => by
      fin_cases a
      · show (j 0).val = v.toInt.toNat + 0; omega
      · show (j 1).val = 0 + (j 1).val; omega
  · exact View.read_writes_cons_unit_of_not_mem arg10.view f (k0_off130_inb v hv h2) x [] j (off130_eq v h0) 0 (by
      show (j 0).val < v.toInt.toNat ∨ v.toInt.toNat + 1 ≤ (j 0).val
      omega)

theorem wp_gatherWord {α : Type} (t : S4096.Idx → BitVec 32) (k : Fin 64) (rest : (v : Elt F .i32) → k0_chk1 v → Pr F α) (Q : α → SP F)
    (hv : (t (slot i k)).toInt < 4096)
    (h : iprop(owns (c : Thread nD τ) arg1 q t ∗ R) ⊢ bwp c (rest (t (slot i k)) (chk1_of _ hv)) Q) :
    iprop(owns (c : Thread nD τ) arg1 q t ∗ R) ⊢ bwp c (gatherWord i arg1 k rest) Q := by
  have key : ∀ w (hw : k0_chk1 w), w = t (slot i k) → (iprop(owns (c : Thread nD τ) arg1 q t ∗ R) ⊢ bwp c (rest w hw) Q) := by
    intro w hw e; subst e; exact h
  unfold gatherWord
  unfold owns bwp
  iintro ⟨⟨%f, %hf, H⟩, HR⟩
  sl_exec
  have e : wp_gatherWord.sl.r c i arg1 k f = t (slot i k) := word_eq i arg1 t f hf k _
  have hc : k0_chk1 (wp_gatherWord.sl.r c i arg1 k f) := e ▸ chk1_of _ hv
  sl_exec
  iapply (key _ hc e)
  iframe HR
  unfold owns
  iexists f
  iframe H
  ipureintro; exact hf

theorem wp_gatherLoad {α : Type} (x : Vec F S4096x768 .f32) (X : Vec F S64x768 .f32) (k : Fin 64) (v : Elt F .i32) (hv : k0_chk1 v)
    (rest : FVec F S1x768 .f32 → Pr F α) (Q : α → SP F)
    (h : iprop(owns (c : Thread nD τ) arg2 fullShare x ∗ owns (c : Thread nD τ) arg11 fullShare X ∗ R) ⊢ bwp c (rest (tokRow x v)) Q) :
    iprop(owns (c : Thread nD τ) arg2 fullShare x ∗ owns (c : Thread nD τ) arg11 fullShare X ∗ R) ⊢ bwp c (gatherLoad arg2 arg11 k v hv rest) Q := by
  unfold gatherLoad
  unfold owns bwp
  iintro ⟨⟨%f, %hf, H⟩, ⟨%f', %hf', H'⟩, HR⟩
  sl_exec
  rw [row_read arg2 x f hf v hv]
  iapply h
  iframe HR
  unfold owns
  isplitl [H]
  · iexists f
    iframe H
    ipureintro; exact hf
  · iexists f'
    iframe H'
    ipureintro; exact hf'

theorem wp_gatherStore {α : Type} (X : Vec F S64x768 .f32) (k : Fin 64) (x : FVec F S1x768 .f32)
    (rest : Pr F α) (Q : α → SP F)
    (h : iprop(owns (c : Thread nD τ) arg11 fullShare (putRow X k x) ∗ R) ⊢ bwp c rest Q) :
    iprop(owns (c : Thread nD τ) arg11 fullShare X ∗ R) ⊢ bwp c (gatherStore arg11 k x rest) Q := by
  unfold gatherStore
  unfold owns bwp
  iintro ⟨⟨%f', %hf', H'⟩, HR⟩
  sl_exec
  iapply h
  iframe HR
  unfold owns
  iexists _
  iframe H'
  ipureintro
  exact put_read arg11 X f' hf' k x

theorem wp_storeWord {α : Type} (t : S4096.Idx → BitVec 32) (k : Fin 64) (rest : (v : Elt F .i32) → k0_chk65 v → Pr F α) (Q : α → SP F)
    (hv : (t (slot i k)).toInt < 4096)
    (h : iprop(owns (c : Thread nD τ) arg1 q t ∗ R) ⊢ bwp c (rest (t (slot i k)) (chk65_of _ hv)) Q) :
    iprop(owns (c : Thread nD τ) arg1 q t ∗ R) ⊢ bwp c (storeWord i arg1 k rest) Q := by
  have key : ∀ w (hw : k0_chk65 w), w = t (slot i k) → (iprop(owns (c : Thread nD τ) arg1 q t ∗ R) ⊢ bwp c (rest w hw) Q) := by
    intro w hw e; subst e; exact h
  unfold storeWord
  unfold owns bwp
  iintro ⟨⟨%f, %hf, H⟩, HR⟩
  sl_exec
  have e : wp_storeWord.sl.r c i arg1 k f = t (slot i k) := word_eq i arg1 t f hf k _
  have hc : k0_chk65 (wp_storeWord.sl.r c i arg1 k f) := e ▸ chk65_of _ hv
  sl_exec
  iapply (key _ hc e)
  iframe HR
  unfold owns
  iexists f
  iframe H
  ipureintro; exact hf

theorem wp_storeRow {α : Type} (O : Vec F S4096x768 .f32) (v : Elt F .i32) (hv : k0_chk65 v) (x : FVec F S1x768 .f32)
    (rest : Pr F α) (Q : α → SP F)
    (h : iprop(owns (c : Thread nD τ) arg10 fullShare (putTok O v x) ∗ R) ⊢ bwp c rest Q) :
    iprop(owns (c : Thread nD τ) arg10 fullShare O ∗ R) ⊢ bwp c (storeRow arg10 v hv x rest) Q := by
  unfold storeRow
  by_cases h2 : k0_cond2 v = 1#1
  · rw [dif_pos h2]
    unfold owns bwp
    iintro ⟨⟨%f', %hf', H'⟩, HR⟩
    sl_exec
    iapply h
    iframe HR
    unfold owns
    iexists _
    iframe H'
    ipureintro
    exact tok_read arg10 O f' hf' v hv h2 x
  · rw [dif_neg h2]
    have e : putTok O v x = O := by
      funext j
      unfold putTok
      rw [if_neg fun hj => h2 ((cond2_iff v).2 hj.1)]
    rw [e] at h
    exact h

theorem wp_zeroFirst {α : Type} (O : Vec F S4096x768 .f32) (rest : Pr F α) (Q : α → SP F)
    (h : iprop(owns (c : Thread nD τ) arg10 fullShare (if k0_cond1 i = 1#1 then k0_pay2 (F := F) else O) ∗ R) ⊢ bwp c rest Q) :
    iprop(owns (c : Thread nD τ) arg10 fullShare O ∗ R) ⊢ bwp c (zeroFirst i arg10 rest) Q := by
  unfold zeroFirst
  by_cases h2 : k0_cond1 i = 1#1
  · rw [dif_pos h2]
    rw [if_pos h2] at h
    unfold owns bwp
    iintro ⟨⟨%f', %hf', H'⟩, HR⟩
    sl_exec
    iapply h
    iframe HR
    unfold owns
    iexists _
    iframe H'
    ipureintro
    exact View.read_writes_full arg10.view f' _ _ []
  · rw [dif_neg h2]
    rw [if_neg h2] at h
    exact h

/-- The buffers the network reads, at known contents. -/
def weights (wg : Vec F S1x768x768 .f32) (bg : Vec F S1x1x768 .f32) (wv : Vec F S1x768x768 .f32) (bv : Vec F S1x1x768 .f32)
    (wo : Vec F S1x768x768 .f32) (bo : Vec F S1x1x768 .f32) (w : Vec F S1x64x1 .f32) : SP F :=
  iprop(owns (c : Thread nD τ) arg3 fullShare wg ∗ owns (c : Thread nD τ) arg4 fullShare bg ∗ owns (c : Thread nD τ) arg5 fullShare wv
    ∗ owns (c : Thread nD τ) arg6 fullShare bv ∗ owns (c : Thread nD τ) arg7 fullShare wo ∗ owns (c : Thread nD τ) arg8 fullShare bo
    ∗ owns (c : Thread nD τ) arg9 fullShare w)

theorem wp_network {α : Type} (wg : Vec F S1x768x768 .f32) (bg : Vec F S1x1x768 .f32) (wv : Vec F S1x768x768 .f32) (bv : Vec F S1x1x768 .f32)
    (wo : Vec F S1x768x768 .f32) (bo : Vec F S1x1x768 .f32) (w : Vec F S1x64x1 .f32) (X : Vec F S64x768 .f32)
    (rest : Vec F S64x768 .f32 → Vec F S1x768x768 .f32 → Vec F S1x1x768 .f32 → Vec F S1x768x768 .f32 → Vec F S1x1x768 .f32
      → Vec F S1x768x768 .f32 → Vec F S1x1x768 .f32 → Vec F S1x64x1 .f32 → Pr F α) (Q : α → SP F)
    (h : iprop(weights c arg3 arg4 arg5 arg6 arg7 arg8 arg9 wg bg wv bv wo bo w ∗ owns (c : Thread nD τ) arg11 fullShare X ∗ R)
      ⊢ bwp c (rest X wg bg wv bv wo bo w) Q) :
    iprop(weights c arg3 arg4 arg5 arg6 arg7 arg8 arg9 wg bg wv bv wo bo w ∗ owns (c : Thread nD τ) arg11 fullShare X ∗ R)
      ⊢ bwp c (network arg3 arg4 arg5 arg6 arg7 arg8 arg9 arg11 rest) Q := by
  unfold network
  unfold weights owns bwp
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩,
    ⟨%f, %hf, H⟩, HR⟩
  subst hf3 hf4 hf5 hf6 hf7 hf8 hf9 hf
  sl_exec
  repeat rw [View.readAt_full]
  iapply h
  iframe HR
  unfold weights owns
  isplitr [H]
  · isplitl [H3]
    · iexists f3
      iframe H3
      ipureintro; rfl
    isplitl [H4]
    · iexists f4
      iframe H4
      ipureintro; rfl
    isplitl [H5]
    · iexists f5
      iframe H5
      ipureintro; rfl
    isplitl [H6]
    · iexists f6
      iframe H6
      ipureintro; rfl
    isplitl [H7]
    · iexists f7
      iframe H7
      ipureintro; rfl
    isplitl [H8]
    · iexists f8
      iframe H8
      ipureintro; rfl
    · iexists f9
      iframe H9
      ipureintro; rfl
  · iexists f
    iframe H
    ipureintro; rfl

end Rules

end Cert.Proof.Experts

end
-- ==== Proof.Triple.lean ====
/-
  The body's rule: the steps' rules, put together in the order of `body_eq`. The result buffer ends at the fold of
  the 64 stores over its contents before, the scratch at the gathered rows.
-/
module

public import proofs.«01_k».proof.Proof.Rules

@[expose] public section

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The contents after some of the steps -/

/-- The scratch after the first `n` gathers. -/
def gathered (i : grid0.Coords) (t : S4096.Idx → BitVec 32) (x : Vec F S4096x768 .f32) (X : Vec F S64x768 .f32) : Nat → Vec F S64x768 .f32
  | 0 => X
  | n + 1 => putRow (gathered i t x X n) (Fin.ofNat 64 n) (tokRow x (t (slot i (Fin.ofNat 64 n))))

/-- The result after the first `n` stores of the rows of `y`. -/
def stored (i : grid0.Coords) (t : S4096.Idx → BitVec 32) (y : FVec F S64x768 .f32) (O : Vec F S4096x768 .f32) : Nat → Vec F S4096x768 .f32
  | 0 => O
  | n + 1 => putTok (stored i t y O n) (t (slot i (Fin.ofNat 64 n))) (rowOf y (Fin.ofNat 64 n))

theorem ofNat_eq (k : Nat) (h : k < 64) : Fin.ofNat 64 k = ⟨k, h⟩ := Fin.ext (Nat.mod_eq_of_lt h)

section Triple

variable (c : Dev nD) (i : grid0.Coords)
  (arg1 : Memref sig .tc .smem S4096 .i32) (harg1 : arg1.IsWhole)
  (arg2 : Memref sig .tc .vmem S4096x768 .f32) (harg2 : arg2.IsWhole)
  (arg3 : Memref sig .tc .vmem S1x768x768 .f32) (harg3 : arg3.IsWhole)
  (arg4 : Memref sig .tc .vmem S1x1x768 .f32) (harg4 : arg4.IsWhole)
  (arg5 : Memref sig .tc .vmem S1x768x768 .f32) (harg5 : arg5.IsWhole)
  (arg6 : Memref sig .tc .vmem S1x1x768 .f32) (harg6 : arg6.IsWhole)
  (arg7 : Memref sig .tc .vmem S1x768x768 .f32) (harg7 : arg7.IsWhole)
  (arg8 : Memref sig .tc .vmem S1x1x768 .f32) (harg8 : arg8.IsWhole)
  (arg9 : Memref sig .tc .vmem S1x64x1 .f32) (harg9 : arg9.IsWhole)
  (arg10 : Memref sig .tc .vmem S4096x768 .f32) (harg10 : arg10.IsWhole)
  (arg11 : Memref sig .tc .vmem S64x768 .f32) (harg11 : arg11.IsWhole)
  (q : PosShare TreeShare) (t : S4096.Idx → BitVec 32) (ht : ∀ j, (t j).toInt < 4096) (x : Vec F S4096x768 .f32) (W : SP F)

/-- Every buffer of the body, the weights in `W`. -/
def St (O : Vec F S4096x768 .f32) (X : Vec F S64x768 .f32) : SP F :=
  iprop(owns (c : Thread nD τ) arg1 q t ∗ owns (c : Thread nD τ) arg2 fullShare x ∗ W
    ∗ owns (c : Thread nD τ) arg10 fullShare O ∗ owns (c : Thread nD τ) arg11 fullShare X)

variable {c i arg1 arg2 arg10 arg11 q t x W}

local notation "ST" => St c arg1 arg2 arg10 arg11 q t x W

theorem bwp_bind {α β : Type} {P : SP F} (p : Pr F α) (f : α → Pr F β) (Q : β → SP F) (h : P ⊢ bwp c p fun a => bwp c (f a) Q) :
    P ⊢ bwp c (p >>= f) Q := by
  unfold bwp at *
  rw [wp_bind]
  exact h

theorem bwp_ret {α : Type} {P : SP F} (a : α) (Q : α → SP F) (h : P ⊢ Q a) : P ⊢ bwp c (.ret a) Q := by
  unfold bwp
  rw [wp_ret]
  iintro H
  imodintro
  iapply h
  iexact H

include ht in
theorem st_gatherWord {α : Type} {O : Vec F S4096x768 .f32} {X : Vec F S64x768 .f32} (k : Fin 64) (rest : (v : Elt F .i32) → k0_chk1 v → Pr F α)
    (Q : α → SP F) (h : ∀ hv, ST O X ⊢ bwp c (rest (t (slot i k)) hv) Q) : ST O X ⊢ bwp c (gatherWord i arg1 k rest) Q :=
  wp_gatherWord c i arg1 _ q t k rest Q (ht _) (h _)

include ht in
theorem st_storeWord {α : Type} {O : Vec F S4096x768 .f32} {X : Vec F S64x768 .f32} (k : Fin 64) (rest : (v : Elt F .i32) → k0_chk65 v → Pr F α)
    (Q : α → SP F) (h : ∀ hv, ST O X ⊢ bwp c (rest (t (slot i k)) hv) Q) : ST O X ⊢ bwp c (storeWord i arg1 k rest) Q :=
  wp_storeWord c i arg1 _ q t k rest Q (ht _) (h _)

theorem st_gatherLoad {α : Type} {O : Vec F S4096x768 .f32} {X : Vec F S64x768 .f32} (k : Fin 64) (v : Elt F .i32) (hv : k0_chk1 v)
    (rest : FVec F S1x768 .f32 → Pr F α) (Q : α → SP F) (h : ST O X ⊢ bwp c (rest (tokRow x v)) Q) :
    ST O X ⊢ bwp c (gatherLoad arg2 arg11 k v hv rest) Q :=
  (show ST O X ⊢ iprop(owns (c : Thread nD τ) arg2 fullShare x ∗ owns (c : Thread nD τ) arg11 fullShare X
      ∗ (owns (c : Thread nD τ) arg1 q t ∗ W ∗ owns (c : Thread nD τ) arg10 fullShare O)) by
    unfold St; iintro ⟨H1, H2, H3, H4, H5⟩; iframe).trans
  (wp_gatherLoad c arg2 arg11 _ x X k v hv rest Q ((show _ ⊢ ST O X by
    unfold St; iintro ⟨H1, H2, H3, H4, H5⟩; iframe).trans h))

theorem st_gatherStore {α : Type} {O : Vec F S4096x768 .f32} {X : Vec F S64x768 .f32} (k : Fin 64) (y : FVec F S1x768 .f32)
    (rest : Pr F α) (Q : α → SP F) (h : ST O (putRow X k y) ⊢ bwp c rest Q) :
    ST O X ⊢ bwp c (gatherStore arg11 k y rest) Q :=
  (show ST O X ⊢ iprop(owns (c : Thread nD τ) arg11 fullShare X
      ∗ (owns (c : Thread nD τ) arg1 q t ∗ owns (c : Thread nD τ) arg2 fullShare x ∗ W ∗ owns (c : Thread nD τ) arg10 fullShare O)) by
    unfold St; iintro ⟨H1, H2, H3, H4, H5⟩; iframe).trans
  (wp_gatherStore c arg11 _ X k y rest Q ((show _ ⊢ ST O (putRow X k y) by
    unfold St; iintro ⟨H1, H2, H3, H4, H5⟩; iframe).trans h))

theorem st_storeRow {α : Type} {O : Vec F S4096x768 .f32} {X : Vec F S64x768 .f32} (v : Elt F .i32) (hv : k0_chk65 v) (y : FVec F S1x768 .f32)
    (rest : Pr F α) (Q : α → SP F) (h : ST (putTok O v y) X ⊢ bwp c rest Q) :
    ST O X ⊢ bwp c (storeRow arg10 v hv y rest) Q :=
  (show ST O X ⊢ iprop(owns (c : Thread nD τ) arg10 fullShare O
      ∗ (owns (c : Thread nD τ) arg1 q t ∗ owns (c : Thread nD τ) arg2 fullShare x ∗ W ∗ owns (c : Thread nD τ) arg11 fullShare X)) by
    unfold St; iintro ⟨H1, H2, H3, H4, H5⟩; iframe).trans
  (wp_storeRow c arg10 _ O v hv y rest Q ((show _ ⊢ ST (putTok O v y) X by
    unfold St; iintro ⟨H1, H2, H3, H4, H5⟩; iframe).trans h))

theorem st_zeroFirst {α : Type} {O : Vec F S4096x768 .f32} {X : Vec F S64x768 .f32}
    (rest : Pr F α) (Q : α → SP F) (h : ST (if k0_cond1 i = 1#1 then k0_pay2 (F := F) else O) X ⊢ bwp c rest Q) :
    ST O X ⊢ bwp c (zeroFirst i arg10 rest) Q :=
  (show ST O X ⊢ iprop(owns (c : Thread nD τ) arg10 fullShare O
      ∗ (owns (c : Thread nD τ) arg1 q t ∗ owns (c : Thread nD τ) arg2 fullShare x ∗ W ∗ owns (c : Thread nD τ) arg11 fullShare X)) by
    unfold St; iintro ⟨H1, H2, H3, H4, H5⟩; iframe).trans
  (wp_zeroFirst c i arg10 _ O rest Q ((show _ ⊢ ST (if k0_cond1 i = 1#1 then k0_pay2 (F := F) else O) X by
    unfold St; iintro ⟨H1, H2, H3, H4, H5⟩; iframe).trans h))

include ht in
theorem st_gathers {α : Type} {O : Vec F S4096x768 .f32} {X : Vec F S64x768 .f32} (rest : Pr F α) (Q : α → SP F) :
    ∀ (n k : Nat) (hk : k + n ≤ 64), (ST O (gathered i t x X (k + n)) ⊢ bwp c rest Q)
      → ST O (gathered i t x X k) ⊢ bwp c (gathers i arg1 arg2 arg11 n k hk rest) Q
  | 0, k, hk, h => h
  | n + 1, k, hk, h => by
    unfold gathers gather
    refine st_gatherWord ht _ _ _ fun hv => st_gatherLoad _ _ _ _ _ (st_gatherStore _ _ _ _ ?_)
    have e : putRow (gathered i t x X k) ⟨k, by omega⟩ (tokRow x (t (slot i ⟨k, by omega⟩))) = gathered i t x X (k + 1) := by
      conv_rhs => unfold gathered
      rw [ofNat_eq k (by omega)]
    rw [e]
    refine st_gathers rest Q n (k + 1) (by omega) ?_
    rw [show k + 1 + n = k + (n + 1) by omega]
    exact h

theorem stored_succ (y : FVec F S64x768 .f32) (O : Vec F S4096x768 .f32) (k : Nat) (hk : k < 64) :
    putTok (stored i t y O k) (t (slot i ⟨k, hk⟩)) (rowOf y ⟨k, hk⟩) = stored i t y O (k + 1) := by
  conv_rhs => unfold stored
  rw [ofNat_eq k hk]

include ht in
theorem st_stores {α : Type} {O : Vec F S4096x768 .f32} {X : Vec F S64x768 .f32} (y : FVec F S64x768 .f32) (rest : Pr F α) (Q : α → SP F) :
    ∀ (n k : Nat) (hk : k + n ≤ 64), (ST (stored i t y O (k + n)) X ⊢ bwp c rest Q)
      → ST (stored i t y O k) X ⊢ bwp c (stores i arg1 arg10 y n k hk rest) Q
  | 0, k, hk, h => h
  | n + 1, k, hk, h => by
    unfold stores
    refine st_storeWord ht _ _ _ fun hv => st_storeRow _ _ _ _ _ ?_
    rw [stored_succ y O k (by omega)]
    refine st_stores y rest Q n (k + 1) (by omega) ?_
    rw [show k + 1 + n = k + (n + 1) by omega]
    exact h

theorem st_storeAt {α : Type} {O : Vec F S4096x768 .f32} {X : Vec F S64x768 .f32} (y : FVec F S64x768 .f32) (k : Nat) (hk : k < 64) (hv) (rest : Pr F α) (Q : α → SP F)
    (h : ST (stored i t y O (k + 1)) X ⊢ bwp c rest Q) :
    ST (stored i t y O k) X ⊢ bwp c (storeRow arg10 (t (slot i ⟨k, hk⟩)) hv (rowOf y ⟨k, hk⟩) rest) Q := by
  refine st_storeRow _ _ _ _ _ ?_
  rw [stored_succ y O k hk]
  exact h

include ht in
theorem st_thirty {α : Type} {O : Vec F S4096x768 .f32} {X : Vec F S64x768 .f32} (a : BitVec 32) (y : FVec F S64x768 .f32) (k : Nat) (hk : k + 30 ≤ 64)
    (rest : BitVec 32 → Pr F α) (Q : α → SP F) (h : ∀ z, ST (stored i t y O (k + 30)) X ⊢ bwp c (rest z) Q) :
    ST (stored i t y O k) X ⊢ bwp c (thirty i arg1 arg10 a y k hk rest) Q := by
  unfold thirty
  refine bwp_bind _ _ _ (st_stores ht y _ _ 4 k _ (bwp_ret _ _ ?_))
  refine bwp_bind _ _ _ (st_stores ht y _ _ 4 (k + 4) _ (st_storeWord ht _ _ _ fun hv => bwp_ret _ _ ?_))
  refine bwp_bind _ _ _ (st_storeAt y (k + 8) _ _ _ _ (st_stores ht y _ _ 3 (k + 9) _ (st_storeWord ht _ _ _ fun hv => bwp_ret _ _ ?_)))
  refine bwp_bind _ _ _ (st_storeAt y (k + 12) _ _ _ _ (st_stores ht y _ _ 4 (k + 13) _ (bwp_ret _ _ ?_)))
  refine bwp_bind _ _ _ (st_stores ht y _ _ 4 (k + 17) _ (st_storeWord ht _ _ _ fun hv => bwp_ret _ _ ?_))
  refine bwp_bind _ _ _ (st_storeAt y (k + 21) _ _ _ _ (st_stores ht y _ _ 3 (k + 22) _ (st_storeWord ht _ _ _ fun hv => bwp_ret _ _ ?_)))
  refine bwp_bind _ _ _ (st_storeAt y (k + 25) _ _ _ _ (st_stores ht y _ _ 4 (k + 26) _ (bwp_ret _ _ ?_)))
  exact h _

/-- The weights' buffers at known contents, as `weights`. -/
theorem st_network {α : Type} (wg : Vec F S1x768x768 .f32) (bg : Vec F S1x1x768 .f32) (wv : Vec F S1x768x768 .f32) (bv : Vec F S1x1x768 .f32)
    (wo : Vec F S1x768x768 .f32) (bo : Vec F S1x1x768 .f32) (w : Vec F S1x64x1 .f32) {O : Vec F S4096x768 .f32} {X : Vec F S64x768 .f32}
    (rest : Vec F S64x768 .f32 → Vec F S1x768x768 .f32 → Vec F S1x1x768 .f32 → Vec F S1x768x768 .f32 → Vec F S1x1x768 .f32
      → Vec F S1x768x768 .f32 → Vec F S1x1x768 .f32 → Vec F S1x64x1 .f32 → Pr F α) (Q : α → SP F)
    (h : St c arg1 arg2 arg10 arg11 q t x (weights c arg3 arg4 arg5 arg6 arg7 arg8 arg9 wg bg wv bv wo bo w) O X
      ⊢ bwp c (rest X wg bg wv bv wo bo w) Q) :
    St c arg1 arg2 arg10 arg11 q t x (weights c arg3 arg4 arg5 arg6 arg7 arg8 arg9 wg bg wv bv wo bo w) O X
      ⊢ bwp c (network arg3 arg4 arg5 arg6 arg7 arg8 arg9 arg11 rest) Q :=
  (show _ ⊢ iprop(weights c arg3 arg4 arg5 arg6 arg7 arg8 arg9 wg bg wv bv wo bo w ∗ owns (c : Thread nD τ) arg11 fullShare X
      ∗ (owns (c : Thread nD τ) arg1 q t ∗ owns (c : Thread nD τ) arg2 fullShare x ∗ owns (c : Thread nD τ) arg10 fullShare O)) by
    unfold St; iintro ⟨H1, H2, H3, H4, H5⟩; iframe).trans
  (wp_network c arg3 arg4 arg5 arg6 arg7 arg8 arg9 arg11 _ wg bg wv bv wo bo w X rest Q ((show _ ⊢ St c arg1 arg2 arg10 arg11 q t x (weights c arg3 arg4 arg5 arg6 arg7 arg8 arg9 wg bg wv bv wo bo w) O X by
    unfold St; iintro ⟨H1, H2, H3, H4, H5⟩; iframe).trans h))

include ht in
/-- The whole body. -/
theorem body_rule (wg : Vec F S1x768x768 .f32) (bg : Vec F S1x1x768 .f32) (wv : Vec F S1x768x768 .f32) (bv : Vec F S1x1x768 .f32)
    (wo : Vec F S1x768x768 .f32) (bo : Vec F S1x1x768 .f32) (w : Vec F S1x64x1 .f32) {O : Vec F S4096x768 .f32} {X : Vec F S64x768 .f32} :
    St c arg1 arg2 arg10 arg11 q t x (weights c arg3 arg4 arg5 arg6 arg7 arg8 arg9 wg bg wv bv wo bo w) O X
      ⊢ bwp c (cc0__expert_ffn_body (F := F) i arg1 harg1 arg2 harg2 arg3 harg3 arg4 harg4 arg5 harg5 arg6 harg6 arg7 harg7 arg8 harg8 arg9 harg9 arg10 harg10 arg11 harg11)
        fun _ => St c arg1 arg2 arg10 arg11 q t x (weights c arg3 arg4 arg5 arg6 arg7 arg8 arg9 wg bg wv bv wo bo w)
          (stored i t (netOut (gathered i t x X 64) wg bg wv bv wo bo w) (if k0_cond1 i = 1#1 then k0_pay2 (F := F) else O) 64)
          (gathered i t x X 64) := by
  rw [body_eq]
  unfold body' part1' part2'
  refine bwp_bind _ _ _ (st_zeroFirst _ _ (st_gathers ht _ _ 2 0 _ (st_gatherWord ht _ _ _ fun hv => st_gatherLoad _ _ _ _ _ (bwp_ret _ _ ?_))))
  refine bwp_bind _ _ _ (st_gatherStore _ _ _ _ ?_)
  refine st_gathers ht _ _ 61 3 _ ?_
  refine st_network arg3 arg4 arg5 arg6 arg7 arg8 arg9 wg bg wv bv wo bo w _ _ ?_
  refine st_stores ht _ _ _ 3 0 _ (bwp_ret _ _ ?_)
  refine st_thirty ht _ _ 3 _ _ _ fun _ => st_thirty ht _ _ 33 _ _ _ fun _ => ?_
  exact st_stores ht _ _ _ 1 63 _ (bwp_ret _ _ .rfl)

end Triple

end Cert.Proof.Experts

end
-- ==== Proof.Run.lean ====
/-
  The launch of the experts' kernel: what each window's buffer holds at each grid point, the body's obligation there,
  and the run of the whole program, for a table whose words are below 4096.
-/
module

public import proofs.«01_k».proof.Proof.Triple
public import proofs.«01_k».proof.Proof.Gen.KernelIdeal.Launch
public import Idealize.ShloMosaic.Lib.Pipeline.TableIdle
public import Idealize.ShloMosaic.Lib.Pipeline.Frame
public import Idealize.ShloMosaic.Lib.Claim

@[expose] public section

noncomputable section

namespace Cert.Proof.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The steps' contents, read entry by entry -/

/-- The 64 gathered rows: row `k` is the row of `x` that slot `64 * i + k` names. -/
def rows (i : grid0.Coords) (t : S4096.Idx → BitVec 32) (x : Vec F S4096x768 .f32) : Vec F S64x768 .f32 :=
  fun j => x (at2 (tok (t (slot i (j 0)))) (j 1))

theorem gathered_apply (i : grid0.Coords) (t : S4096.Idx → BitVec 32) (x : Vec F S4096x768 .f32) (X : Vec F S64x768 .f32) (j : S64x768.Idx) :
    ∀ n, n ≤ 64 → gathered i t x X n j = if (j 0).val < n then rows i t x j else X j
  | 0, _ => by simp [gathered]
  | n + 1, h => by
    have ih := gathered_apply i t x X j n (by omega)
    unfold gathered putRow
    rw [ih, ofNat_eq n (by omega)]
    by_cases e : (j 0).val = n
    · rw [if_pos e, if_pos (by omega)]
      have e' : (⟨n, by omega⟩ : Fin 64) = j 0 := Fin.ext e.symm
      rw [e']; rfl
    · rw [if_neg e]
      by_cases e2 : (j 0).val < n
      · rw [if_pos e2, if_pos (by omega)]
      · rw [if_neg e2, if_neg (by omega)]

/-- After all 64 gathers nothing of the scratch's contents before is left. -/
theorem gathered_all (i : grid0.Coords) (t : S4096.Idx → BitVec 32) (x : Vec F S4096x768 .f32) (X : Vec F S64x768 .f32) :
    gathered i t x X 64 = rows i t x := by
  funext j
  rw [gathered_apply i t x X j 64 le_rfl]
  exact if_pos (j 0).isLt

/-- Where no slot of the point is filled, the stores change nothing. -/
theorem stored_idle (i : grid0.Coords) (t : S4096.Idx → BitVec 32) (y : FVec F S64x768 .f32) (O : Vec F S4096x768 .f32)
    (h : ∀ k : Fin 64, ¬ 0 ≤ (t (slot i k)).toInt) : ∀ n, stored i t y O n = O
  | 0 => rfl
  | n + 1 => by
    unfold stored
    rw [stored_idle i t y O h n]
    funext j
    unfold putTok
    exact if_neg fun hh => h _ hh.1

/-! ## The launch's contents -/

section Launch

variable (m : (ℓ : Loc nD τ sig) → Buf (Elt F) ℓ) (ρ : Dev nD → PrngReg)

/-- The buffers' contents as the call finds them. -/
abbrev V (c : Dev nD) (b : Ref sig .tc) : Buf (Elt F) ((c.tc : Thread nD τ).loc b) := m ((c.tc : Thread nD τ).loc b)

/-- The table of slots. -/
abbrev tbl : pre0.Contents (Elt F) := fun k => m (((0 : Dev nD).tc : Thread nD τ).loc (pre0.ref k))

/-- The slots' words. -/
abbrev word : S4096.Idx → BitVec 32 := tbl m (0 : Fin 1)

/-- The call's tables, admissible whatever they hold. -/
abbrev adm (_ : Fin 1) : (pcfg0 (F := F)).Adm := ⟨tbl m, trivial⟩

/-- The pipeline at the call's tables. -/
abbrev cfgm : Cfg sig Λ₀ := cfg0 (F := F) (adm m 0)

/-- Window `w`'s block at point `t`. -/
def iblk (c : Dev nD) (w : Fin 9) (t : Fin (cfgm m).N) : (((cfgm m).win w).xblock ((cfgm m).grid.coords t)).Idx → Elt F ((cfgm m).win w).elt :=
  (((cfgm m).win w).blk t).view.read (Elt F) (V m c (Pipeline.arrRef spec0 w))

/-- The rows expert `t` computes. -/
def eo (c : Dev nD) (t : Fin (cfgm m).N) : FVec F S64x768 .f32 :=
  netOut (rows (grid0.coords t) (word m) (iblk m c 0 t)) (iblk m c 1 t) (iblk m c 2 t) (iblk m c 3 t) (iblk m c 4 t) (iblk m c 5 t) (iblk m c 6 t) (iblk m c 7 t)

/-- The result after point `n`: zeros at first, then each expert's rows stored at its tokens. -/
def outAt (c : Dev nD) : (n : Nat) → n < (cfgm m).N → Vec F S4096x768 .f32
  | 0, h => stored (grid0.coords ⟨0, h⟩) (word m) (eo m c ⟨0, h⟩) k0_pay2 64
  | n + 1, h => stored (grid0.coords ⟨n + 1, h⟩) (word m) (eo m c ⟨n + 1, h⟩) (outAt c n (Nat.lt_of_succ_lt h)) 64

/-- The proof data. -/
def dats (_ : Fin 1) (c : Dev nD) : Dat τ (Elt F) Unit ℕ (UR sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val t.isLt
  Φ _ := iprop(Pipeline.ΦA spec0 c ∗ Pipeline.ΦT pre0 (tbl m) c)
  q _ := fullShare
  owed _ := 0

theorem A_eq (c : Dev nD) (w : Fin 9) : (dats m 0 c).A w = V m c (Pipeline.arrRef spec0 w) := by
  dsimp only [dats]

theorem after0 (c : Dev nD) (t : Fin (cfgm m).N) : (dats m 0 c).after 0 t = iblk m c 0 t := rfl
theorem after1 (c : Dev nD) (t : Fin (cfgm m).N) : (dats m 0 c).after 1 t = iblk m c 1 t := rfl
theorem after2 (c : Dev nD) (t : Fin (cfgm m).N) : (dats m 0 c).after 2 t = iblk m c 2 t := rfl
theorem after3 (c : Dev nD) (t : Fin (cfgm m).N) : (dats m 0 c).after 3 t = iblk m c 3 t := rfl
theorem after4 (c : Dev nD) (t : Fin (cfgm m).N) : (dats m 0 c).after 4 t = iblk m c 4 t := rfl
theorem after5 (c : Dev nD) (t : Fin (cfgm m).N) : (dats m 0 c).after 5 t = iblk m c 5 t := rfl
theorem after6 (c : Dev nD) (t : Fin (cfgm m).N) : (dats m 0 c).after 6 t = iblk m c 6 t := rfl
theorem after7 (c : Dev nD) (t : Fin (cfgm m).N) : (dats m 0 c).after 7 t = iblk m c 7 t := rfl
theorem after8 (c : Dev nD) (t : Fin (cfgm m).N) : (dats m 0 c).after 8 t = outAt m c t.val t.isLt := rfl

/-! ## What the buffers hold before the body -/

theorem before0 (c : Dev nD) (t : Fin (cfgm m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgm m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgm m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgm m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgm m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgm m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfgm m).N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin (cfgm m).N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-! ## The result's window -/

/-- The first point is the one that clears the result. -/
theorem cond1_iff (i : grid0.Coords) : k0_cond1 i = 1#1 ↔ (i 0).val = 0 := by
  have hi : (i 0).val < 64 := (i 0).isLt
  show IntOp.cmpi .ne ((IntOp.cmpi .eq (BitVec.ofNat 32 (i 0).val) 0#32).setWidth 32) 0#32 = 1#1 ↔ _
  generalize (i 0).val = n at hi
  revert n; decide

theorem coords_val (t : Fin grid0.N) : (grid0.coords t 0).val = t.val := by
  revert t; decide

/-- The result's window states a point idle exactly where it is not the first and every slot is empty. -/
def idleFold (pf : pre0.Contents (Elt F)) (i : grid0.Coords) : Nat → Bool
  | 0 => !(k0_cond1 i == 1#1)
  | n + 1 => idleFold pf i n && !(k0_cond2 (pf.atD 0 (slotOff i (Fin.ofNat 64 n))) == 1#1)

theorem idle_eq (pf : pre0.Contents (Elt F)) (i : grid0.Coords) : idle0 pf 8 i = idleFold pf i 64 := by
  chain_rfl

theorem atD_slot (pf : pre0.Contents (Elt F)) (i : grid0.Coords) (k : Fin 64) : pf.atD 0 (slotOff i k) = pf 0 (slot i k) := by
  have h : ∀ a, slotOff i k a + 1 ≤ S4096.size a := fun a => by
    have := slotOff_inb i k a
    fin_cases a
    exact this
  refine (dif_pos h).trans ?_
  congr 1
  funext a
  apply Fin.ext
  show slotOff i k a = (slot i k a).val
  rw [slotOff_eq]
  fin_cases a
  rfl

theorem idleFold_true (pf : pre0.Contents (Elt F)) (i : grid0.Coords) :
    ∀ n, n ≤ 64 → idleFold pf i n = true → k0_cond1 i ≠ 1#1 ∧ ∀ k : Fin 64, k.val < n → ¬ 0 ≤ (pf 0 (slot i k) : BitVec 32).toInt
  | 0, _, h => ⟨by simpa [idleFold] using h, fun k hk => absurd hk (Nat.not_lt_zero _)⟩
  | n + 1, hn, h => by
    unfold idleFold at h
    rw [Bool.and_eq_true] at h
    obtain ⟨h1, h2⟩ := h
    obtain ⟨a, b⟩ := idleFold_true pf i n (by omega) h1
    refine ⟨a, fun k hk => ?_⟩
    by_cases e : k.val < n
    · exact b k e
    · have ek : Fin.ofNat 64 n = k := by rw [ofNat_eq n (by omega)]; apply Fin.ext; show n = k.val; omega
      rw [ek, atD_slot] at h2
      intro h0
      rw [(cond2_iff _).2 h0] at h2
      simp at h2

/-- The pipeline's result window is written back after the last point only. -/
theorem flush_iff (t : Fin (cfgm m).N) : ((cfgm m).win 8).flush t = true ↔ t.val = 63 := by
  have h := Pipeline.Window.flush_const ((cfgm m).win 8) rfl (fun _ _ => rfl) (n := 64) (m := 63) N_0 rfl t
  have ht : t.val < 64 := lt_of_lt_of_eq t.isLt N_0
  rw [h, Nat.mod_eq_of_lt ht]

theorem idle_iff {t : Fin (cfgm m).N} (h : (cfgm m).idle 8 ((cfgm m).grid.coords t) = true) :
    t.val ≠ 0 ∧ ∀ k : Fin 64, ¬ 0 ≤ (word m (slot (grid0.coords t) k)).toInt := by
  have h' := idleFold_true (tbl m) (grid0.coords t) 64 le_rfl ((idle_eq (tbl m) (grid0.coords t)).symm.trans h)
  refine ⟨fun e => h'.1 ((cond1_iff _).2 ((coords_val t).trans e)), fun k => h'.2 k k.isLt⟩

/-- From the second point on the buffer holds what the points before left. -/
theorem fresh_pos : ∀ n, n < (cfgm m).N → n ≠ 0 → (cfgm m).fresh 8 n = false
  | 0, _, h => absurd rfl h
  | n + 1, hn, _ => by
    have h64 : n + 1 < 64 := lt_of_lt_of_eq hn N_0
    have hn' : n < (cfgm m).N := Nat.lt_of_succ_lt hn
    have hf : ((cfgm m).win 8).flush ⟨n, hn'⟩ = false := by
      rw [Bool.eq_false_iff]; intro h
      have : n = 63 := (flush_iff m _).1 h
      omega
    rw [Cfg.fresh_succ (cfgm m) 8 n hn', hf, Bool.false_or]
    by_cases e : n = 0
    · cases hi : (cfgm m).idle 8 ((cfgm m).grid.coords ⟨n, hn'⟩)
      · rfl
      · exact absurd e (idle_iff m hi).1
    · rw [fresh_pos n hn' e, Bool.and_false]

theorem outAt_idle (c : Dev nD) (t : Fin (cfgm m).N) (h : (cfgm m).idle 8 ((cfgm m).grid.coords t) = true) :
    outAt m c t.val t.isLt = outAt m c (t.val - 1) (Nat.lt_of_le_of_lt (Nat.sub_le _ _) t.isLt) := by
  obtain ⟨h0, hk⟩ := idle_iff m h
  obtain ⟨n, hn⟩ := t
  cases n with
  | zero => exact absurd rfl h0
  | succ n =>
    show stored _ _ _ _ 64 = outAt m c n _
    exact stored_idle _ _ _ _ hk 64

set_option backward.isDefEq.respectTransparency.types false in
theorem before8 (c : Dev nD) (t : Fin (cfgm m).N) (ht : t.val ≠ 0) (d) :
    (dats m 0 c).before 8 t d = outAt m c (t.val - 1) (Nat.lt_of_le_of_lt (Nat.sub_le _ _) t.isLt) := by
  rw [Pipeline.Dat.before_out_traj (dats m 0 c) 8 rfl (fun _ _ => rfl)
    (fun t ht hi _ => by rw [after8, after8]; exact outAt_idle m c t hi) t.val t rfl d, fresh_pos m t.val t.isLt ht, after8]
  rfl

/-- What the result's buffer holds before point `t`. -/
def found8 (c : Dev nD) (t : Fin (cfgm m).N) (d : Vec F S4096x768 .f32) : Vec F S4096x768 .f32 := (dats m 0 c).before 8 t d

/-- One point's step of the result. -/
theorem outAt_step (c : Dev nD) (t : Fin (cfgm m).N) (d : Vec F S4096x768 .f32) :
    stored (grid0.coords t) (word m) (eo m c t) (if k0_cond1 (grid0.coords t) = 1#1 then k0_pay2 else found8 m c t d) 64
      = outAt m c t.val t.isLt := by
  by_cases ht : t.val = 0
  · rw [if_pos ((cond1_iff _).2 ((coords_val t).trans ht))]
    obtain ⟨n, hn⟩ := t
    cases n with
    | zero => rfl
    | succ n => exact absurd ht (Nat.succ_ne_zero n)
  · rw [if_neg (fun h => ht ((coords_val t).symm.trans ((cond1_iff _).1 h))), show found8 m c t d = outAt m c (t.val - 1) (Nat.lt_of_le_of_lt (Nat.sub_le _ _) t.isLt) from before8 m c t ht d]
    obtain ⟨n, hn⟩ := t
    cases n with
    | zero => exact absurd rfl ht
    | succ n => rfl

/-! ## The body's obligation -/

abbrev st (w : Fin 9) (t : Fin (cfgm m).N) := ((cfgm m).win w).stage ((cfgm m).slots t w)

/-- The body at a point. -/
abbrev bodyAt (t : Fin (cfgm m).N) : Prog (TpuEff nD τ sig (Elt F) Λ₀ .tc) PUnit :=
  cc0__expert_ffn_body (grid0.coords t) (Memref.whole main_arg0) (Memref.isWhole_whole _) (st m 0 t) (hstage0_0 (((cfgm m).slots t 0).cast nbuf0_0)) (st m 1 t) (hstage0_1 (((cfgm m).slots t 1).cast nbuf0_1)) (st m 2 t) (hstage0_2 (((cfgm m).slots t 2).cast nbuf0_2)) (st m 3 t) (hstage0_3 (((cfgm m).slots t 3).cast nbuf0_3)) (st m 4 t) (hstage0_4 (((cfgm m).slots t 4).cast nbuf0_4)) (st m 5 t) (hstage0_5 (((cfgm m).slots t 5).cast nbuf0_5)) (st m 6 t) (hstage0_6 (((cfgm m).slots t 6).cast nbuf0_6)) (st m 7 t) (hstage0_7 (((cfgm m).slots t 7).cast nbuf0_7)) (st m 8 t) (hstage0_8 (((cfgm m).slots t 8).cast nbuf0_8)) (Memref.whole cc0_scratch0) (Memref.isWhole_whole _)

theorem tables_eq (c : Dev nD) :
    (Pipeline.ΦT (U := UR sig nD τ) pre0 (tbl m) c : SP F) = owns (c : Thread nD τ) (Memref.whole main_arg0) fullShare.right (word m) := by
  rw [show (owns (c : Thread nD τ) (Memref.whole main_arg0) fullShare.right (word m) : SP F) = (((c.tc : Thread nD τ).loc main_arg0) ↦{fullShare.right} word m)
    from owns_whole (Val := Elt F) (c : Thread nD τ) main_arg0 fullShare.right (tbl m 0)]
  show (bigSep (Finset.univ : Finset (Fin 1)) fun k => ((c.tc : Thread nD τ).loc (pre0.ref k)) ↦{fullShare.right} tbl m k) = _
  exact bigSep_univ_eq_bigSepL [(0 : Fin 1)] (by decide) (by decide) _

def bodyPre (c : Dev nD) (t : Fin (cfgm m).N) : SP F :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d)))

def bodyPost (c : Dev nD) (t : Fin (cfgm m).N) : SP F :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ (dats m 0 c).leavesExact 8 t)

/-- The result's buffer at `outAt` is what the pipeline asks of it, at idle points too. -/
theorem leaves8 (c : Dev nD) (t : Fin (cfgm m).N) :
    owns (c : Thread nD τ) (st m 8 t) fullShare (outAt m c t.val t.isLt) ⊢ ((dats m 0 c).leavesExact 8 t : SP F) := by
  unfold Dat.leavesExact
  have key : owns (c : Thread nD τ) (st m 8 t) fullShare (outAt m c t.val t.isLt) ⊢ (owns (c : Thread nD τ) (st m 8 t) fullShare ((dats m 0 c).after 8 t) : SP F) := .rfl
  cases hi : (cfgm m).idle 8 ((cfgm m).grid.coords t)
  · exact key
  · cases hf : ((cfgm m).win 8).flush t
    · have e : (dats m 0 c).before 8 t (outAt m c t.val t.isLt) = outAt m c t.val t.isLt :=
        (before8 m c t (idle_iff m hi).1 _).trans (outAt_idle m c t hi).symm
      have key' : owns (c : Thread nD τ) (st m 8 t) fullShare (outAt m c t.val t.isLt)
          ⊢ (owns (c : Thread nD τ) (st m 8 t) fullShare ((dats m 0 c).before 8 t (outAt m c t.val t.isLt)) : SP F) :=
        (congrArg (fun z => (owns (c : Thread nD τ) (st m 8 t) fullShare z : SP F)) e) ▸ .rfl
      iintro H
      iexists (outAt m c t.val t.isLt)
      iapply key'
      iexact H
    · exact key

/-- The buffers the body at point `t` reads and writes, the result at `O` and the scratch at `X`. -/
abbrev stAt (c : Dev nD) (t : Fin (cfgm m).N) (O : Vec F S4096x768 .f32) (X : Vec F S64x768 .f32) : SP F :=
  St c (Memref.whole main_arg0) (st m 0 t) (st m 8 t) (Memref.whole cc0_scratch0) fullShare.right (word m) (iblk m c 0 t)
    (weights c (st m 1 t) (st m 2 t) (st m 3 t) (st m 4 t) (st m 5 t) (st m 6 t) (st m 7 t) (iblk m c 1 t) (iblk m c 2 t) (iblk m c 3 t) (iblk m c 4 t) (iblk m c 5 t) (iblk m c 6 t) (iblk m c 7 t)) O X

/-- The body at a point, on the buffers as the pipeline hands them over. -/
theorem point_rule (hw : ∀ j, (word m j).toInt < 4096) (c : Dev nD) (t : Fin (cfgm m).N) (d : Vec F S4096x768 .f32) (X : Vec F S64x768 .f32) :
    stAt m c t (found8 m c t d) X ⊢ bwp c (bodyAt m t) fun _ => stAt m c t (outAt m c t.val t.isLt) (rows (grid0.coords t) (word m) (iblk m c 0 t)) := by
  have hb := body_rule (c := c) (i := grid0.coords t) (arg1 := Memref.whole main_arg0) (Memref.isWhole_whole _) (arg2 := st m 0 t) (hstage0_0 (((cfgm m).slots t 0).cast nbuf0_0)) (st m 1 t) (hstage0_1 (((cfgm m).slots t 1).cast nbuf0_1)) (st m 2 t) (hstage0_2 (((cfgm m).slots t 2).cast nbuf0_2)) (st m 3 t) (hstage0_3 (((cfgm m).slots t 3).cast nbuf0_3)) (st m 4 t) (hstage0_4 (((cfgm m).slots t 4).cast nbuf0_4)) (st m 5 t) (hstage0_5 (((cfgm m).slots t 5).cast nbuf0_5)) (st m 6 t) (hstage0_6 (((cfgm m).slots t 6).cast nbuf0_6)) (st m 7 t) (hstage0_7 (((cfgm m).slots t 7).cast nbuf0_7)) (arg10 := st m 8 t) (hstage0_8 (((cfgm m).slots t 8).cast nbuf0_8)) (arg11 := Memref.whole cc0_scratch0) (Memref.isWhole_whole _)
    (q := fullShare.right) (t := word m) hw (x := iblk m c 0 t) (iblk m c 1 t) (iblk m c 2 t) (iblk m c 3 t) (iblk m c 4 t) (iblk m c 5 t) (iblk m c 6 t) (iblk m c 7 t)
    (O := found8 m c t d) (X := X)
  have eg : gathered (grid0.coords t) (word m) (iblk m c 0 t) X 64 = rows (grid0.coords t) (word m) (iblk m c 0 t) := gathered_all _ _ _ _
  have eo' := outAt_step m c t d
  rw [← eo']
  unfold eo
  rw [← eg]
  exact hb

theorem sound_body (hw : ∀ j, (word m j).toInt < 4096) (c : Dev nD) (t : Fin (cfgm m).N) :
    bodyPre m c t ⊢ wp frame (wpE (defs₀ (F := F)) Variants.none c none) Set.univ (bodyAt m t) (fun _ => bodyPost m c t) := by
  have h1 : ∀ (d : Vec F S4096x768 .f32) (X : Vec F S64x768 .f32),
      iprop(stAt m c t (found8 m c t d) X ∗ ((∃ r, prngReg c r) ∗ (dats m 0 c).owesAt () t.castSucc))
        ⊢ wp frame (wpE (defs₀ (F := F)) Variants.none c none) Set.univ (bodyAt m t) (fun _ => bodyPost m c t) := fun d X => by
    refine (sep_mono (point_rule m hw c t d X) .rfl).trans ((wp_frame_r _ _ _).trans (wp_mono _ _ _ fun _ => ?_))
    unfold stAt St weights bodyPost
    rw [show (dats m 0 c).Φ t.succ = iprop(Pipeline.ΦA spec0 c ∗ Pipeline.ΦT pre0 (tbl m) c) from rfl,
      show (dats m 0 c).owesAt () t.succ = (dats m 0 c).owesAt () t.castSucc from rfl,
      after0, after1, after2, after3, after4, after5, after6, after7, tables_eq]
    unfold Pipeline.ΦA
    rw [scopedRest0_eq]
    iintro ⟨⟨Ht, H0, ⟨H1, H2, H3, H4, H5, H6, H7⟩, H8, Hs⟩, Hr, Ho⟩
    isplitl [Hs Hr Ht]
    · isplitl [Hs Hr]
      · isplitl [Hs]
        · iexists (rows (grid0.coords t) (word m) (iblk m c 0 t))
          rw [← owns_whole (c : Thread nD τ) cc0_scratch0 fullShare (rows (grid0.coords t) (word m) (iblk m c 0 t))]
          iexact Hs
        · iexact Hr
      · iexact Ht
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves8 m c t)
    iexact H8
  unfold bodyPre
  simp only [before0, before1, before2, before3, before4, before5, before6, before7]
  rw [show (dats m 0 c).Φ t.castSucc = iprop(Pipeline.ΦA spec0 c ∗ Pipeline.ΦT pre0 (tbl m) c) from rfl, tables_eq]
  unfold Pipeline.ΦA
  rw [scopedRest0_eq]
  iintro ⟨⟨⟨⟨%X, Hs⟩, Hr⟩, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (h1 d8 X)
  unfold stAt St weights
  isplitr [Hr Ho]
  · isplitl [Ht]; · iexact Ht
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    rw [owns_whole (c : Thread nD τ) cc0_scratch0 fullShare X]
    iexact Hs
  · isplitl [Hr]; · iexact Hr
    iexact Ho

theorem defs₀_row (t : Fin (cfgm m).N) :
    defs₀ (F := F) .tc (cfgm m).body ((cfgm m).bodyArgs t ((cfgm m).slots t)) = bodyAt m t := by
  unfold defs₀; rw [Defs.onTc_tc]

theorem body_obligation (hw : ∀ j, (word m j).toInt < 4096) (c : Dev nD) :
    BodyObligation (dats (F := F) m 0 c) (defs₀ (F := F)) Variants.none () Set.univ := fun t => by
  rw [bigSep_W0, bigSep_W0, defs₀_row]
  exact triple_restated (sound_body m hw c t) rfl .rfl fun _ => .rfl

/-! ## The run -/

set_option backward.isDefEq.respectTransparency.types false in
/-- Every run of the program ends with the result window's array at what the proof data says and every counter at zero. -/
theorem run_main (hw : ∀ j, (word m j).toInt < 4096) :
    θ_run defs (onTc (τ := τ) (main (F := F))) (s₀ m ρ)
      (fun r => Pipeline.FramePost (Pipeline.pin (pcfgs (F := F)) (adm m)) (dats m) 0 (V m) r ∧ r.2.sem = fun _ => 0) :=
  Pipeline.θ_run_frameP (Q' := _) (pcfgs (F := F)) (adm m) (dats m) (0 : Fin 1) launch0 defs₀ Variants.none m ρ main
    (hbody := fun c => (body_obligation m hw c).loose) (hshare := fun c => (dats m 0 c).share_full fun _ => rfl)
    (howed := fun _ _ => rfl) (V := V m) (hmain := Pipeline.hmainP_region (pcfgs (F := F)) 0 defs₀ Variants.none m main (fun c => rfl)) (hA := A_eq m)
    (hpf := fun c k => by rw [Subsingleton.elim c (0 : Dev nD)]) (hΦ := fun _ _ => rfl)

end Launch

end Cert.Proof.Experts

end
-- ==== Proof.Frames.lean ====
/-
  The programs end, with their arguments unchanged and every counter at zero: the preconditions read word by word, and the
  run of the experts' call read at each argument.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal.Run
public import proofs.«01_k».proof.Proof.Gen.Pre_slots_distinct
public import proofs.«01_k».proof.Proof.Gen.Pre_tokens_in_range
public import Idealize.ShloMosaic.Lib.StableHlo.Predicate
public import Idealize.ShloMosaic.Lib.Quiescent

@[expose] public section

noncomputable section

namespace Cert.Proof.Experts

open Cert.KernelIdeal Cert.KernelIdeal.Gen
open Idealize.ShloMosaic Idealize.ShloMosaic.TcCoe Idealize.SL.Sem

variable {F : FTy → Type} [FloatOps F]

/-! ## The preconditions, word by word -/

theorem cmpi_slt_iff (a b : BitVec 32) : IntOp.cmpi .slt a b = 1#1 ↔ a.toInt < b.toInt := by
  rw [IntOp.cmpi]
  show BitVec.ofBool (a.slt b) = 1#1 ↔ _
  rw [StableHlo.Predicate.ofBool_eq_one_iff, BitVec.slt_iff_toInt_lt]

theorem cmpi_ne_iff (a b : BitVec 32) : IntOp.cmpi .ne a b = 1#1 ↔ a ≠ b := by
  rw [IntOp.cmpi]
  show BitVec.ofBool (a != b) = 1#1 ↔ _
  rw [StableHlo.Predicate.ofBool_eq_one_iff, bne_iff_ne]

theorem andi_one_iff (a b : BitVec 1) : IntOp.andi a b = 1#1 ↔ a = 1#1 ∧ b = 1#1 := by revert a b; decide
theorem ori_one_iff (a b : BitVec 1) : IntOp.ori a b = 1#1 ↔ a = 1#1 ∨ b = 1#1 := by revert a b; decide

/-- Every entry of a vector of words is read at a number. -/
theorem idx_ofFin (j : S4096.Idx) : Shape.Idx.ofFin (j 0) = j := by
  funext a
  fin_cases a
  rfl

/-- The words are below 4096 where `tokens_in_range` is all ones. -/
theorem lt_of_range (x0 : IVec S4096 32) (x1 x2 x3 x4 x5 x6 x7 x8)
    (h : Cert.Pre_tokens_in_range.fn (F := F) x0 x1 x2 x3 x4 x5 x6 x7 x8 = fun _ => 1#1) (j : S4096.Idx) : (x0 j).toInt < 4096 := by
  have e := congrFun h j
  exact (cmpi_slt_iff _ _).1 e

/-- Where `slots_distinct` is all ones the words are below 4096, and two slots of one word that is not negative are one slot. -/
theorem of_distinct (x0 : IVec S4096 32) (x1 x2 x3 x4 x5 x6 x7 x8)
    (h : Cert.Pre_slots_distinct.fn (F := F) x0 x1 x2 x3 x4 x5 x6 x7 x8 = fun _ => 1#1) (p q : Fin 4096) :
    (x0 (Shape.Idx.ofFin p)).toInt < 4096
      ∧ (x0 (Shape.Idx.ofFin p) = x0 (Shape.Idx.ofFin q) → 0 ≤ (x0 (Shape.Idx.ofFin p)).toInt → p = q) := by
  have e := congrFun h (StableHlo.Predicate.ij p q)
  unfold Cert.Pre_slots_distinct.fn at e
  dsimp only at e
  obtain ⟨e1, e2⟩ := (andi_one_iff _ _).1 e
  rw [StableHlo.Predicate.bcast_rows] at e1
  refine ⟨(cmpi_slt_iff _ _).1 e1, fun hpq h0 => ?_⟩
  rcases (ori_one_iff _ _).1 e2 with e3 | e3
  · rcases (ori_one_iff _ _).1 e3 with e4 | e4
    · have e5 := (cmpi_ne_iff _ _).1 e4
      rw [StableHlo.Predicate.bcast_rows, StableHlo.Predicate.bcast_cols] at e5
      exact absurd hpq e5
    · rw [StableHlo.Predicate.bcast_rows] at e4
      have e5 : (x0 (Shape.Idx.ofFin p)).toInt < 0 := (cmpi_slt_iff _ _).1 e4
      omega
  · have e4 : BitVec.ofNat 32 p.val = BitVec.ofNat 32 q.val := StableHlo.Predicate.cmpi_eq_iff.1 e3
    have e5 := congrArg BitVec.toNat e4
    rw [BitVec.toNat_ofNat, BitVec.toNat_ofNat, Nat.mod_eq_of_lt (by omega), Nat.mod_eq_of_lt (by omega)] at e5
    exact Fin.ext e5

/-! ## The run at each argument -/

section Frame

variable (m : (ℓ : Loc nD τ sig) → Buf (Elt F) ℓ) (ρ : Dev nD → PrngReg)

/-- The table is no window's array. -/
theorem arg0_rest : main_arg0 ∈ Pipeline.restRefs sig spec0 := by decide

set_option backward.isDefEq.respectTransparency.types false in
/-- The experts' call ends with its result at the last point's, its arguments unchanged and its counters at zero. -/
theorem run_args (hw : ∀ j, (word m j).toInt < 4096) :
    θ_run defs (onTc (τ := τ) (main (F := F))) ⟨m, fun _ => 0, ρ⟩ (fun r => (∀ c : Dev nD,
      r.2.mem ((c.tc : Thread nD τ).loc main_v0) = (dats m 0 c).arrAt 8 (cfgm m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨(h.1 c).1 8, (h.1 c).2 main_arg0 arg0_rest,
    ((h.1 c).1 0).trans ((dats m 0 c).arrAt_in 0 rfl _), ((h.1 c).1 1).trans ((dats m 0 c).arrAt_in 1 rfl _),
    ((h.1 c).1 2).trans ((dats m 0 c).arrAt_in 2 rfl _), ((h.1 c).1 3).trans ((dats m 0 c).arrAt_in 3 rfl _),
    ((h.1 c).1 4).trans ((dats m 0 c).arrAt_in 4 rfl _), ((h.1 c).1 5).trans ((dats m 0 c).arrAt_in 5 rfl _),
    ((h.1 c).1 6).trans ((dats m 0 c).arrAt_in 6 rfl _), ((h.1 c).1 7).trans ((dats m 0 c).arrAt_in 7 rfl _)⟩, h.2⟩)
    (run_main m ρ hw)

end Frame

/-! ## The programs' frames -/

theorem defs_kernel : Cert.Kernel.defs (F := Bits) = Cert.KernelIdeal.defs (F := Bits) := by chain_rfl
theorem main_kernel : Cert.Kernel.main (F := Bits) = Cert.KernelIdeal.main (F := Bits) := rfl

/-- The kernel, at the floats of the machine, ends with its arguments unchanged. -/
theorem quiescent_kernel : Cert.quiescent_Kernel := fun m g hpre => by
  rw [defs_kernel, main_kernel]
  exact (θ_run defs _ _).mono (fun r h => ⟨fun c => (h.1 c).2, h.2⟩)
    (run_args (F := Bits) m g fun j => lt_of_range _ _ _ _ _ _ _ _ _ (hpre 0) j)

/-- So does the kernel over the extended reals. -/
theorem quiescent_kernelIdeal : Cert.quiescent_KernelIdeal := fun m g hpre =>
  (θ_run defs _ _).mono (fun r h => ⟨fun c => (h.1 c).2, h.2⟩)
    (run_args (F := Ideal) m g fun j => lt_of_range _ _ _ _ _ _ _ _ _ (hpre 0) j)

/-- Words that are distinct slots are below 4096. -/
theorem word_lt (m : (ℓ : Loc nD τ sig) → Buf (Elt Ideal) ℓ) (hpre : Cert.Pre_KernelIdeal_slots_distinct m) (j : S4096.Idx) :
    (word m j).toInt < 4096 := by
  have h := (of_distinct _ _ _ _ _ _ _ _ _ (hpre 0) (j 0) (j 0)).1
  exact (congrArg (fun i => (word m i).toInt) (idx_ofFin j)) ▸ h

theorem quiescent_kernelIdeal_distinct : Cert.quiescent_KernelIdeal_pre_slots_distinct := fun m g hpre =>
  (θ_run defs _ _).mono (fun r h => ⟨fun c => (h.1 c).2, h.2⟩) (run_args (F := Ideal) m g (word_lt m hpre))

/-- The reference ends with its arguments unchanged, whatever they hold. -/
theorem quiescent_referenceIdeal : Cert.quiescent_ReferenceIdeal := fun m g _ =>
  (θ_run Cert.ReferenceIdeal.defs _ _).mono (fun r h => ⟨fun c => (h c).2, sem_eq_zero_of_no_sems rfl _⟩)
    (Cert.ReferenceIdeal.Value.run (F := Ideal) m g)

theorem quiescent_referenceIdeal_distinct : Cert.quiescent_ReferenceIdeal_pre_slots_distinct := fun m g _ =>
  quiescent_referenceIdeal m g trivial

end Cert.Proof.Experts

end
-- ==== Proof.Net.lean ====
/-
  The experts' network at exact reals: what the body computes from a block of 64 rows, entry by entry, is the plain formula.
-/
module

public import proofs.«01_k».proof.Proof.Body
public import Idealize.ShloMosaic.Lib.MatmulPlain
public import Idealize.ShloMosaic.Lib.Pipeline.Value
public import Idealize.ShloMosaic.Lib.ValueIdx
public import Idealize.ShloMosaic.Lib.IdealHost

@[expose] public section

noncomputable section

namespace Cert.Proof.Experts

open Cert.KernelIdeal Cert.KernelIdeal.Gen
open Idealize.ShloMosaic Idealize.ShloMosaic.ValueIdx
open scoped BigOperators

/-- One row through one linear map: at `f`, the row's products with column `f` of the weights, summed, and the offset added. -/
def lin (x : Fin 768 → EReal) (w : Fin 768 → Fin 768 → EReal) (b : Fin 768 → EReal) (f : Fin 768) : EReal :=
  (∑ k, x k * w k f) + b f

/-- One row through one expert: the product of the value and the gate (through `z * logistic z`), through the output map. -/
def net (x : Fin 768 → EReal) (wg : Fin 768 → Fin 768 → EReal) (bg : Fin 768 → EReal) (wv : Fin 768 → Fin 768 → EReal) (bv : Fin 768 → EReal)
    (wo : Fin 768 → Fin 768 → EReal) (bo : Fin 768 → EReal) : Fin 768 → EReal :=
  lin (fun f => lin x wv bv f * (lin x wg bg f * Ideal.logistic (lin x wg bg f))) wo bo

/-- A bias row, cast twice and broadcast over the block's rows. -/
theorem bias_apply (b : Vec Ideal S1x1x768 .f32) (r : Fin 64) (f : Fin 768) :
    broadcastTo S64x768 (shapeCast S1x768 (shapeCast S768 b shapeCasts_S1x1x768_S768) shapeCasts_S768_S1x768) broadcasts_S1x768_S64x768 (ix2 r f)
      = b (ix3 0 0 f) := by
  rw [broadcastTo_apply _ _ _ (ix2 0 f), shapeCast_apply _ _ _ (ix1 f), shapeCast_apply _ _ _ (ix3 0 0 f)]
  · rw [Shape.rowMajor_val_three, Shape.rowMajor_val_one]
    show (0 * 1 + 0) * 768 + f.val = f.val
    omega
  · rw [Shape.rowMajor_val_one, Shape.rowMajor_val_two]
    show f.val = 0 * 768 + f.val
    omega
  · intro a
    fin_cases a
    · rfl
    · rfl

/-- A block's product with an expert's weights, and its bias, at an entry. -/
theorem linear_apply (x : Vec Ideal S64x768 .f32) (w : Vec Ideal S1x768x768 .f32) (b : Vec Ideal S1x1x768 .f32) (r : Fin 64) (f : Fin 768) :
    (addf (F := Ideal) (φ := .f32) (matmul (φ₁ := .f32) (φ₂ := .f32) dot_S64x768_S768x768_S64x768_1_0_0_1_n_n none x (shapeCast (α := Ideal .f32) S768x768 w shapeCasts_S1x768x768_S768x768) (constant S64x768 .f32 0x00000000#32))
        (broadcastTo S64x768 (shapeCast S1x768 (shapeCast S768 b shapeCasts_S1x1x768_S768) shapeCasts_S768_S1x768) broadcasts_S1x768_S64x768) : FVec Ideal S64x768 .f32) (ix2 r f)
      = lin (fun k => x (ix2 r k)) (fun k f => w (ix3 0 k f)) (fun f => b (ix3 0 0 f)) f := by
  rw [addf_apply, bias_apply]
  refine congrArg (· + b (ix3 0 0 f)) ?_
  refine (Ideal.matmul_plain_apply none x _ _ r f).trans ?_
  rw [constant_apply, Ideal.ofBits_zero_f32]
  refine (zero_add _).trans (Finset.sum_congr rfl fun k _ => ?_)
  refine congrArg (x (ix2 r k) * ·) (shapeCast_apply _ _ _ (ix3 0 k f) ?_)
  rw [Shape.rowMajor_val_three, Shape.rowMajor_val_two]
  show (0 * 768 + k.val) * 768 + f.val = k.val * 768 + f.val
  omega

/-- What the body computes of row `r`, at `d`: the row through the expert, times the row's weight. -/
theorem netOut_apply (x : Vec Ideal S64x768 .f32) (wg : Vec Ideal S1x768x768 .f32) (bg : Vec Ideal S1x1x768 .f32) (wv : Vec Ideal S1x768x768 .f32)
    (bv : Vec Ideal S1x1x768 .f32) (wo : Vec Ideal S1x768x768 .f32) (bo : Vec Ideal S1x1x768 .f32) (w : Vec Ideal S1x64x1 .f32) (r : Fin 64) (d : Fin 768) :
    netOut x wg bg wv bv wo bo w (ix2 r d)
      = net (fun k => x (ix2 r k)) (fun k f => wg (ix3 0 k f)) (fun f => bg (ix3 0 0 f)) (fun k f => wv (ix3 0 k f)) (fun f => bv (ix3 0 0 f))
          (fun k f => wo (ix3 0 k f)) (fun f => bo (ix3 0 0 f)) d * w (ix3 0 r 0) := by
  unfold netOut k0_pay69 k0_pay68
  dsimp only
  rw [mulf_apply, linear_apply]
  refine congrArg₂ (· * ·) ?_ ?_
  · unfold net
    refine congrArg (fun z => lin z (fun k f => wo (ix3 0 k f)) (fun f => bo (ix3 0 0 f)) d) ?_
    funext f
    unfold k0_pay67
    rw [mulf_apply, linear_apply, mulf_apply, linear_apply]
    exact congrArg (fun z : EReal => lin (fun k => x (ix2 r k)) (fun k f => wv (ix3 0 k f)) (fun f => bv (ix3 0 0 f)) f
      * (lin (fun k => x (ix2 r k)) (fun k f => wg (ix3 0 k f)) (fun f => bg (ix3 0 0 f)) f * Ideal.logistic z)) (linear_apply x wg bg r f)
  · rw [broadcastTo_apply _ _ _ (ix2 r 0), shapeCast_apply _ _ _ (ix3 0 r 0)]
    · rw [Shape.rowMajor_val_three, Shape.rowMajor_val_two]
      show (0 * 64 + r.val) * 1 + 0 = r.val * 1 + 0
      omega
    · intro a
      fin_cases a
      · rfl
      · rfl

end Cert.Proof.Experts

end
-- ==== Proof.Store.lean ====
/-
  The experts' result entry by entry: an entry whose row no slot names is zero, and an entry whose row exactly one slot names is
  that slot's row of what its expert computes. Then the windows' blocks as parts of the arguments.
-/
module

public import proofs.«01_k».proof.Proof.Run
public import Idealize.ShloMosaic.Lib.ValueIdxCore
public import Idealize.ShloMosaic.Lib.Pipeline.ValueKit.Geometry

@[expose] public section

noncomputable section

namespace Cert.Proof.Experts

open Cert.KernelIdeal Cert.KernelIdeal.Gen
open Idealize.ShloMosaic Idealize.ShloMosaic.TcCoe

variable {F : FTy → Type} [FloatOps F]

/-- The word names row `r`: it is no empty slot and its number is `r`. -/
def Names (v : BitVec 32) (r : Nat) : Prop := 0 ≤ v.toInt ∧ r = v.toInt.toNat

/-- Row `k` of a block at entry `d`. -/
theorem rowOf_apply (y : FVec F S64x768 .f32) (k : Fin 64) (d : Fin 768) : rowOf y k (at1 d) = y (ValueIdx.ix2 k d) := by
  refine congrArg y ?_
  funext a
  apply Fin.ext
  fin_cases a
  · show k.val + 0 = k.val
    omega
  · show 0 + d.val = d.val
    omega

/-! ## One expert's stores -/

/-- An entry whose row none of the first `n` slots names is left as it was. -/
theorem stored_none (i : grid0.Coords) (t : S4096.Idx → BitVec 32) (y : FVec F S64x768 .f32) (O : Vec F S4096x768 .f32)
    (j : S4096x768.Idx) : ∀ n, n ≤ 64 → (∀ k : Fin 64, k.val < n → ¬ Names (t (slot i k)) (j 0).val) → stored i t y O n j = O j
  | 0, _, _ => rfl
  | n + 1, hn, h => by
    unfold stored putTok
    rw [ofNat_eq n hn]
    refine (if_neg (h ⟨n, hn⟩ (Nat.lt_succ_self n))).trans ?_
    exact stored_none i t y O j n (by omega) fun k hk => h k (by omega)

/-- An entry whose row slot `k` alone names holds row `k` of what was stored. -/
theorem stored_one (i : grid0.Coords) (t : S4096.Idx → BitVec 32) (y : FVec F S64x768 .f32) (O : Vec F S4096x768 .f32)
    (j : S4096x768.Idx) (k : Fin 64) (hk : Names (t (slot i k)) (j 0).val)
    (hu : ∀ k' : Fin 64, Names (t (slot i k')) (j 0).val → k' = k) :
    ∀ n, n ≤ 64 → k.val < n → stored i t y O n j = y (ValueIdx.ix2 k (j 1))
  | 0, _, h => absurd h (Nat.not_lt_zero _)
  | n + 1, hn, h => by
    unfold stored putTok
    rw [ofNat_eq n hn]
    by_cases e : k.val = n
    · have e' : (⟨n, hn⟩ : Fin 64) = k := Fin.ext e.symm
      rw [e']
      exact (if_pos hk).trans (rowOf_apply y k (j 1))
    · refine (if_neg fun hh => e ?_).trans (stored_one i t y O j k hk hu n (by omega) (by omega))
      exact (congrArg Fin.val (hu ⟨n, hn⟩ hh)).symm

/-! ## All experts' stores -/

section All

variable (m : (ℓ : Loc nD τ sig) → Buf (Elt F) ℓ)

/-- An entry whose row no slot up to point `n` names is still zero. -/
theorem outAt_none (c : Dev nD) (j : S4096x768.Idx) : ∀ n (h : n < (cfgm m).N),
    (∀ t : Fin (cfgm m).N, t.val ≤ n → ∀ k : Fin 64, ¬ Names (word m (slot (grid0.coords t) k)) (j 0).val) →
    outAt m c n h j = (k0_pay2 : Vec F S4096x768 .f32) j
  | 0, h, hh => by
    unfold outAt
    exact stored_none _ _ _ _ j 64 le_rfl fun k _ => hh ⟨0, h⟩ le_rfl k
  | n + 1, h, hh => by
    unfold outAt
    refine (stored_none _ _ _ _ j 64 le_rfl fun k _ => hh ⟨n + 1, h⟩ le_rfl k).trans ?_
    exact outAt_none c j n _ fun t ht k => hh t (by omega) k

/-- An entry whose row slot `k` of point `t` alone names holds that row of what expert `t` computes, from point `t` on. -/
theorem outAt_one (c : Dev nD) (j : S4096x768.Idx) (t : Fin (cfgm m).N) (k : Fin 64)
    (hk : Names (word m (slot (grid0.coords t) k)) (j 0).val)
    (hu : ∀ (t' : Fin (cfgm m).N) (k' : Fin 64), Names (word m (slot (grid0.coords t') k')) (j 0).val → t' = t ∧ k' = k) :
    ∀ n (h : n < (cfgm m).N), t.val ≤ n → outAt m c n h j = eo m c t (ValueIdx.ix2 k (j 1))
  | 0, h, ht => by
    have e : t = ⟨0, h⟩ := Fin.ext (by show t.val = 0; omega)
    subst e
    unfold outAt
    exact stored_one _ _ _ _ j k hk (fun k' h' => (hu _ k' h').2) 64 le_rfl k.isLt
  | n + 1, h, ht => by
    unfold outAt
    by_cases e : t.val = n + 1
    · have e : t = ⟨n + 1, h⟩ := Fin.ext e
      subst e
      exact stored_one _ _ _ _ j k hk (fun k' h' => (hu _ k' h').2) 64 le_rfl k.isLt
    · refine (stored_none _ _ _ _ j 64 le_rfl fun k' _ h' => e ?_).trans ?_
      · exact (congrArg Fin.val (hu _ k' h').1).symm
      · exact outAt_one c j t k hk hu n _ (by omega)

/-- The last point. -/
theorem last_lt : 63 < (cfgm m).N := lt_of_lt_of_eq (by decide : 63 < 64) N_0.symm

set_option backward.isDefEq.respectTransparency.types false in
/-- The result after the call is what the last point leaves. -/
theorem result_eq (c : Dev nD) : (dats m 0 c).arrAt 8 (cfgm m).N = outAt m c 63 (last_lt m) := by
  refine (dats m 0 c).arrAt_eq_of_after_last 8 ⟨63, last_lt m⟩ ⟨(flush_iff m _).2 rfl, fun t ht => Fin.ext ((flush_iff m t).1 ht), fun a => ?_⟩ _ fun j => ?_
  · fin_cases a <;> exact ⟨rfl, rfl⟩
  · rfl

/-! ## The blocks -/

/-- Point `t`'s expert. -/
def ex (t : Fin (cfgm m).N) : Fin 64 := ⟨t.val, lt_of_lt_of_eq t.isLt N_0⟩

theorem toNat_coord (t : Fin (cfgm m).N) : (BitVec.ofNat 32 (grid0.coords t 0).val).toNat = (ex m t).val := by
  rw [coords_val, BitVec.toNat_ofNat]
  have := (ex m t).isLt
  exact Nat.mod_eq_of_lt (by show t.val < _; unfold ex at this; simp only at this; omega)

set_option backward.isDefEq.respectTransparency.types false in
/-- Window 0's block is the whole of the tokens. -/
theorem iblk0 (c : Dev nD) (t : Fin (cfgm m).N) :
    (iblk m c 0 t : Vec F S4096x768 .f32) = m ((c.tc : Thread nD τ).loc main_arg1) := by
  funext j
  show m ((c.tc : Thread nD τ).loc main_arg1) ((((cfgm m).win 0).blk t).view.emb j) = _
  refine congrArg (m ((c.tc : Thread nD τ).loc main_arg1)) ?_
  funext a
  apply Fin.ext
  refine (Pipeline.Window.rect_emb_val ((cfgm m).win 0) t j a).trans ?_
  fin_cases a
  · show 0 * _ + (j 0).val = (j 0).val
    omega
  · show 0 * _ + (j 1).val = (j 1).val
    omega

theorem coord_first (t : Fin (cfgm m).N) : (BitVec.ofNat 32 (grid0.coords t 0).val).toNat * 1 + 0 = (ex m t).val := by
  rw [toNat_coord]; omega

theorem coord_rest (n y : Nat) : 0 * n + y = y := by omega

set_option backward.isDefEq.respectTransparency.types false in
/-- Window 1's block at point `t` is expert `t`'s part of the gate's weights. -/
theorem iblk1 (c : Dev nD) (t : Fin (cfgm m).N) (a b : Fin 768) :
    (iblk m c 1 t : Vec F S1x768x768 .f32) (ValueIdx.ix3 0 a b) = (m ((c.tc : Thread nD τ).loc main_arg2) : Vec F S64x768x768 .f32) (ValueIdx.ix3 (ex m t) a b) := by
  show m ((c.tc : Thread nD τ).loc main_arg2) ((((cfgm m).win 1).blk t).view.emb (ValueIdx.ix3 (0 : Fin 1) a b)) = _
  refine congrArg (m ((c.tc : Thread nD τ).loc main_arg2)) (funext fun x => Fin.ext ?_)
  refine (Pipeline.Window.rect_emb_val ((cfgm m).win 1) t (ValueIdx.ix3 (0 : Fin 1) a b) x).trans ?_
  fin_cases x
  exacts [coord_first m t, coord_rest _ _, coord_rest _ _]

set_option backward.isDefEq.respectTransparency.types false in
/-- Window 2's block at point `t` is expert `t`'s part of the gate's bias. -/
theorem iblk2 (c : Dev nD) (t : Fin (cfgm m).N) (b : Fin 768) :
    (iblk m c 2 t : Vec F S1x1x768 .f32) (ValueIdx.ix3 0 0 b) = (m ((c.tc : Thread nD τ).loc main_arg3) : Vec F S64x1x768 .f32) (ValueIdx.ix3 (ex m t) (0 : Fin 1) b) := by
  show m ((c.tc : Thread nD τ).loc main_arg3) ((((cfgm m).win 2).blk t).view.emb (ValueIdx.ix3 (0 : Fin 1) (0 : Fin 1) b)) = _
  refine congrArg (m ((c.tc : Thread nD τ).loc main_arg3)) (funext fun x => Fin.ext ?_)
  refine (Pipeline.Window.rect_emb_val ((cfgm m).win 2) t (ValueIdx.ix3 (0 : Fin 1) (0 : Fin 1) b) x).trans ?_
  fin_cases x
  exacts [coord_first m t, coord_rest _ _, coord_rest _ _]

set_option backward.isDefEq.respectTransparency.types false in
/-- Window 3's block at point `t` is expert `t`'s part of the value's weights. -/
theorem iblk3 (c : Dev nD) (t : Fin (cfgm m).N) (a b : Fin 768) :
    (iblk m c 3 t : Vec F S1x768x768 .f32) (ValueIdx.ix3 0 a b) = (m ((c.tc : Thread nD τ).loc main_arg4) : Vec F S64x768x768 .f32) (ValueIdx.ix3 (ex m t) a b) := by
  show m ((c.tc : Thread nD τ).loc main_arg4) ((((cfgm m).win 3).blk t).view.emb (ValueIdx.ix3 (0 : Fin 1) a b)) = _
  refine congrArg (m ((c.tc : Thread nD τ).loc main_arg4)) (funext fun x => Fin.ext ?_)
  refine (Pipeline.Window.rect_emb_val ((cfgm m).win 3) t (ValueIdx.ix3 (0 : Fin 1) a b) x).trans ?_
  fin_cases x
  exacts [coord_first m t, coord_rest _ _, coord_rest _ _]

set_option backward.isDefEq.respectTransparency.types false in
/-- Window 4's block at point `t` is expert `t`'s part of the value's bias. -/
theorem iblk4 (c : Dev nD) (t : Fin (cfgm m).N) (b : Fin 768) :
    (iblk m c 4 t : Vec F S1x1x768 .f32) (ValueIdx.ix3 0 0 b) = (m ((c.tc : Thread nD τ).loc main_arg5) : Vec F S64x1x768 .f32) (ValueIdx.ix3 (ex m t) (0 : Fin 1) b) := by
  show m ((c.tc : Thread nD τ).loc main_arg5) ((((cfgm m).win 4).blk t).view.emb (ValueIdx.ix3 (0 : Fin 1) (0 : Fin 1) b)) = _
  refine congrArg (m ((c.tc : Thread nD τ).loc main_arg5)) (funext fun x => Fin.ext ?_)
  refine (Pipeline.Window.rect_emb_val ((cfgm m).win 4) t (ValueIdx.ix3 (0 : Fin 1) (0 : Fin 1) b) x).trans ?_
  fin_cases x
  exacts [coord_first m t, coord_rest _ _, coord_rest _ _]

set_option backward.isDefEq.respectTransparency.types false in
/-- Window 5's block at point `t` is expert `t`'s part of the output's weights. -/
theorem iblk5 (c : Dev nD) (t : Fin (cfgm m).N) (a b : Fin 768) :
    (iblk m c 5 t : Vec F S1x768x768 .f32) (ValueIdx.ix3 0 a b) = (m ((c.tc : Thread nD τ).loc main_arg6) : Vec F S64x768x768 .f32) (ValueIdx.ix3 (ex m t) a b) := by
  show m ((c.tc : Thread nD τ).loc main_arg6) ((((cfgm m).win 5).blk t).view.emb (ValueIdx.ix3 (0 : Fin 1) a b)) = _
  refine congrArg (m ((c.tc : Thread nD τ).loc main_arg6)) (funext fun x => Fin.ext ?_)
  refine (Pipeline.Window.rect_emb_val ((cfgm m).win 5) t (ValueIdx.ix3 (0 : Fin 1) a b) x).trans ?_
  fin_cases x
  exacts [coord_first m t, coord_rest _ _, coord_rest _ _]

set_option backward.isDefEq.respectTransparency.types false in
/-- Window 6's block at point `t` is expert `t`'s part of the output's bias. -/
theorem iblk6 (c : Dev nD) (t : Fin (cfgm m).N) (b : Fin 768) :
    (iblk m c 6 t : Vec F S1x1x768 .f32) (ValueIdx.ix3 0 0 b) = (m ((c.tc : Thread nD τ).loc main_arg7) : Vec F S64x1x768 .f32) (ValueIdx.ix3 (ex m t) (0 : Fin 1) b) := by
  show m ((c.tc : Thread nD τ).loc main_arg7) ((((cfgm m).win 6).blk t).view.emb (ValueIdx.ix3 (0 : Fin 1) (0 : Fin 1) b)) = _
  refine congrArg (m ((c.tc : Thread nD τ).loc main_arg7)) (funext fun x => Fin.ext ?_)
  refine (Pipeline.Window.rect_emb_val ((cfgm m).win 6) t (ValueIdx.ix3 (0 : Fin 1) (0 : Fin 1) b) x).trans ?_
  fin_cases x
  exacts [coord_first m t, coord_rest _ _, coord_rest _ _]

set_option backward.isDefEq.respectTransparency.types false in
/-- Window 7's block at point `t` is expert `t`'s part of the slots' weights. -/
theorem iblk7 (c : Dev nD) (t : Fin (cfgm m).N) (k : Fin 64) :
    (iblk m c 7 t : Vec F S1x64x1 .f32) (ValueIdx.ix3 0 k 0) = (m ((c.tc : Thread nD τ).loc main_arg8) : Vec F S64x64x1 .f32) (ValueIdx.ix3 (ex m t) k (0 : Fin 1)) := by
  show m ((c.tc : Thread nD τ).loc main_arg8) ((((cfgm m).win 7).blk t).view.emb (ValueIdx.ix3 (0 : Fin 1) k (0 : Fin 1))) = _
  refine congrArg (m ((c.tc : Thread nD τ).loc main_arg8)) (funext fun x => Fin.ext ?_)
  refine (Pipeline.Window.rect_emb_val ((cfgm m).win 7) t (ValueIdx.ix3 (0 : Fin 1) k (0 : Fin 1)) x).trans ?_
  fin_cases x
  exacts [coord_first m t, coord_rest _ _, coord_rest _ _]

end All

end Cert.Proof.Experts

end
-- ==== Proof.Ref.lean ====
/-
  The reference's result entry by entry: its operations as named steps, each step read at an entry, and the scatter's sum,
  which at a row that no word names is zero and at a row that one slot names is that slot's row.
-/
module

public import proofs.«01_k».proof.Proof.Net
public import proofs.«01_k».proof.Proof.Store
public import proofs.«01_k».proof.Proof.Gen.ReferenceIdeal.Run
public import Idealize.ShloMosaic.Lib.StackMember
public import Idealize.ShloMosaic.Lib.Routing.Ops
public import Idealize.ShloMosaic.Lib.Routing.OpsPair
public import Idealize.ShloMosaic.Lib.ReduceAll

@[expose] public section

noncomputable section

namespace Cert.Proof.Experts

open Cert.ReferenceIdeal Cert.ReferenceIdeal.Gen
open Idealize.ShloMosaic Idealize.ShloMosaic.TcCoe
open scoped BigOperators

/-! ## The steps -/

/-- The words, the negative ones replaced by zero. -/
def safeR (t : IVec S4096 32) : IVec S4096 32 := maxsi t (broadcastInDim S4096 ![] bcast_S_S4096 (constantI S_ 32 0#32))

/-- The words as a column of row numbers, a negative one counted from the end. -/
def colR (s : IVec S4096 32) : IVec S4096x1 32 :=
  broadcastInDim S4096x1 ![0] bcast_S4096_S4096x1_0 (select (cmpi .slt s (broadcastInDim S4096 ![] bcast_S_S4096 (constantI S_ 32 0#32)))
    (addi s (broadcastInDim S4096 ![] bcast_S_S4096 (constantI S_ 32 4096#32))) s)

/-- Whether a column's words are row numbers. -/
def insideR (i : IVec S4096x1 32) : IVec S4096 1 :=
  Host.reduce IntOp.andi (andi (cmpi .sge i (broadcastInDim S4096x1 ![] bcast_S_S4096x1 (constantI S_ 32 0#32)))
    (cmpi .sle i (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The rows taken, expert by expert. -/
def takenR (x : FVec Ideal S4096x768 .f32) (i : IVec S4096x1 32) : FVec Ideal S64x64x768 .f32 :=
  shapeCast _ (select (broadcastInDim S4096x768 ![0] bcast_S4096_S4096x768_0 (insideR i))
    (Host.gather gather_S4096x768_S4096x1_S4096x768_1_0_n_n_0_1_1768 x i)
    (broadcastInDim S4096x768 ![] bcast_S_S4096x768 (constant S_ .f32 0x7FC00000#32))) shapeCasts_S4096x768_S64x64x768

/-- A linear map for each expert. -/
def linR (x : FVec Ideal S64x64x768 .f32) (w : FVec Ideal S64x768x768 .f32) (b : FVec Ideal S64x1x768 .f32) : FVec Ideal S64x64x768 .f32 :=
  addf (Host.dotGeneral dot_S64x64x768_S64x768x768_S64x64x768_2_1_1_2_0_0 none x w)
    (broadcastInDim S64x64x768 ![0, 1, 2] bcast_S64x1x768_S64x64x768_0_1_2 b)

/-- The gate's activation. -/
def siluR (g : FVec Ideal S64x64x768 .f32) : FVec Ideal S64x64x768 .f32 :=
  mulf g (Host.divf (broadcastInDim S64x64x768 ![] bcast_S_S64x64x768 (constant S_ .f32 0x3F800000#32))
    (addf (broadcastInDim S64x64x768 ![] bcast_S_S64x64x768 (constant S_ .f32 0x3F800000#32)) (Host.exp (Host.negf g))))

/-- The slots' weights, an empty slot's replaced by zero. -/
def weightR (t : IVec S4096 32) (w : FVec Ideal S64x64x1 .f32) : FVec Ideal S64x64x1 .f32 :=
  mulf w (shapeCast _ (uitofp .f32 (cmpi .sge t (broadcastInDim S4096 ![] bcast_S_S4096 (constantI S_ 32 0#32)))) shapeCasts_S4096_S64x64x1)

/-- The experts' rows, weighted. -/
def rowsR (t : IVec S4096 32) (x : FVec Ideal S4096x768 .f32) (wg : FVec Ideal S64x768x768 .f32) (bg : FVec Ideal S64x1x768 .f32)
    (wv : FVec Ideal S64x768x768 .f32) (bv : FVec Ideal S64x1x768 .f32) (wo : FVec Ideal S64x768x768 .f32) (bo : FVec Ideal S64x1x768 .f32)
    (w : FVec Ideal S64x64x1 .f32) : FVec Ideal S64x64x768 .f32 :=
  mulf (linR (mulf (linR (takenR x (colR (safeR t))) wv bv) (siluR (linR (takenR x (colR (safeR t))) wg bg))) wo bo)
    (broadcastInDim S64x64x768 ![0, 1, 2] bcast_S64x64x1_S64x64x768_0_1_2 (weightR t w))

/-- The reference's result. -/
def resR (t : IVec S4096 32) (x : FVec Ideal S4096x768 .f32) (wg : FVec Ideal S64x768x768 .f32) (bg : FVec Ideal S64x1x768 .f32)
    (wv : FVec Ideal S64x768x768 .f32) (bv : FVec Ideal S64x1x768 .f32) (wo : FVec Ideal S64x768x768 .f32) (bo : FVec Ideal S64x1x768 .f32)
    (w : FVec Ideal S64x64x1 .f32) : FVec Ideal S4096x768 .f32 :=
  Host.scatterAdd scatter_S4096x768_S4096x1_S4096x768_1_0_0_1 (broadcastInDim S4096x768 ![] bcast_S_S4096x768 (constant S_ .f32 0x00000000#32))
    (colR (safeR t)) (shapeCast _ (rowsR t x wg bg wv bv wo bo w) shapeCasts_S64x64x768_S4096x768)

/-- The reference's program leaves `resR` of its arguments. -/
theorem res_eq (m : (ℓ : Loc nD τ sig) → Buf (Elt Ideal) ℓ) (c : Dev nD) :
    Cert.ReferenceIdeal.Value.res_main_v30 m c
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v30 resR rowsR weightR siluR linR takenR insideR colR safeR
  rfl

/-! ## The words -/

/-- A word, zero where negative, as the number it names. -/
theorem max_zero_eq (v : BitVec 32) : IntOp.maxsi v 0#32 = BitVec.ofNat 32 v.toInt.toNat := by
  unfold IntOp.maxsi
  have hv := v.isLt
  have e : (0#32).slt v = true ↔ (0 : Int) < v.toInt := by rw [BitVec.slt_iff_toInt_lt]; rfl
  apply BitVec.eq_of_toNat_eq
  rw [BitVec.toNat_ofNat]
  by_cases hc : (0#32).slt v = true
  · rw [if_pos hc]
    have h0 := e.1 hc
    rw [BitVec.toInt_eq_toNat_cond] at h0 ⊢
    split at h0 <;> rename_i h1
    · rw [if_pos h1, Int.toNat_natCast, Nat.mod_eq_of_lt hv]
    · omega
  · rw [if_neg hc]
    have h0 : v.toInt ≤ 0 := by
      by_contra h
      exact hc (e.2 (by omega))
    rw [Int.toNat_of_nonpos h0]
    rfl

/-- Below 4096 the number is the token's. -/
theorem tok_val (v : BitVec 32) (h : v.toInt < 4096) : (tok v).val = v.toInt.toNat :=
  Nat.mod_eq_of_lt (by omega)

/-- The column's word at slot `s` is the number of the slot's token. -/
theorem colR_apply (t : IVec S4096 32) (s : Fin 4096) (h : (t (ValueIdx.ix1 s)).toInt < 4096) :
    colR (safeR t) (ValueIdx.ix2 s 0) = BitVec.ofNat 32 (tok (t (ValueIdx.ix1 s))).val := by
  unfold colR
  rw [broadcastInDim_apply _ _ _ _ (ValueIdx.ix1 s) (fun a => by fin_cases a; rfl)]
  have e : safeR t (ValueIdx.ix1 s) = BitVec.ofNat 32 (tok (t (ValueIdx.ix1 s))).val := by
    rw [tok_val _ h]
    exact max_zero_eq _
  refine Eq.trans (Routing.wrap_of_lt _ _ ?_) e
  rw [e, BitVec.toNat_ofNat]
  have := (tok (t (ValueIdx.ix1 s))).isLt
  omega

/-- Where every word is below 4096 every word is a row number. -/
theorem insideR_eq (t : IVec S4096 32) (h : ∀ j, (t j).toInt < 4096) (j : S4096.Idx) : insideR (colR (safeR t)) j = 1#1 := by
  unfold insideR
  refine Host.reduce_andi_one _ _ _ _ _ rfl fun i => ?_
  rw [ValueIdx.eq_ix2 i]
  have e0 : i 1 = (0 : Fin 1) := @Subsingleton.elim (Fin 1) _ _ _
  have e := colR_apply t (i 0) (h _)
  have hb := (tok (t (ValueIdx.ix1 (i 0)))).isLt
  rw [e0]
  show IntOp.andi (IntOp.cmpi .sge (colR (safeR t) (ValueIdx.ix2 (i 0) 0)) 0#32) (IntOp.cmpi .sle (colR (safeR t) (ValueIdx.ix2 (i 0) 0)) 4095#32) = 1#1
  rw [e]
  generalize (tok (t (ValueIdx.ix1 (i 0)))).val = n at hb
  have hn : (BitVec.ofNat 32 n).toInt = n := StableHlo.Predicate.toInt_ofNat_small _ (by omega)
  have h1 : IntOp.cmpi .sge (BitVec.ofNat 32 n) 0#32 = 1#1 := by
    show BitVec.ofBool ((0#32).sle (BitVec.ofNat 32 n)) = 1#1
    rw [StableHlo.Predicate.ofBool_eq_one_iff, BitVec.sle_iff_toInt_le, hn]
    show (0 : Int) ≤ n
    omega
  have h2 : IntOp.cmpi .sle (BitVec.ofNat 32 n) 4095#32 = 1#1 := by
    show BitVec.ofBool ((BitVec.ofNat 32 n).sle 4095#32) = 1#1
    rw [StableHlo.Predicate.ofBool_eq_one_iff, BitVec.sle_iff_toInt_le, hn]
    show (n : Int) ≤ 4095
    omega
  rw [h1, h2]
  rfl

/-! ## The rows -/

/-- Slot `k` of expert `e`. -/
def at64 (e k : Fin 64) : Fin 4096 := ⟨64 * e.val + k.val, by omega⟩

/-- Slot `k` of expert `e` takes its token's row. -/
theorem takenR_apply (t : IVec S4096 32) (x : FVec Ideal S4096x768 .f32) (h : ∀ j, (t j).toInt < 4096) (e k : Fin 64) (f : Fin 768) :
    takenR x (colR (safeR t)) (ValueIdx.ix3 e k f) = x (ValueIdx.ix2 (tok (t (ValueIdx.ix1 (at64 e k)))) f) := by
  unfold takenR
  rw [shapeCast_apply _ _ _ (ValueIdx.ix2 (at64 e k) f), ValueIdx.select_apply]
  · rw [broadcastInDim_apply _ _ _ _ (ValueIdx.ix1 (at64 e k)) (fun a => by fin_cases a; rfl), insideR_eq t h, ValueIdx.select_one]
    exact Routing.gather_row _ rfl rfl rfl rfl rfl x _ _ f _ (colR_apply t _ (h _)) (by decide)
  · rw [Shape.rowMajor_val_three, Shape.rowMajor_val_two]
    show (64 * e.val + k.val) * 768 + f.val = (e.val * 64 + k.val) * 768 + f.val
    omega

/-- Expert `e`'s linear map, at slot `k`. -/
theorem linR_apply (x : FVec Ideal S64x64x768 .f32) (w : FVec Ideal S64x768x768 .f32) (b : FVec Ideal S64x1x768 .f32) (e k : Fin 64) (f : Fin 768) :
    linR x w b (ValueIdx.ix3 e k f)
      = lin (fun q => x (ValueIdx.ix3 e k q)) (fun q f => w (ValueIdx.ix3 e q f)) (fun f => b (ValueIdx.ix3 e 0 f)) f := by
  unfold linR
  rw [ValueIdx.addf_apply, broadcastInDim_apply _ _ _ _ (ValueIdx.ix3 e 0 f) (fun a => by fin_cases a <;> rfl)]
  refine congrArg (· + b (ValueIdx.ix3 e 0 f)) ?_
  exact StackMember.dotGeneral_stack_apply _ none x w e k f

/-- The activation at an entry. -/
theorem siluR_apply (g : FVec Ideal S64x64x768 .f32) (j : S64x64x768.Idx) : siluR g j = g j * Ideal.logistic (g j) := by
  show g j * Ideal.div (Ideal.ofBits .f32 0x3F800000#32) (Ideal.ofBits .f32 0x3F800000#32 + Ideal.exp (-(g j))) = _
  rw [Ideal.ofBits_one_f32]
  rfl

/-- A slot's weight: the argument's where the slot is filled, otherwise zero. -/
theorem weightR_apply (t : IVec S4096 32) (w : FVec Ideal S64x64x1 .f32) (e k : Fin 64) :
    weightR t w (ValueIdx.ix3 e k 0) = if 0 ≤ (t (ValueIdx.ix1 (at64 e k))).toInt then w (ValueIdx.ix3 e k 0) else (0 : EReal) := by
  unfold weightR
  rw [ValueIdx.mulf_apply, shapeCast_apply _ _ _ (ValueIdx.ix1 (at64 e k))]
  · show w (ValueIdx.ix3 e k 0) * (((BitVec.ofBool ((0#32).sle (t (ValueIdx.ix1 (at64 e k))))).toNat : ℝ) : EReal) = _
    have hs : (0#32).sle (t (ValueIdx.ix1 (at64 e k))) = true ↔ 0 ≤ (t (ValueIdx.ix1 (at64 e k))).toInt := by
      rw [BitVec.sle_iff_toInt_le]; rfl
    by_cases h : 0 ≤ (t (ValueIdx.ix1 (at64 e k))).toInt
    · rw [if_pos h, hs.2 h]
      simp
    · rw [if_neg h, Bool.eq_false_iff.2 (fun q => h (hs.1 q))]
      simp
  · rw [Shape.rowMajor_val_three, Shape.rowMajor_val_one]
    show 64 * e.val + k.val = (e.val * 64 + k.val) * 1 + 0
    omega

/-- The row of slot `k` of expert `e`: its token's row through the expert, times its weight. -/
theorem rowsR_apply (t : IVec S4096 32) (x : FVec Ideal S4096x768 .f32) (wg : FVec Ideal S64x768x768 .f32) (bg : FVec Ideal S64x1x768 .f32)
    (wv : FVec Ideal S64x768x768 .f32) (bv : FVec Ideal S64x1x768 .f32) (wo : FVec Ideal S64x768x768 .f32) (bo : FVec Ideal S64x1x768 .f32)
    (w : FVec Ideal S64x64x1 .f32) (h : ∀ j, (t j).toInt < 4096) (e k : Fin 64) (d : Fin 768) :
    rowsR t x wg bg wv bv wo bo w (ValueIdx.ix3 e k d)
      = net (fun q => x (ValueIdx.ix2 (tok (t (ValueIdx.ix1 (at64 e k)))) q)) (fun q f => wg (ValueIdx.ix3 e q f)) (fun f => bg (ValueIdx.ix3 e 0 f))
          (fun q f => wv (ValueIdx.ix3 e q f)) (fun f => bv (ValueIdx.ix3 e 0 f)) (fun q f => wo (ValueIdx.ix3 e q f)) (fun f => bo (ValueIdx.ix3 e 0 f)) d
        * (if 0 ≤ (t (ValueIdx.ix1 (at64 e k))).toInt then w (ValueIdx.ix3 e k 0) else (0 : EReal)) := by
  unfold rowsR
  rw [ValueIdx.mulf_apply, linR_apply, broadcastInDim_apply _ _ _ _ (ValueIdx.ix3 e k 0) (fun a => by fin_cases a <;> rfl), weightR_apply]
  refine congrArg (· * (if 0 ≤ (t (ValueIdx.ix1 (at64 e k))).toInt then w (ValueIdx.ix3 e k 0) else (0 : EReal))) ?_
  unfold net
  refine congrArg (fun z => lin z (fun q f => wo (ValueIdx.ix3 e q f)) (fun f => bo (ValueIdx.ix3 e 0 f)) d) ?_
  funext f
  rw [ValueIdx.mulf_apply, siluR_apply, linR_apply, linR_apply]
  simp only [takenR_apply t x h]

/-! ## The scatter -/

/-- The update at slot `s`, column `d'`, lands in row `r`, column `d`, exactly where the slot's word names `r` and the columns agree. -/
theorem lands_iff (t : IVec S4096 32) (h : ∀ j, (t j).toInt < 4096) (s : Fin 4096) (d' : Fin 768) (r : Fin 4096) (d : Fin 768) :
    scatter_S4096x768_S4096x1_S4096x768_1_0_0_1.resultIdx? (ValueIdx.ix2 s d') (colR (safeR t)) = some (ValueIdx.ix2 r d)
      ↔ tok (t (ValueIdx.ix1 s)) = r ∧ d' = d := by
  rw [Routing.resultIdx?_ix2]
  have e0 : scatter_S4096x768_S4096x1_S4096x768_1_0_0_1.start (ValueIdx.ix2 s d') (colR (safeR t)) 0 = ((tok (t (ValueIdx.ix1 s))).val : Int) := by
    refine Eq.trans ?_ (StableHlo.Predicate.toInt_ofNat_small _ (by have := (tok (t (ValueIdx.ix1 s))).isLt; omega))
    rw [← colR_apply t s (h _)]
    refine congrArg (fun i => (colR (safeR t) i).toInt) ?_
    funext a
    apply Fin.ext
    fin_cases a <;> rfl
  have e1 : scatter_S4096x768_S4096x1_S4096x768_1_0_0_1.start (ValueIdx.ix2 s d') (colR (safeR t)) 1 = 0 := rfl
  have e2 : scatter_S4096x768_S4096x1_S4096x768_1_0_0_1.window (ValueIdx.ix2 s d') 0 = 0 := rfl
  have e3 : scatter_S4096x768_S4096x1_S4096x768_1_0_0_1.window (ValueIdx.ix2 s d') 1 = d'.val := rfl
  rw [e0, e1, e2, e3, Fin.ext_iff, Fin.ext_iff]
  omega

/-- The updates at slot `k` of expert `e` are that slot's row. -/
theorem upd_apply (y : FVec Ideal S64x64x768 .f32) (e k : Fin 64) (d : Fin 768) :
    shapeCast S4096x768 y shapeCasts_S64x64x768_S4096x768 (ValueIdx.ix2 (at64 e k) d) = y (ValueIdx.ix3 e k d) := by
  refine shapeCast_apply _ _ _ _ ?_
  rw [Shape.rowMajor_val_three, Shape.rowMajor_val_two]
  show (e.val * 64 + k.val) * 768 + d.val = (64 * e.val + k.val) * 768 + d.val
  omega

/-- Every slot is some expert's. -/
theorem exists_at64 (s : Fin 4096) : ∃ e k : Fin 64, at64 e k = s :=
  ⟨⟨s.val / 64, by omega⟩, ⟨s.val % 64, by omega⟩, Fin.ext (by show 64 * (s.val / 64) + s.val % 64 = s.val; omega)⟩

section Result

variable (t : IVec S4096 32) (x : FVec Ideal S4096x768 .f32) (wg : FVec Ideal S64x768x768 .f32) (bg : FVec Ideal S64x1x768 .f32)
  (wv : FVec Ideal S64x768x768 .f32) (bv : FVec Ideal S64x1x768 .f32) (wo : FVec Ideal S64x768x768 .f32) (bo : FVec Ideal S64x1x768 .f32)
  (w : FVec Ideal S64x64x1 .f32)

/-- The result at an entry is the sum of the updates that land there. -/
theorem resR_sum (r : Fin 4096) (d : Fin 768) :
    resR t x wg bg wv bv wo bo w (ValueIdx.ix2 r d)
      = ∑ j ∈ Finset.univ.filter (fun j => scatter_S4096x768_S4096x1_S4096x768_1_0_0_1.resultIdx? j (colR (safeR t)) = some (ValueIdx.ix2 r d)),
          shapeCast S4096x768 (rowsR t x wg bg wv bv wo bo w) shapeCasts_S64x64x768_S4096x768 j := by
  refine Eq.trans (b := Ideal.ofBits .f32 0x00000000#32 + _) rfl ?_
  rw [Ideal.ofBits_zero_f32]
  exact zero_add _

/-- An update whose slot is empty adds nothing. -/
theorem upd_empty (h : ∀ j, (t j).toInt < 4096) (s : Fin 4096) (d : Fin 768) (hs : ¬ 0 ≤ (t (ValueIdx.ix1 s)).toInt) :
    shapeCast S4096x768 (rowsR t x wg bg wv bv wo bo w) shapeCasts_S64x64x768_S4096x768 (ValueIdx.ix2 s d) = (0 : EReal) := by
  obtain ⟨e, k, rfl⟩ := exists_at64 s
  rw [upd_apply, rowsR_apply t x wg bg wv bv wo bo w h, if_neg hs]
  exact mul_zero _

/-- A row that no word names is zero. -/
theorem resR_none (h : ∀ j, (t j).toInt < 4096) (r : Fin 4096) (d : Fin 768) (hn : ∀ s : Fin 4096, ¬ Names (t (ValueIdx.ix1 s)) r.val) :
    resR t x wg bg wv bv wo bo w (ValueIdx.ix2 r d) = (0 : EReal) := by
  rw [resR_sum]
  refine Finset.sum_eq_zero fun j hj => ?_
  rw [Finset.mem_filter, ValueIdx.eq_ix2 j] at hj
  rw [ValueIdx.eq_ix2 j]
  obtain ⟨e1, e2⟩ := (lands_iff t h (j 0) (j 1) r d).1 hj.2
  refine upd_empty t x wg bg wv bv wo bo w h (j 0) (j 1) fun h0 => hn (j 0) ⟨h0, ?_⟩
  rw [← e1, tok_val _ (h _)]

/-- A row that slot `k` of expert `e` alone names is that slot's row. -/
theorem resR_one (h : ∀ j, (t j).toInt < 4096) (r : Fin 4096) (d : Fin 768) (e k : Fin 64) (hk : Names (t (ValueIdx.ix1 (at64 e k))) r.val)
    (hu : ∀ s : Fin 4096, Names (t (ValueIdx.ix1 s)) r.val → s = at64 e k) :
    resR t x wg bg wv bv wo bo w (ValueIdx.ix2 r d)
      = net (fun q => x (ValueIdx.ix2 r q)) (fun q f => wg (ValueIdx.ix3 e q f)) (fun f => bg (ValueIdx.ix3 e 0 f))
          (fun q f => wv (ValueIdx.ix3 e q f)) (fun f => bv (ValueIdx.ix3 e 0 f)) (fun q f => wo (ValueIdx.ix3 e q f)) (fun f => bo (ValueIdx.ix3 e 0 f)) d
        * w (ValueIdx.ix3 e k 0) := by
  have hr : tok (t (ValueIdx.ix1 (at64 e k))) = r := Fin.ext ((tok_val _ (h _)).trans hk.2.symm)
  rw [resR_sum, Finset.sum_eq_single (ValueIdx.ix2 (at64 e k) d)]
  · rw [upd_apply, rowsR_apply t x wg bg wv bv wo bo w h, if_pos hk.1, hr]
  · intro j hj hne
    rw [Finset.mem_filter, ValueIdx.eq_ix2 j] at hj
    rw [ValueIdx.eq_ix2 j]
    obtain ⟨e1, e2⟩ := (lands_iff t h (j 0) (j 1) r d).1 hj.2
    refine upd_empty t x wg bg wv bv wo bo w h (j 0) (j 1) fun h0 => hne ?_
    have e3 := hu (j 0) ⟨h0, by rw [← e1, tok_val _ (h _)]⟩
    exact (ValueIdx.eq_ix2 j).trans (congrArg₂ ValueIdx.ix2 e3 e2)
  · intro hj
    exact (hj (Finset.mem_filter.2 ⟨Finset.mem_univ _, (lands_iff t h (at64 e k) d r d).2 ⟨hr, rfl⟩⟩)).elim

end Result

end Cert.Proof.Experts

end
-- ==== Proof.Equal.lean ====
/-
  The experts' call and the reference leave one array: at each row, either no slot names it and both are zero, or exactly one
  slot does and both hold that slot's row.
-/
module

public import proofs.«01_k».proof.Proof.Frames
public import proofs.«01_k».proof.Proof.Ref

@[expose] public section

noncomputable section

namespace Cert.Proof.Experts

open Cert.KernelIdeal Cert.KernelIdeal.Gen
open Idealize.ShloMosaic Idealize.ShloMosaic.TcCoe Idealize.SL.Sem

section Kernel

variable (m : (ℓ : Loc nD τ sig) → Buf (Elt Ideal) ℓ)

/-- Slot `k` of point `t`, by its number. -/
theorem slot_eq (t : Fin (cfgm m).N) (k : Fin 64) : slot (grid0.coords t) k = ValueIdx.ix1 (at64 (ex m t) k) := by
  funext a
  apply Fin.ext
  fin_cases a
  show 64 * (grid0.coords t 0).val + k.val = 64 * t.val + k.val
  rw [coords_val]

/-- An entry of the tokens' array, by its coordinates. -/
theorem at2_eq (r : Fin 4096) (d : Fin 768) : at2 r d = ValueIdx.ix2 r d := by
  funext a
  fin_cases a <;> rfl

/-- What expert `t` computes at slot `k`: the slot's token's row through the expert, times the slot's weight. -/
theorem eo_apply (t : Fin (cfgm m).N) (k : Fin 64) (d : Fin 768) :
    eo m 0 t (ValueIdx.ix2 k d)
      = net (fun q => (m (((0 : Dev nD).tc : Thread nD τ).loc main_arg1) : Vec Ideal S4096x768 .f32) (ValueIdx.ix2 (tok (word m (ValueIdx.ix1 (at64 (ex m t) k)))) q))
          (fun q f => (m (((0 : Dev nD).tc : Thread nD τ).loc main_arg2) : Vec Ideal S64x768x768 .f32) (ValueIdx.ix3 (ex m t) q f))
          (fun f => (m (((0 : Dev nD).tc : Thread nD τ).loc main_arg3) : Vec Ideal S64x1x768 .f32) (ValueIdx.ix3 (ex m t) 0 f))
          (fun q f => (m (((0 : Dev nD).tc : Thread nD τ).loc main_arg4) : Vec Ideal S64x768x768 .f32) (ValueIdx.ix3 (ex m t) q f))
          (fun f => (m (((0 : Dev nD).tc : Thread nD τ).loc main_arg5) : Vec Ideal S64x1x768 .f32) (ValueIdx.ix3 (ex m t) 0 f))
          (fun q f => (m (((0 : Dev nD).tc : Thread nD τ).loc main_arg6) : Vec Ideal S64x768x768 .f32) (ValueIdx.ix3 (ex m t) q f))
          (fun f => (m (((0 : Dev nD).tc : Thread nD τ).loc main_arg7) : Vec Ideal S64x1x768 .f32) (ValueIdx.ix3 (ex m t) 0 f)) d
        * (m (((0 : Dev nD).tc : Thread nD τ).loc main_arg8) : Vec Ideal S64x64x1 .f32) (ValueIdx.ix3 (ex m t) k 0) := by
  unfold eo
  refine (netOut_apply _ _ _ _ _ _ _ _ k d).trans ?_
  have h0 : (fun q => rows (grid0.coords t) (word m) (iblk m 0 0 t) (ValueIdx.ix2 k q))
      = fun q => (m (((0 : Dev nD).tc : Thread nD τ).loc main_arg1) : Vec Ideal S4096x768 .f32) (ValueIdx.ix2 (tok (word m (ValueIdx.ix1 (at64 (ex m t) k)))) q) := by
    funext q
    show (iblk m 0 0 t : Vec Ideal S4096x768 .f32) (at2 (tok (word m (slot (grid0.coords t) k))) q) = _
    rw [iblk0, at2_eq, slot_eq]
  have h1 := funext fun q => funext fun f => iblk1 m 0 t q f
  have h2 := funext fun f => iblk2 m 0 t f
  have h3 := funext fun q => funext fun f => iblk3 m 0 t q f
  have h4 := funext fun f => iblk4 m 0 t f
  have h5 := funext fun q => funext fun f => iblk5 m 0 t q f
  have h6 := funext fun f => iblk6 m 0 t f
  have h7 := iblk7 m 0 t k
  have e : ∀ {x x' : Fin 768 → EReal} {wg wg' wv wv' wo wo' : Fin 768 → Fin 768 → EReal} {bg bg' bv bv' bo bo' : Fin 768 → EReal} {w w' : EReal},
      x = x' → wg = wg' → bg = bg' → wv = wv' → bv = bv' → wo = wo' → bo = bo' → w = w' →
      net x wg bg wv bv wo bo d * w = net x' wg' bg' wv' bv' wo' bo' d * w' := by
    intros; subst_vars; rfl
  exact e h0 h1 h2 h3 h4 h5 h6 h7

/-- Distinct slots: two slots that name one row are one slot. -/
theorem slot_unique (hpre : Cert.Pre_KernelIdeal_slots_distinct m) (p q : Fin 4096) (r : Nat)
    (hp : Names (word m (ValueIdx.ix1 p)) r) (hq : Names (word m (ValueIdx.ix1 q)) r) : p = q := by
  have e : ∀ s : Fin 4096, (Shape.Idx.ofFin s : S4096.Idx) = ValueIdx.ix1 s := fun s => by
    funext a
    fin_cases a
    rfl
  have h := (of_distinct _ _ _ _ _ _ _ _ _ (hpre 0) p q).2
  rw [e p, e q] at h
  refine h ?_ hp.1
  have hw : (word m (ValueIdx.ix1 p)).toInt = (word m (ValueIdx.ix1 q)).toInt := by
    obtain ⟨h1, h2⟩ := hp
    obtain ⟨h3, h4⟩ := hq
    omega
  exact BitVec.eq_of_toInt_eq hw

/-- The kernel's result is the reference's. -/
theorem result_eq_ref (hpre : Cert.Pre_KernelIdeal_slots_distinct m) :
    (outAt m 0 63 (last_lt m) : Vec Ideal S4096x768 .f32)
      = resR (word m) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4))
          (m (((0 : Dev nD).tc : Thread nD τ).loc main_arg5)) (m (((0 : Dev nD).tc : Thread nD τ).loc main_arg6))
          (m (((0 : Dev nD).tc : Thread nD τ).loc main_arg7)) (m (((0 : Dev nD).tc : Thread nD τ).loc main_arg8)) := by
  funext j
  obtain ⟨r, d, rfl⟩ : ∃ (r : Fin 4096) (d : Fin 768), j = ValueIdx.ix2 r d := ⟨j 0, j 1, ValueIdx.eq_ix2 j⟩
  have hlt := word_lt m hpre
  by_cases hn : ∃ s : Fin 4096, Names (word m (ValueIdx.ix1 s)) r.val
  · obtain ⟨s, hs⟩ := hn
    obtain ⟨e, k, rfl⟩ := exists_at64 s
    have ht : e.val < (cfgm m).N := lt_of_lt_of_eq e.isLt N_0.symm
    have he : ex m ⟨e.val, ht⟩ = e := rfl
    rw [resR_one (word m) _ _ _ _ _ _ _ _ hlt r d e k hs (fun s h => slot_unique m hpre s _ r.val h hs)]
    refine (outAt_one m 0 (ValueIdx.ix2 r d) ⟨e.val, ht⟩ k ?_ (fun t' k' h' => ?_) 63 (last_lt m) (by show e.val ≤ 63; omega)).trans ?_
    · rw [slot_eq, he]
      exact hs
    · rw [slot_eq] at h'
      have h := congrArg Fin.val (slot_unique m hpre _ _ r.val h' hs)
      have h1 : 64 * t'.val + k'.val = 64 * e.val + k.val := h
      exact ⟨Fin.ext (by show t'.val = e.val; omega), Fin.ext (by omega)⟩
    · refine (eo_apply m ⟨e.val, ht⟩ k d).trans ?_
      rw [he, show tok (word m (ValueIdx.ix1 (at64 e k))) = r from Fin.ext ((tok_val _ (hlt _)).trans hs.2.symm)]
  · have hn' : ∀ s : Fin 4096, ¬ Names (word m (ValueIdx.ix1 s)) r.val := fun s h => hn ⟨s, h⟩
    rw [resR_none (word m) _ _ _ _ _ _ _ _ hlt r d hn']
    refine (outAt_none m 0 (ValueIdx.ix2 r d) 63 (last_lt m) fun t _ k => ?_).trans ?_
    · rw [slot_eq]
      exact hn' _
    · exact Ideal.ofBits_zero_f32

end Kernel

/-- From memories that agree on the arguments, whose words are distinct slots, the kernel and the reference leave one array. -/
theorem algebraic : Cert.algebraic_KernelIdeal_ReferenceIdeal_pre_slots_distinct := fun m g m' g' hpre hargs => by
  refine ⟨fun c => (dats m 0 c).arrAt 8 (cfgm m).N, (θ_run _ _ _).mono (fun r h => h.1) (run_args (F := Ideal) m g (word_lt m hpre)),
    (θ_run _ _ _).mono (fun r h c => ⟨(h c).1.trans ?_, (h c).2⟩) (Cert.ReferenceIdeal.Value.run (F := Ideal) m' g')⟩
  have hc : c = 0 := Subsingleton.elim _ _
  subst hc
  obtain ⟨h0, h1, h2, h3, h4, h5, h6, h7, h8⟩ := hargs 0
  have e := res_eq m' 0
  rw [h0, h1, h2, h3, h4, h5, h6, h7, h8] at e
  exact (e.trans (result_eq_ref m hpre).symm).trans (result_eq m 0).symm

end Cert.Proof.Experts

end
-- ==== Proof.RouterTop.lean ====
/-
  The mathematics of choosing the best of 64 experts: the first place at which a row is greatest, the row's softmax, and the place of a
  token in the queue of the expert it chooses. No program occurs here.
-/
module

public import Idealize.ShloMosaic.Lib.IdealHost
public import Idealize.ShloMosaic.PureOps.Ideal.Laws
public import Idealize.ShloMosaic.Lib.SortNet.Extract

@[expose] public section

noncomputable section

namespace Cert.Proof.Router

open Idealize.ShloMosaic
open scoped BigOperators

/-- `e` is the first place at which the row is greatest. -/
def IsTop (f : Fin 64 → EReal) (e : Fin 64) : Prop := (∀ e', f e' ≤ f e) ∧ ∀ e', e' < e → f e' < f e

/-- A row has at most one first greatest place. -/
theorem IsTop.unique {f : Fin 64 → EReal} {a b : Fin 64} (ha : IsTop f a) (hb : IsTop f b) : a = b := by
  rcases lt_trichotomy a b with h | h | h
  · exact absurd (hb.2 a h) (not_lt.mpr (ha.1 b))
  · exact h
  · exact absurd (ha.2 b h) (not_lt.mpr (hb.1 a))

/-- A row has a first greatest place. -/
theorem exists_isTop (f : Fin 64 → EReal) : ∃ e, IsTop f e := by
  classical
  obtain ⟨m, hm⟩ := Finite.exists_max f
  have hne : (Finset.univ.filter fun e => ∀ e', f e' ≤ f e).Nonempty := ⟨m, by simpa using hm⟩
  refine ⟨(Finset.univ.filter fun e => ∀ e', f e' ≤ f e).min' hne, ?_, fun e' h => ?_⟩
  · exact (Finset.mem_filter.mp (Finset.min'_mem _ hne)).2
  · have hmem := (Finset.mem_filter.mp (Finset.min'_mem _ hne)).2
    refine lt_of_le_of_ne (hmem e') fun he => ?_
    have : e' ∈ Finset.univ.filter fun e => ∀ e', f e' ≤ f e :=
      Finset.mem_filter.mpr ⟨Finset.mem_univ _, fun x => (hmem x).trans he.ge⟩
    exact absurd h (not_lt.mpr (Finset.min'_le _ _ this))

/-- The first place at which a row is greatest. -/
def top (f : Fin 64 → EReal) : Fin 64 := Classical.choose (exists_isTop f)

theorem top_spec (f : Fin 64 → EReal) : IsTop f (top f) := Classical.choose_spec (exists_isTop f)

/-- The greatest value of a row. -/
def rowMax (f : Fin 64 → EReal) : EReal := Finset.univ.fold max ⊥ f

/-- It is the value at the first greatest place. -/
theorem rowMax_eq (f : Fin 64 → EReal) : rowMax f = f (top f) := by
  refine le_antisymm (Finset.fold_max_le _ |>.mpr ⟨bot_le, fun e _ => (top_spec f).1 e⟩) ?_
  exact Finset.le_fold_max _ |>.mpr (.inr ⟨top f, Finset.mem_univ _, le_rfl⟩)

/-- The least number of a place at which a row has its greatest value, as the signed minimum of words, is the first greatest place. -/
theorem fold_minsi_top (f : Fin 64 → EReal) :
    (Finset.univ : Finset (Fin 64)).fold IntOp.minsi 2147483647#32 (fun e => if f e = rowMax f then BitVec.ofNat 32 e.val else 64#32)
      = BitVec.ofNat 32 (top f).val := by
  apply BitVec.eq_of_toInt_eq
  have small : ∀ n : ℕ, n ≤ 64 → (BitVec.ofNat 32 n).toInt = n := fun n hn => by
    rw [BitVec.toInt_ofNat']
    exact Int.bmod_eq_of_le (by omega) (by omega)
  rw [← Finset.fold_hom (op' := min) (m := fun b : BitVec 32 => b.toInt) (fun a b => SortNet.toInt_minsi a b), small _ (top f).isLt.le]
  refine le_antisymm (Finset.fold_min_le _ |>.mpr (.inr ⟨top f, Finset.mem_univ _, ?_⟩)) (Finset.le_fold_min _ |>.mpr ⟨?_, fun e _ => ?_⟩)
  · simp only [rowMax_eq, if_true]
    exact (small _ (top f).isLt.le).le
  · have := (top f).isLt
    show _ ≤ (2147483647 : ℤ)
    omega
  · have ht := (top f).isLt
    show _ ≤ (if f e = rowMax f then BitVec.ofNat 32 e.val else 64#32).toInt
    split
    · next h =>
      rw [small _ e.isLt.le]
      by_contra hlt
      have : e < top f := by rw [Fin.lt_def]; omega
      exact absurd ((top_spec f).2 e this) (by rw [h, rowMax_eq]; exact lt_irrefl _)
    · show _ ≤ (64 : ℤ)
      omega

/-- The softmax of a row at a place. -/
def soft (f : Fin 64 → EReal) (e : Fin 64) : EReal := Ideal.div (Ideal.exp (f e - rowMax f)) (∑ e', Ideal.exp (f e' - rowMax f))

/-- The softmax of a row of real numbers is greatest first where the row is. -/
theorem top_soft (f : Fin 64 → EReal) (hf : ∀ e, ∃ a : ℝ, f e = a) : top (soft f) = top f := by
  choose a ha using hf
  have hx : ∀ e, Ideal.exp (f e - rowMax f) = ((Real.exp (a e - a (top f)) : ℝ) : EReal) := fun e => by
    rw [rowMax_eq, ha, ha, ← EReal.coe_sub]
    rfl
  have hs : (∑ e', Ideal.exp (f e' - rowMax f)) = ((∑ e', Real.exp (a e' - a (top f)) : ℝ) : EReal) := by
    rw [Finset.sum_congr rfl fun e _ => hx e]
    exact (map_sum (⟨⟨fun x : ℝ => (x : EReal), EReal.coe_zero⟩, EReal.coe_add⟩ : ℝ →+ EReal) _ _).symm
  have hpos : 0 < ∑ e', Real.exp (a e' - a (top f)) := Finset.sum_pos (fun e _ => Real.exp_pos _) ⟨top f, Finset.mem_univ _⟩
  have hv : ∀ e, soft f e = ((Real.exp (a e - a (top f)) * (∑ e', Real.exp (a e' - a (top f)))⁻¹ : ℝ) : EReal) := fun e => by
    unfold soft Ideal.div
    rw [hs, hx, if_neg (by exact_mod_cast hpos.ne'), EReal.coe_mul, EReal.coe_inv]
  have hle : ∀ {x y}, f x ≤ f y → soft f x ≤ soft f y := fun {x y} h => by
    rw [ha, ha, EReal.coe_le_coe_iff] at h
    rw [hv, hv, EReal.coe_le_coe_iff]
    exact mul_le_mul_of_nonneg_right (Real.exp_le_exp.mpr (by linarith)) (inv_nonneg.mpr hpos.le)
  have hlt : ∀ {x y}, f x < f y → soft f x < soft f y := fun {x y} h => by
    rw [ha, ha, EReal.coe_lt_coe_iff] at h
    rw [hv, hv, EReal.coe_lt_coe_iff]
    exact mul_lt_mul_of_pos_right (Real.exp_lt_exp.mpr (by linarith)) (inv_pos.mpr hpos)
  exact (top_spec (soft f)).unique ⟨fun e => hle ((top_spec f).1 e), fun e h => hlt ((top_spec f).2 e h)⟩

/-- The whole part of a natural number, as a word. -/
theorem fptosi_natCast (p : ℕ) (hp : p < 2 ^ 31) : Ideal.fptosi 32 ((p : ℕ) : EReal) = BitVec.ofNat 32 p := by
  have h : ((p : ℕ) : EReal) = ((p : ℝ) : EReal) := rfl
  rw [h]
  show BitVec.ofInt 32 (max _ (min _ (if (0 : ℝ) ≤ (p : ℝ) then ⌊(p : ℝ)⌋ else ⌈(p : ℝ)⌉))) = _
  rw [if_pos (Nat.cast_nonneg p), Int.floor_natCast]
  have e : max (-(((2 : ℕ) ^ (32 - 1) : ℕ) : ℤ)) (min ((((2 : ℕ) ^ (32 - 1) : ℕ) : ℤ) - 1) (p : ℤ)) = (p : ℤ) := by
    norm_num at hp ⊢
    omega
  rw [e]
  exact BitVec.ofInt_natCast 32 p

/-- How many of the first `n` tokens choose expert `e`. -/
def count (E : ℕ → Fin 64) (n : ℕ) (e : Fin 64) : ℕ := ∑ i ∈ Finset.range n, if E i = e then 1 else 0

/-- The place of a token in the queue of the expert it chooses. -/
def rank (E : ℕ → Fin 64) (t : ℕ) : ℕ := count E t (E t)

theorem count_succ (E : ℕ → Fin 64) (n : ℕ) (e : Fin 64) : count E (n + 1) e = count E n e + if E n = e then 1 else 0 :=
  Finset.sum_range_succ _ _

theorem count_le (E : ℕ → Fin 64) (n : ℕ) (e : Fin 64) : count E n e ≤ n := by
  induction n with
  | zero => exact le_rfl
  | succ n ih => rw [count_succ]; split <;> omega

theorem count_mono (E : ℕ → Fin 64) (e : Fin 64) {m n : ℕ} (h : m ≤ n) : count E m e ≤ count E n e :=
  Finset.sum_le_sum_of_subset (Finset.range_mono h)

/-- Two tokens with the same expert and the same place in its queue are one token. -/
theorem rank_injective (E : ℕ → Fin 64) {s t : ℕ} (he : E s = E t) (hr : rank E s = rank E t) : s = t := by
  have key : ∀ a b : ℕ, a < b → E a = E b → rank E a ≠ rank E b := fun a b hab h => by
    have h1 := count_succ E a (E b)
    rw [if_pos h] at h1
    have h2 := count_mono E (E b) (Nat.succ_le_of_lt hab)
    unfold rank
    rw [h]
    show count E a (E b) ≠ count E b (E b)
    have : count E (a + 1) (E b) ≤ count E b (E b) := h2
    omega
  rcases lt_trichotomy s t with h | h | h
  · exact absurd hr (key s t h he)
  · exact h
  · exact absurd hr.symm (key t s h he.symm)

/-- The sum of `v` over those of the first `n` tokens that have place `c` in the queue of expert `e`. -/
def table (E : ℕ → Fin 64) (v : ℕ → EReal) (n : ℕ) (e c : Fin 64) : EReal :=
  ∑ t ∈ Finset.range n, if E t = e ∧ rank E t = c.val then v t else 0

/-- If a token has that place, the sum is its summand. -/
theorem table_eq (E : ℕ → Fin 64) (v : ℕ → EReal) {n t : ℕ} (ht : t < n) {e c : Fin 64} (he : E t = e) (hc : rank E t = c.val) :
    table E v n e c = v t := by
  unfold table
  rw [Finset.sum_eq_single_of_mem t (Finset.mem_range.mpr ht), if_pos ⟨he, hc⟩]
  intro s _ hs
  exact if_neg fun h => hs (rank_injective E (h.1.trans he.symm) (h.2.trans hc.symm))

/-- If no token has it, the sum is zero. -/
theorem table_zero (E : ℕ → Fin 64) (v : ℕ → EReal) {n : ℕ} {e c : Fin 64} (h : ∀ t < n, ¬(E t = e ∧ rank E t = c.val)) :
    table E v n e c = 0 :=
  Finset.sum_eq_zero fun t ht => if_neg (h t (Finset.mem_range.mp ht))

end Cert.Proof.Router

end
-- ==== Proof.RouterSort.lean ====
/-
  The first of the values of a row, sorted greatest first, with its place: the greatest value and the first place that has it.
-/
module

public import proofs.«01_k».proof.Proof.RouterTop
public import proofs.«01_k».proof.Proof.Gen.RouterReferenceIdeal.Run
public import Idealize.ShloMosaic.Lib.Pipeline.Value
public import Idealize.ShloMosaic.Lib.ValueIdx
public import Idealize.ShloMosaic.Lib.IdealHost
public import Idealize.ShloMosaic.Lib.KernelVsHost
public import Idealize.ShloMosaic.Lib.Pointwise.Reduce
public import Idealize.ShloMosaic.Lib.Pointwise.Contract
public import Idealize.ShloMosaic.Lib.Routing.OpsOne
public import Idealize.ShloMosaic.Lib.Routing.OpsSet

@[expose] public section

noncomputable section

namespace Cert.Proof.Router

open Idealize.ShloMosaic hiding ix1 ix2 ix3
open Idealize.ShloMosaic.ValueIdx
open scoped BigOperators

/-- The first element of a list of places in order, stably sorted greatest value first, is the first place with the greatest value. -/
theorem sort_head {n : ℕ} (f : Fin n → EReal) (l : List (Fin n)) (hl : l.Pairwise (· < ·)) :
    ∀ h ∈ (stableSort (fun a b => decide (f b < f a)) l).head?, h ∈ l ∧ ∀ b ∈ l, f b ≤ f h ∧ (b < h → f b < f h) := by
  induction l with
  | nil =>
    intro h hh
    cases hh
  | cons a l ih =>
    obtain ⟨ha, hl'⟩ := List.pairwise_cons.1 hl
    have hnil : stableSort (fun a b => decide (f b < f a)) l = [] → l = [] := fun h => by
      have := length_stableSort (fun a b => decide (f b < f a)) l
      rw [h] at this
      exact List.length_eq_zero_iff.1 this.symm
    intro h hh
    unfold stableSort at hh
    generalize hs : stableSort (fun a b => decide (f b < f a)) l = s at hh ih hnil
    cases s with
    | nil =>
      have e : h = a := by
        simp [insertBefore] at hh
        exact hh.symm
      subst e
      rw [hnil rfl]
      refine ⟨List.mem_cons_self, fun b hb => ?_⟩
      obtain rfl := List.mem_singleton.1 hb
      exact ⟨le_rfl, fun h => absurd h (lt_irrefl _)⟩
    | cons k t =>
      obtain ⟨hk, hk'⟩ := ih hl' k rfl
      by_cases hb : f a < f k
      · have e : h = k := by
          simp [insertBefore, hb] at hh
          exact hh.symm
        subst e
        refine ⟨List.mem_cons_of_mem _ hk, fun b hm => ?_⟩
        rcases List.mem_cons.1 hm with rfl | hm
        · exact ⟨hb.le, fun _ => hb⟩
        · exact hk' b hm
      · have e : h = a := by
          simp [insertBefore, hb] at hh
          exact hh.symm
        subst e
        refine ⟨List.mem_cons_self, fun b hm => ?_⟩
        rcases List.mem_cons.1 hm with rfl | hm
        · exact ⟨le_rfl, fun h => absurd h (lt_irrefl _)⟩
        · exact ⟨(hk' b hm).1.trans (not_lt.1 hb), fun h => absurd h (lt_asymm (ha b hm))⟩

/-- The place that a stable sort, greatest first, puts first is the first place with the greatest value. -/
theorem sortedFrom_top (f : Fin 64 → EReal) (before : Fin 64 → Fin 64 → Bool) (hb : ∀ a b, before a b = decide (f b < f a)) :
    sortedFrom before 0 = top f := by
  have e : before = fun a b => decide (f b < f a) := funext fun a => funext fun b => hb a b
  subst e
  have h := sort_head f (List.finRange 64) (List.pairwise_lt_finRange 64) (sortedFrom (fun a b => decide (f b < f a)) 0) (by
    unfold sortedFrom sortPositions
    rw [List.head?_eq_getElem?, Option.mem_def, List.getElem?_eq_getElem (by rw [length_stableSort, List.length_finRange]; omega)]
    rfl)
  exact IsTop.unique ⟨fun b => (h.2 b (List.mem_finRange b)).1, fun b => (h.2 b (List.mem_finRange b)).2⟩ (top_spec f)

open Cert.RouterReferenceIdeal

/-- The greatest of each row, with its place. -/
theorem topK_apply (x : FVec Ideal S4096x64 .f32) (hs : S4096x64.Slices (fun _ => 0) S4096x1) (t : Fin 4096) :
    (Host.topK S4096x1 1 (FloatOps.cmpfTotal (F := Ideal) (φ := .f32) .gt) x hs).1 (ix2 t 0) = rowMax (fun e => x (ix2 t e)) ∧
    (Host.topK S4096x1 1 (FloatOps.cmpfTotal (F := Ideal) (φ := .f32) .gt) x hs).2 (ix2 t 0) = BitVec.ofNat 32 (top fun e => x (ix2 t e)).val := by
  have hal : ∀ k : Fin 64, (ix2 t (0 : Fin 64) : S4096x64.Idx).along (1 : Fin 2) k = ix2 t k := fun k => by
    funext a
    fin_cases a <;> rfl
  have hsf : sortedFrom (n := 64) (fun k k' => FloatOps.cmpfTotal (F := Ideal) (φ := .f32) .gt (x ((ix2 t (0 : Fin 64) : S4096x64.Idx).along (1 : Fin 2) k))
      (x ((ix2 t (0 : Fin 64) : S4096x64.Idx).along (1 : Fin 2) k')) == 1#1) 0 = top fun e => x (ix2 t e) := by
    refine sortedFrom_top _ _ fun a b => ?_
    rw [hal, hal]
    show (Ideal.cmp .ogt (x (ix2 t a)) (x (ix2 t b)) == 1#1) = _
    by_cases h : x (ix2 t b) < x (ix2 t a)
    · simp [Ideal.cmp, h]
    · simp [Ideal.cmp, h]
  have hd : 1 < S4096x64.rank := by decide
  unfold Host.topK
  dsimp only
  unfold Host.sort2
  rw [dif_pos hd]
  constructor
  · refine (extractStridedSlice_apply _ _ hs (ix2 t 0) (ix2 t (0 : Fin 64)) (fun a => by fin_cases a <;> simp [ix2])).trans ?_
    rw [rowMax_eq, ← hsf]
    exact congrArg x (hal _)
  · refine (extractStridedSlice_apply _ _ hs (ix2 t 0) (ix2 t (0 : Fin 64)) (fun a => by fin_cases a <;> simp [ix2])).trans ?_
    have hi : ∀ k : Fin 64, (fun i : S4096x64.Idx => if hd : 1 < S4096x64.rank then iotaInDim S4096x64 32 ⟨1, hd⟩ i else 0#32)
        ((ix2 t (0 : Fin 64) : S4096x64.Idx).along (1 : Fin 2) k) = BitVec.ofNat 32 k.val := fun k => (dif_pos hd).trans rfl
    exact (hi _).trans (congrArg (fun k : Fin 64 => BitVec.ofNat 32 k.val) hsf)

end Cert.Proof.Router

end
-- ==== Proof.RouterPlace.lean ====
/-
  The reference's gather and scatter, at any arguments: which entry the gather reads, and which entry an update of the scatter reaches.
-/
module

public import proofs.«01_k».proof.Proof.RouterSort
public import Idealize.ShloMosaic.Lib.Routing.OpsPair

@[expose] public section

noncomputable section

namespace Cert.Proof.Router

open Cert.RouterReferenceIdeal Cert.RouterReferenceIdeal.Gen
open Idealize.ShloMosaic hiding ix1 ix2 ix3
open Idealize.ShloMosaic.ValueIdx

/-- The table from which one entry is gathered for each row. -/
abbrev gath : GatherDims S4096x64 S4096x1x1 S4096x1 := gather_S4096x64_S4096x1x1_S4096x1_n_1_0_0_1_2_11

/-- The scatter of one word for each token into the slots. -/
abbrev scat : ScatterDims S64x64 S4096x2 S4096 := scatter_S64x64_S4096x2_S4096_n_01_01_1

/-- The gather takes from row `t` the entry that the word of row `t` names. -/
theorem gather_entry {α : Type} (x : S4096x64.Idx → α) (idx : IVec S4096x1x1 32) (t : Fin 4096) (b : Fin 64)
    (hb : idx (ix3 t 0 0) = BitVec.ofNat 32 b.val) : Host.gather gath x idx (ix2 t 0) = x (ix2 t b) := by
  unfold Host.gather
  refine congrArg x (funext fun a => Fin.ext ?_)
  match a with
  | ⟨0, _⟩ =>
    show gath.start (ix2 t 0) idx 0 + gath.batchCoord (ix2 t 0) 0 + gath.offCoord (ix2 t 0) 0 = t.val
    have h0 : (0 : Fin 2) ∈ gath.operandBatchingDims := List.mem_singleton.2 rfl
    rw [gath.start_batching _ _ _ h0, gath.offCoord_eq_zero _ _ fun h => ((gath.mem_sKept 0).1 h).2 h0]
    simp only [Nat.zero_add, Nat.add_zero]
    unfold GatherDims.batchCoord
    rw [dif_pos h0]
    rfl
  | ⟨1, _⟩ =>
    show gath.start (ix2 t 0) idx 1 + gath.batchCoord (ix2 t 0) 1 + gath.offCoord (ix2 t 0) 1 = b.val
    have h1 : (1 : Fin 2) ∈ gath.collapsedSliceDims := List.mem_singleton.2 rfl
    have hm : (1 : Fin 2) ∈ gath.startIndexMap := List.mem_singleton.2 rfl
    rw [gath.offCoord_eq_zero _ _ fun h => ((gath.mem_sKept 1).1 h).1 h1,
      gath.batchCoord_eq_zero _ _ fun h => absurd (List.mem_singleton.1 h) (by decide)]
    simp only [Nat.add_zero]
    unfold GatherDims.start
    rw [dif_pos hm]
    have hsi : gath.siIdx (ix2 t 0) ⟨gath.startIndexMap.idxOf 1, List.idxOf_lt_length_iff.2 hm⟩ = ix3 t 0 0 := by
      funext k
      apply Fin.ext
      fin_cases k <;> rfl
    have hbl := b.isLt
    rw [hsi, hb, StableHlo.Predicate.toInt_ofNat_small _ (by omega)]
    show min ((b.val : Int)).toNat (64 - 1) = b.val
    omega

/-- The word of token `t` is put at `(e, c)` exactly when its two index words are `e` and `c`. -/
theorem scatter_lands (idx : IVec S4096x2 32) (t : Fin 4096) (e c : Fin 64) :
    scat.resultIdx? (ix1 t) idx = some (ix2 e c) ↔ (idx (ix2 t 0)).toInt = e.val ∧ (idx (ix2 t 1)).toInt = c.val := by
  have hm : ∀ q : Fin 2, q ∈ scat.scatterDimsToOperandDims := fun q => by fin_cases q <;> decide
  have hwin : ∀ q : Fin 2, scat.window (ix1 t) q = 0 := fun q => by
    unfold ScatterDims.window
    rw [dif_neg fun h => (of_decide_eq_true (List.mem_filter.1 h).2) (by fin_cases q <;> decide)]
  have hstart : ∀ q : Fin 2, scat.start (ix1 t) idx q = (idx (ix2 t q)).toInt := fun q => by
    unfold ScatterDims.start
    rw [dif_pos (hm q)]
    refine congrArg (fun i => (idx i).toInt) (funext fun k => Fin.ext ?_)
    fin_cases k
    · rfl
    · fin_cases q <;> rfl
  refine (Routing.resultIdx?_ix2 scat (ix1 t) idx e c).trans ?_
  rw [hstart, hstart, hwin, hwin]
  simp

/-- Where token `t`'s index words are its expert and its place `c < 64` in that expert's queue, that slot holds `t`'s word. -/
theorem scatter_hit {α : Type} (E : ℕ → Fin 64) (x0 : S64x64.Idx → α) (idx : IVec S4096x2 32) (upd : S4096.Idx → α)
    (hE : ∀ t : Fin 4096, (idx (ix2 t 0)).toInt = (E t.val).val)
    (hR : ∀ t : Fin 4096, (idx (ix2 t 1)).toInt = (if rank E t.val < 64 then rank E t.val else 64 : ℕ))
    (t : Fin 4096) (e c : Fin 64) (he : E t.val = e) (hc : rank E t.val = c.val) :
    Host.scatter scat (fun _ b => b) x0 idx upd (ix2 e c) = upd (ix1 t) := by
  have key : ∀ s : Fin 4096, scat.resultIdx? (ix1 s) idx = some (ix2 e c) ↔ E s.val = e ∧ rank E s.val = c.val := fun s => by
    have hcl := c.isLt
    rw [scatter_lands, hE, hR, Fin.ext_iff]
    refine and_congr (by omega) ?_
    split <;> omega
  refine Routing.scatter_set_hit scat x0 idx upd (ix2 e c) (upd (ix1 t)) (fun k hk => ?_) (ix1 t) ((key t).2 ⟨he, hc⟩)
  obtain ⟨s, rfl⟩ : ∃ s : Fin 4096, k = ix1 s := ⟨k 0, ValueIdx.eq_ix1 k⟩
  have h := (key s).1 hk
  exact congrArg (fun s => upd (ix1 s)) (Fin.ext (rank_injective E (h.1.trans he.symm) (h.2.trans hc.symm)))

/-- A slot that is no token's place keeps the word it had. -/
theorem scatter_miss {α : Type} (E : ℕ → Fin 64) (x0 : S64x64.Idx → α) (idx : IVec S4096x2 32) (upd : S4096.Idx → α)
    (hE : ∀ t : Fin 4096, (idx (ix2 t 0)).toInt = (E t.val).val)
    (hR : ∀ t : Fin 4096, (idx (ix2 t 1)).toInt = (if rank E t.val < 64 then rank E t.val else 64 : ℕ))
    (e c : Fin 64) (h : ∀ t < 4096, ¬(E t = e ∧ rank E t = c.val)) :
    Host.scatter scat (fun _ b => b) x0 idx upd (ix2 e c) = x0 (ix2 e c) := by
  refine Routing.scatter_set_miss scat x0 idx upd (ix2 e c) fun k hk => ?_
  obtain ⟨s, rfl⟩ : ∃ s : Fin 4096, k = ix1 s := ⟨k 0, ValueIdx.eq_ix1 k⟩
  rw [scatter_lands, hE, hR] at hk
  have hcl := c.isLt
  refine h s.val s.isLt ⟨Fin.ext (by omega), ?_⟩
  have := hk.2
  split at this <;> omega

end Cert.Proof.Router

end
-- ==== Proof.RouterBody.lean ====
/-
  The router's body at one block of tokens: what each output and the carried row of counts hold after it, in terms of the named
  payloads of the body. The first block starts from zeros, and every later block from what the block before it left.
-/
module

public import proofs.«01_k».proof.Proof.Gen.RouterIdeal.Frame
public import Idealize.ShloMosaic.Lib.VecWindow

@[expose] public section

noncomputable section

namespace Cert.Proof.Router

open Cert.RouterIdeal Cert.RouterIdeal.Gen
open Idealize.ShloMosaic Idealize.ShloMosaic.TcCoe

variable {F : FTy → Type} [FloatOps F]

/-- The first row of the carried scratch. -/
def firstRow (x : Vec F S8x64 .f32) : Vec F S1x64 .f32 := fun y => x ((Rect.unit (s := S8x64) ![0, 0] S1x64.size inb_S8x64_S1x64_0_0).emb y)

/-- Which expert each token of a block chooses, as a row of zeros and a one. -/
abbrev chosen (x0 : Vec F S256x768 .f32) (x1 : Vec F S768x64 .f32) : FVec F S256x64 .f32 := k0_pay12 x0 x1

/-- The float zero that the padding of the running sums is made of. -/
abbrev zero32 : F .f32 := Scalar.ofBits .f32 0x00000000#32

/-- The place of each token of a block in its expert's queue, as a row of zeros and at most a one, over the row of counts before the block. -/
abbrev place (x0 : Vec F S256x768 .f32) (x1 : Vec F S768x64 .f32) (r : Vec F S1x64 .f32) : FVec F S256x64 .f32 :=
  k0_pay16 (chosen x0 x1) (k0_pay13 x0 x1) zero32 r

/-- The numbers of the rows of a block. -/
abbrev rowNo : IVec S256x1 32 := iota .tc S256x1 32 [0] iota_S256x1_d0_w32

/-- What a block adds to the occupancy. -/
abbrev occStep (x0 : Vec F S256x768 .f32) (x1 : Vec F S768x64 .f32) (r : Vec F S1x64 .f32) (y : Vec F S64x64 .f32) : FVec F S64x64 .f32 :=
  k0_pay1 (chosen x0 x1) (place x0 x1 r) y

/-- What a block adds to the token numbers. -/
abbrev tokStep (i : grid0.Coords) (x0 : Vec F S256x768 .f32) (x1 : Vec F S768x64 .f32) (r : Vec F S1x64 .f32) (y : Vec F S64x64 .f32) : FVec F S64x64 .f32 :=
  k0_pay2 (chosen x0 x1) (place x0 x1 r) rowNo (k0_pay17 (BitVec.ofNat 32 (i 0).val)) y

/-- What a block adds to the probabilities. -/
abbrev ptbStep (x0 : Vec F S256x768 .f32) (x1 : Vec F S768x64 .f32) (r : Vec F S1x64 .f32) (y : Vec F S64x64 .f32) : FVec F S64x64 .f32 :=
  k0_pay3 (k0_pay11 x0 x1) (chosen x0 x1) (place x0 x1 r) y

/-- The row of counts after a block. -/
abbrev rowStep (x0 : Vec F S256x768 .f32) (x1 : Vec F S768x64 .f32) (r : Vec F S1x64 .f32) : FVec F S1x64 .f32 :=
  k0_pay15 (k0_pay13 x0 x1) zero32 r

/-- A load of the first row of a buffer reads the first row of what it holds. -/
theorem readRow {r : Memref sig .tc .vmem S8x64 .f32} (h : r.IsWhole) (x : Vec F S8x64 .f32) :
    View.readAt (Elt F) r.view (Rect.unit (s := S8x64) ![0, 0] S1x64.size inb_S8x64_S1x64_0_0).toLoadRect (h.unread x) = firstRow x :=
  funext fun y => congrFun (h.read_unread x) ((Rect.unit (s := S8x64) ![0, 0] S1x64.size inb_S8x64_S1x64_0_0).emb y)

/-- A load of the first row of a buffer whose first store was the whole of it. -/
theorem readRowCov (r : Memref sig .tc .vmem S8x64 .f32) (x : Vec F S8x64 .f32) :
    View.readCov (Val := Elt F) r.view [⟨Rect.unit (s := S8x64) ![0, 0] S8x64.size inb_S8x64_S8x64_0_0, x⟩]
      (Rect.unit (s := S8x64) ![0, 0] S1x64.size inb_S8x64_S1x64_0_0).toLoadRect = firstRow x :=
  funext fun y => congrFun (View.read_writes_full r.view r.view.junk inb_S8x64_S8x64_0_0 x [])
    ((Rect.unit (s := S8x64) ![0, 0] S1x64.size inb_S8x64_S1x64_0_0).emb y)

/-- After a store of the first row, the first row is what was stored. -/
theorem firstRow_store (v : View sig .tc .vmem S8x64 .f32) (f : v.ty.Contents (Elt F)) (w : Vec F S1x64 .f32) (L : List (View.Piece (Elt F) S8x64 .f32)) :
    firstRow (v.read (Elt F) (v.writes (Elt F) f (⟨Rect.unit (s := S8x64) ![0, 0] S1x64.size inb_S8x64_S1x64_0_0, w⟩ :: L))) = w :=
  funext fun y => View.read_writes_cons_unit_of_mem v f inb_S8x64_S1x64_0_0 w L _ y rfl fun a => by
    show (![0, 0] : Fin 2 → ℕ) a + 1 * (y a).val = _
    rw [Nat.one_mul]

section Body

variable (c : Dev nD) (i : grid0.Coords)
  (arg1 : Memref sig .tc .vmem S256x768 .f32) (harg1 : arg1.IsWhole) (arg2 : Memref sig .tc .vmem S768x64 .f32) (harg2 : arg2.IsWhole) (arg3 : Memref sig .tc .vmem S256x64 .f32) (harg3 : arg3.IsWhole) (arg4 : Memref sig .tc .vmem S256x64 .f32) (harg4 : arg4.IsWhole)
  (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S8x64 .f32) (harg8 : arg8.IsWhole)
  (x0 : Vec F S256x768 .f32) (x1 : Vec F S768x64 .f32)

/-- A load of the whole of a buffer reads what it holds. -/
theorem readWhole {s : Shape} {r : Memref sig .tc .vmem s .f32} (h : r.IsWhole) {off : Fin s.rank → ℕ} (inb : ∀ a, off a + s.size a ≤ s.size a)
    (x : s.Idx → Elt F .f32) : View.readAt (Elt F) r.view (Rect.unit off s.size inb).toLoadRect (h.unread x) = x :=
  (View.readAt_full _ _ _).trans (h.read_unread x)

/-- The first block: its logits and probabilities, the three tables over zeros, and the row of counts over zeros. -/
theorem first_block (hc : cond0_0 i) :
    out0_A_2 c i arg1 harg1 arg2 harg2 arg3 harg3 arg4 harg4 arg5 harg5 arg6 harg6 arg7 harg7 arg8 harg8 hc x0 x1 = k0_pay8 x0 x1 ∧
    out0_A_3 c i arg1 harg1 arg2 harg2 arg3 harg3 arg4 harg4 arg5 harg5 arg6 harg6 arg7 harg7 arg8 harg8 hc x0 x1 = k0_pay10 x0 x1 ∧
    out0_A_4 c i arg1 harg1 arg2 harg2 arg3 harg3 arg4 harg4 arg5 harg5 arg6 harg6 arg7 harg7 arg8 harg8 hc x0 x1 = occStep x0 x1 (firstRow k0_pay4) k0_pay5 ∧
    out0_A_5 c i arg1 harg1 arg2 harg2 arg3 harg3 arg4 harg4 arg5 harg5 arg6 harg6 arg7 harg7 arg8 harg8 hc x0 x1 = tokStep i x0 x1 (firstRow k0_pay4) k0_pay6 ∧
    out0_A_6 c i arg1 harg1 arg2 harg2 arg3 harg3 arg4 harg4 arg5 harg5 arg6 harg6 arg7 harg7 arg8 harg8 hc x0 x1 = ptbStep x0 x1 (firstRow k0_pay4) k0_pay7 ∧
    firstRow (sout0_A_0 c i arg1 harg1 arg2 harg2 arg3 harg3 arg4 harg4 arg5 harg5 arg6 harg6 arg7 harg7 arg8 harg8 hc x0 x1) = rowStep x0 x1 (firstRow k0_pay4) := by
  have e1 := readWhole (F := F) harg1 inb_S256x768_S256x768_0_0 x0
  have e2 := readWhole (F := F) harg2 inb_S768x64_S768x64_0_0 x1
  have h11 : kernelRun0_A.sl.r c arg1 harg1 arg2 harg2 x0 x1 = k0_pay11 x0 x1 := congrArg₂ k0_pay11 e1 e2
  have h12 : kernelRun0_A.sl.r_1 c arg1 harg1 arg2 harg2 x0 x1 = chosen x0 x1 := congrArg₂ k0_pay12 e1 e2
  have h13 : kernelRun0_A.sl.r_2 c arg1 harg1 arg2 harg2 x0 x1 = k0_pay13 x0 x1 := congrArg₂ k0_pay13 e1 e2
  have hr := readRowCov (F := F) arg8 k0_pay4
  have hp : kernelRun0_A.sl.r_3 c arg1 harg1 arg2 harg2 arg8 x0 x1 = place x0 x1 (firstRow k0_pay4) := by
    unfold kernelRun0_A.sl.r_3
    rw [h12, h13]
    exact congrArg (k0_pay16 _ _ _) hr
  refine ⟨?_, ?_, ?_, ?_, ?_, ?_⟩
  · unfold out0_A_2 kernelRun0_A; dsimp only
    exact (View.read_writes_full _ _ _ _ _).trans (congrArg₂ k0_pay8 e1 e2)
  · unfold out0_A_3 kernelRun0_A; dsimp only
    exact (View.read_writes_full _ _ _ _ _).trans (congrArg₂ k0_pay10 e1 e2)
  · unfold out0_A_4 kernelRun0_A; dsimp only
    rw [h12, hp]
    exact (View.read_writes_full _ _ _ _ _).trans (congrArg (k0_pay1 _ _) (View.readCov_full _ _ _ _ _))
  · unfold out0_A_5 kernelRun0_A; dsimp only
    rw [h12, hp]
    exact (View.read_writes_full _ _ _ _ _).trans (congrArg (k0_pay2 _ _ _ _) (View.readCov_full _ _ _ _ _))
  · unfold out0_A_6 kernelRun0_A; dsimp only
    rw [h11, h12, hp]
    exact (View.read_writes_full _ _ _ _ _).trans (congrArg (k0_pay3 _ _ _) (View.readCov_full _ _ _ _ _))
  · unfold sout0_A_0 kernelRun0_A; dsimp only
    rw [h13]
    exact (firstRow_store _ _ _ _).trans (congrArg (k0_pay15 _ _) hr)

/-- Every later block: its logits and probabilities, the three tables over what they held, and the row of counts over what it was. -/
theorem later_block (hc : ¬cond0_0 i) (xo4 xo5 xo6 : Vec F S64x64 .f32) (xs0 : Vec F S8x64 .f32) :
    out0_B_2 c i arg1 harg1 arg2 harg2 arg3 harg3 arg4 harg4 arg5 harg5 arg6 harg6 arg7 harg7 arg8 harg8 hc x0 x1 xo4 xo5 xo6 xs0 = k0_pay8 x0 x1 ∧
    out0_B_3 c i arg1 harg1 arg2 harg2 arg3 harg3 arg4 harg4 arg5 harg5 arg6 harg6 arg7 harg7 arg8 harg8 hc x0 x1 xo4 xo5 xo6 xs0 = k0_pay10 x0 x1 ∧
    out0_B_4 c i arg1 harg1 arg2 harg2 arg3 harg3 arg4 harg4 arg5 harg5 arg6 harg6 arg7 harg7 arg8 harg8 hc x0 x1 xo4 xo5 xo6 xs0 = occStep x0 x1 (firstRow xs0) xo4 ∧
    out0_B_5 c i arg1 harg1 arg2 harg2 arg3 harg3 arg4 harg4 arg5 harg5 arg6 harg6 arg7 harg7 arg8 harg8 hc x0 x1 xo4 xo5 xo6 xs0 = tokStep i x0 x1 (firstRow xs0) xo5 ∧
    out0_B_6 c i arg1 harg1 arg2 harg2 arg3 harg3 arg4 harg4 arg5 harg5 arg6 harg6 arg7 harg7 arg8 harg8 hc x0 x1 xo4 xo5 xo6 xs0 = ptbStep x0 x1 (firstRow xs0) xo6 ∧
    firstRow (sout0_B_0 c i arg1 harg1 arg2 harg2 arg3 harg3 arg4 harg4 arg5 harg5 arg6 harg6 arg7 harg7 arg8 harg8 hc x0 x1 xo4 xo5 xo6 xs0) = rowStep x0 x1 (firstRow xs0) := by
  have e1 := readWhole (F := F) harg1 inb_S256x768_S256x768_0_0 x0
  have e2 := readWhole (F := F) harg2 inb_S768x64_S768x64_0_0 x1
  have h11 : kernelRun0_B.sl.r c arg1 harg1 arg2 harg2 x0 x1 = k0_pay11 x0 x1 := congrArg₂ k0_pay11 e1 e2
  have h12 : kernelRun0_B.sl.r_1 c arg1 harg1 arg2 harg2 x0 x1 = chosen x0 x1 := congrArg₂ k0_pay12 e1 e2
  have h13 : kernelRun0_B.sl.r_2 c arg1 harg1 arg2 harg2 x0 x1 = k0_pay13 x0 x1 := congrArg₂ k0_pay13 e1 e2
  have hr := readRow (F := F) harg8 xs0
  have hp : kernelRun0_B.sl.r_3 c arg1 harg1 arg2 harg2 arg8 harg8 x0 x1 xs0 = place x0 x1 (firstRow xs0) := by
    unfold kernelRun0_B.sl.r_3
    rw [h12, h13]
    exact congrArg (k0_pay16 _ _ _) hr
  refine ⟨?_, ?_, ?_, ?_, ?_, ?_⟩
  · unfold out0_B_2 kernelRun0_B; dsimp only
    exact (View.read_writes_full _ _ _ _ _).trans (congrArg₂ k0_pay8 e1 e2)
  · unfold out0_B_3 kernelRun0_B; dsimp only
    exact (View.read_writes_full _ _ _ _ _).trans (congrArg₂ k0_pay10 e1 e2)
  · unfold out0_B_4 kernelRun0_B; dsimp only
    rw [h12, hp]
    exact (View.read_writes_full _ _ _ _ _).trans (congrArg (k0_pay1 _ _) (readWhole harg5 _ _))
  · unfold out0_B_5 kernelRun0_B; dsimp only
    rw [h12, hp]
    exact (View.read_writes_full _ _ _ _ _).trans (congrArg (k0_pay2 _ _ _ _) (readWhole harg6 _ _))
  · unfold out0_B_6 kernelRun0_B; dsimp only
    rw [h11, h12, hp]
    exact (View.read_writes_full _ _ _ _ _).trans (congrArg (k0_pay3 _ _ _) (readWhole harg7 _ _))
  · unfold sout0_B_0 kernelRun0_B; dsimp only
    rw [h13]
    exact (firstRow_store _ _ _ _).trans (congrArg (k0_pay15 _ _) hr)

end Body

end Cert.Proof.Router

end
-- ==== Proof.RouterPay.lean ====
/-
  One block of the router at exact reals, entry by entry: logits, softmax, chosen expert, the running count of tokens that choose each
  expert, the place of each token, and what the block adds to the three tables.
-/
module

public import proofs.«01_k».proof.Proof.RouterBody
public import proofs.«01_k».proof.Proof.RouterTop
public import Idealize.ShloMosaic.Lib.MatmulPlain
public import Idealize.ShloMosaic.Lib.Pipeline.Value
public import Idealize.ShloMosaic.Lib.ValueIdx
public import Idealize.ShloMosaic.Lib.IdealHost
public import Idealize.ShloMosaic.Lib.Pointwise.Reduce
public import Idealize.ShloMosaic.Lib.Pointwise.Contract

@[expose] public section

noncomputable section

namespace Cert.Proof.Router

open Cert.RouterIdeal Cert.RouterIdeal.Gen
open Idealize.ShloMosaic hiding ix1 ix2 ix3
open Idealize.ShloMosaic.ValueIdx
open scoped BigOperators

/-- The logits of the block's row `r`. -/
def lgt (x0 : Vec Ideal S256x768 .f32) (x1 : Vec Ideal S768x64 .f32) (r : Fin 256) (e : Fin 64) : EReal :=
  ∑ k : Fin 768, x0 (ix2 r k) * x1 (ix2 k e)

/-- A column of 256 values, broadcast over 64 lanes. -/
theorem column_apply {α : Type} (v : S256.Idx → α) (r : Fin 256) (e : Fin 64) :
    broadcastTo S256x64 (shapeCast S256x1 v shapeCasts_S256_S256x1) broadcasts_S256x1_S256x64 (ix2 r e) = v (ix1 r) := by
  rw [broadcastTo_apply _ _ _ (ix2 r 0), shapeCast_apply _ _ _ (ix1 r)]
  · rw [Shape.rowMajor_val_one, Shape.rowMajor_val_two]
    show r.val = r.val * 1 + 0
    omega
  · intro a
    fin_cases a
    · rfl
    · rfl

theorem negInf : (FloatOps.ofBits .f32 0xFF800000#32 : Ideal .f32) = (⊥ : EReal) := by
  show Ideal.ofBits .f32 0xFF800000#32 = ⊥
  simp [Ideal.ofBits, Ideal.ieee]

/-- A row's maximum as the block takes it. -/
theorem max_apply (v : FVec Ideal S256x64 .f32) (r : Fin 256) :
    multiReduction .maximumf [1] S256 v 0xFF800000#32 reduces_S256x64_S256 (.inl rfl) rfl (ix1 r) = rowMax fun e => v (ix2 r e) := by
  refine (multiReduction_maximumf_eq_fold v _ _ _ _ (ix1 r)).trans ?_
  rw [negInf]
  exact Shape.Reduces.fold_fiber_r2_a1 reduces_S256x64_S256 (ix1 r) max ⊥ v

/-- A row's sum as the block takes it. -/
theorem sum_apply (v : FVec Ideal S256x64 .f32) (r : Fin 256) :
    multiReduction .add [1] S256 v 0x00000000#32 reduces_S256x64_S256 (.inl rfl) rfl (ix1 r) = ∑ e : Fin 64, v (ix2 r e) :=
  Shape.Reduces.sum_fiber_r2_a1 reduces_S256x64_S256 (ix1 r) v

variable (x0 : Vec Ideal S256x768 .f32) (x1 : Vec Ideal S768x64 .f32)

theorem pay8_apply (r : Fin 256) (e : Fin 64) : k0_pay8 (F := Ideal) x0 x1 (ix2 r e) = lgt x0 x1 r e := by
  unfold k0_pay8
  refine (Ideal.matmul_plain_apply none x0 x1 _ r e).trans ?_
  rw [constant_apply, Ideal.ofBits_zero_f32]
  exact zero_add _

/-- A row's greatest logit, broadcast over the lanes. -/
theorem pay9_apply (r : Fin 256) (e : Fin 64) :
    broadcastTo S256x64 (k0_pay9 (F := Ideal) x0 x1) broadcasts_S256x1_S256x64 (ix2 r e) = rowMax (lgt x0 x1 r) := by
  unfold k0_pay9
  refine (column_apply _ r e).trans ((max_apply _ r).trans (congrArg rowMax (funext fun e => pay8_apply x0 x1 r e)))

/-- The probabilities are the softmax of the logits. -/
theorem pay10_apply (r : Fin 256) (e : Fin 64) : k0_pay10 (F := Ideal) x0 x1 (ix2 r e) = soft (lgt x0 x1 r) e := by
  unfold k0_pay10
  dsimp only
  have hx : ∀ e, (exp (F := Ideal) (φ := .f32) (subf (k0_pay8 (F := Ideal) x0 x1) (broadcastTo S256x64 (k0_pay9 (F := Ideal) x0 x1) broadcasts_S256x1_S256x64)) : FVec Ideal S256x64 .f32) (ix2 r e)
      = Ideal.exp (lgt x0 x1 r e - rowMax (lgt x0 x1 r)) := fun e =>
    congrArg Ideal.exp (congrArg₂ (fun a b : EReal => a - b) (pay8_apply x0 x1 r e) (pay9_apply x0 x1 r e))
  refine congrArg₂ Ideal.div (hx e) ((column_apply _ r e).trans ((sum_apply _ r).trans (Finset.sum_congr rfl fun e _ => hx e)))

/-- A row's greatest probability. -/
theorem pay11_apply (r : Fin 256) : k0_pay11 (F := Ideal) x0 x1 (ix1 r) = rowMax (soft (lgt x0 x1 r)) := by
  unfold k0_pay11
  exact (max_apply _ r).trans (congrArg rowMax (funext fun e => pay10_apply x0 x1 r e))

/-- A comparison for equality of two small numbers, as a float. -/
theorem eqFloat (a b : ℕ) (ha : a < 2 ^ 32) (hb : b < 2 ^ 32) :
    (FloatOps.sitofp .f32 ((IntOp.cmpi .eq (BitVec.ofNat 32 a) (BitVec.ofNat 32 b)).setWidth 32) : Ideal .f32)
      = ((if a = b then 1 else 0 : ℕ) : EReal) := by
  have h : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff]
    constructor
    · intro he
      have := congrArg BitVec.toNat he
      rwa [BitVec.toNat_ofNat, BitVec.toNat_ofNat, Nat.mod_eq_of_lt ha, Nat.mod_eq_of_lt hb] at this
    · exact fun he => by rw [he]
  rw [h]
  show ((((BitVec.ofBool (decide (a = b))).setWidth 32).toInt : ℝ) : EReal) = _
  by_cases he : a = b
  · simp [he]
  · simp [he]

/-- The choice of a row: one at the first place with the greatest logit, and zero elsewhere. -/
theorem pay12_apply (r : Fin 256) (e : Fin 64) :
    chosen (F := Ideal) x0 x1 (ix2 r e) = ((if top (lgt x0 x1 r) = e then 1 else 0 : ℕ) : EReal) := by
  unfold chosen k0_pay12
  dsimp only
  have hm : ∀ e, (select (cmpf (F := Ideal) (φ := .f32) .oeq (k0_pay8 (F := Ideal) x0 x1) (broadcastTo S256x64 (k0_pay9 (F := Ideal) x0 x1) broadcasts_S256x1_S256x64))
      (iota .tc S256x64 32 [1] iota_S256x64_d1_w32) (broadcast S256x64 64#32)) (ix2 r e)
      = if lgt x0 x1 r e = rowMax (lgt x0 x1 r) then BitVec.ofNat 32 e.val else 64#32 := fun e => by
    rw [select_apply, cmpf_apply, pay8_apply, pay9_apply, iota_single_apply]
    show (if Ideal.cmp .oeq _ _ = 1#1 then _ else _) = _
    by_cases he : lgt x0 x1 r e = rowMax (lgt x0 x1 r)
    · rw [if_pos he, if_pos (by simp [Ideal.cmp, he])]
    · rw [if_neg he, if_neg (by simp [Ideal.cmp, he])]
      rfl
  have ht : multiReductionI .minsi [1] S256 (select (cmpf (F := Ideal) (φ := .f32) .oeq (k0_pay8 (F := Ideal) x0 x1) (broadcastTo S256x64 (k0_pay9 (F := Ideal) x0 x1) broadcasts_S256x1_S256x64))
      (iota .tc S256x64 32 [1] iota_S256x64_d1_w32) (broadcast S256x64 64#32)) 2147483647#32 reduces_S256x64_S256 rfl (ix1 r)
      = BitVec.ofNat 32 (top (lgt x0 x1 r)).val := by
    refine (multiReductionI_eq_fold .minsi _ _ _ _ (ix1 r)).trans ?_
    refine (Shape.Reduces.fold_fiber_r2_a1 reduces_S256x64_S256 (ix1 r) IntOp.minsi _ _).trans ?_
    rw [← fold_minsi_top]
    exact congrArg (fun g => Finset.fold IntOp.minsi 2147483647#32 g Finset.univ) (funext fun e => hm e)
  refine (congrArg₂ (fun v w : BitVec 32 => (FloatOps.sitofp .f32 ((IntOp.cmpi .eq v w).setWidth 32) : Ideal .f32))
    (iota_single_apply .tc S256x64 32 1 iota_S256x64_d1_w32 (ix2 r e)) ((column_apply _ r e).trans ht)).trans ?_
  refine (eqFloat e.val _ (by have := e.isLt; omega) (by have := (top (lgt x0 x1 r)).isLt; omega)).trans ?_
  simp only [Fin.ext_iff, eq_comm]

end Cert.Proof.Router

end
-- ==== Proof.RouterScan.lean ====
/-
  The running counts of one block by doubling, the places of its tokens, and what it adds to the tables.
-/
module

public import proofs.«01_k».proof.Proof.RouterPay

@[expose] public section

noncomputable section

namespace Cert.Proof.Router

open Cert.RouterIdeal Cert.RouterIdeal.Gen
open Idealize.ShloMosaic hiding ix1 ix2 ix3
open Idealize.ShloMosaic.ValueIdx
open scoped BigOperators

/-- Each row of `v` holds the sum of the last `k` rows of `u` up to it. -/
def Scan (u : ℕ → Fin 64 → ℕ) (k : ℕ) (v : FVec Ideal S256x64 .f32) : Prop :=
  ∀ (r : Fin 256) (e : Fin 64), v (ix2 r e) = ((∑ i ∈ Finset.Ico (r.val + 1 - k) (r.val + 1), u i e : ℕ) : EReal)

/-- Adding the rows shifted down by `k`, with zeros above, doubles how many rows are summed. -/
theorem scan_step {k n : ℕ} (hk : k + n = 256) (u : ℕ → Fin 64 → ℕ) (v : FVec Ideal S256x64 .f32)
    (hs : S256x64.Slices ![0, 0] ⟨2, ![n, 64]⟩) (hc : Shape.Concatenates [(⟨2, ![k, 64]⟩ : Shape), ⟨2, ![n, 64]⟩] S256x64 0)
    (hv : Scan u k v) :
    Scan u (k + k) (addf v (concatenate S256x64 0 [⟨⟨2, ![k, 64]⟩, broadcast ⟨2, ![k, 64]⟩ (zero32 (F := Ideal))⟩,
      ⟨⟨2, ![n, 64]⟩, extractStridedSlice ⟨2, ![n, 64]⟩ ![0, 0] v hs⟩] hc)) := by
  intro r e
  have hr := r.isLt
  rw [addf_apply]
  by_cases h : r.val < k
  · rw [concatenate_pair_apply_left (0 : Fin S256x64.rank) _ _ hc (ix2 r e) rfl (ix2 ⟨r.val, h⟩ e) (fun b => by fin_cases b <;> rfl), hv]
    have e1 : r.val + 1 - k = 0 := by omega
    have e2 : r.val + 1 - (k + k) = 0 := by omega
    rw [e1, e2]
    show _ + (Ideal.ofBits .f32 0x00000000#32 : EReal) = _
    rw [Ideal.ofBits_zero_f32]
    exact add_zero _
  · have hlt : r.val - k < n := by omega
    rw [concatenate_pair_apply_right (0 : Fin S256x64.rank) _ _ hc (ix2 r e) rfl rfl (ix2 ⟨r.val - k, hlt⟩ e)
        (fun b hb => by fin_cases b <;> first | exact absurd rfl hb | rfl) (by show r.val - k + k = r.val; omega),
      extractStridedSlice_apply _ _ hs _ (ix2 ⟨r.val - k, by omega⟩ e) (fun a => by fin_cases a <;> simp [ix2]), hv, hv]
    show ((_ : ℕ) : EReal) + ((_ : ℕ) : EReal) = _
    rw [← Nat.cast_add, add_comm]
    congr 1
    have e1 : r.val - k + 1 = r.val + 1 - k := by omega
    have e2 : r.val - k + 1 - k = r.val + 1 - (k + k) := by omega
    show ∑ i ∈ Finset.Ico (r.val - k + 1 - k) (r.val - k + 1), u i e + ∑ i ∈ Finset.Ico (r.val + 1 - k) (r.val + 1), u i e = _
    rw [e2, e1]
    exact Finset.sum_Ico_consecutive _ (by omega) (by omega)

section Block

variable (x0 : Vec Ideal S256x768 .f32) (x1 : Vec Ideal S768x64 .f32) (E : ℕ → Fin 64) (a : ℕ)

/-- After all the doublings each row holds how many tokens of the block, up to it, choose each expert. -/
theorem scan_all (hE : ∀ r : Fin 256, top (lgt x0 x1 r) = E (a + r.val)) (r : Fin 256) (e : Fin 64) :
    k0_pay14 (F := Ideal) (k0_pay13 x0 x1) zero32 (ix2 r e) = ((∑ i ∈ Finset.range (r.val + 1), if E (a + i) = e then 1 else 0 : ℕ) : EReal) := by
  let u : ℕ → Fin 64 → ℕ := fun i e => if E (a + i) = e then 1 else 0
  have h1 : Scan u 1 (chosen (F := Ideal) x0 x1) := fun r e => by
    rw [pay12_apply, hE, Nat.add_sub_cancel, Nat.Ico_succ_singleton, Finset.sum_singleton]
  have h2 := scan_step (n := 255) rfl u _ slices_S256x64_o0_0_S255x64 concatenates_S1x64_S255x64_S256x64_d0 h1
  have h4 := scan_step (n := 254) rfl u _ slices_S256x64_o0_0_S254x64 concatenates_S2x64_S254x64_S256x64_d0 h2
  have h8 := scan_step (n := 252) rfl u _ slices_S256x64_o0_0_S252x64 concatenates_S4x64_S252x64_S256x64_d0 h4
  have h16 := scan_step (n := 248) rfl u _ slices_S256x64_o0_0_S248x64 concatenates_S8x64_S248x64_S256x64_d0 h8
  have h32 := scan_step (n := 240) rfl u _ slices_S256x64_o0_0_S240x64 concatenates_S16x64_S240x64_S256x64_d0 h16
  have h64 := scan_step (n := 224) rfl u _ slices_S256x64_o0_0_S224x64 concatenates_S32x64_S224x64_S256x64_d0 h32
  have h128 := scan_step (n := 192) rfl u _ slices_S256x64_o0_0_S192x64 concatenates_S64x64_S192x64_S256x64_d0 h64
  have h256 := scan_step (n := 128) rfl u _ slices_S256x64_o0_0_S128x64 concatenates_S128x64_S128x64_S256x64_d0 h128
  refine (h256 r e).trans ?_
  have e0 : r.val + 1 - (128 + 128) = 0 := by have := r.isLt; omega
  show ((∑ i ∈ Finset.Ico (r.val + 1 - (128 + 128)) (r.val + 1), u i e : ℕ) : EReal) = _
  rw [e0, ← Finset.range_eq_Ico]

/-- The counts of the tokens before the block and of the block's first rows together are the counts of all of them. -/
theorem count_add (m : ℕ) (e : Fin 64) : count E a e + (∑ i ∈ Finset.range m, if E (a + i) = e then 1 else 0) = count E (a + m) e :=
  (Finset.sum_range_add (fun i => if E i = e then 1 else 0) a m).symm

variable (hE : ∀ r : Fin 256, top (lgt x0 x1 r) = E (a + r.val)) (w : Vec Ideal S1x64 .f32)
  (hw : ∀ e : Fin 64, w (ix2 0 e) = ((count E a e : ℕ) : EReal))
include hE hw

/-- The row of counts after the block. -/
theorem rowStep_apply (e : Fin 64) : rowStep (F := Ideal) x0 x1 w (ix2 0 e) = ((count E (a + 256) e : ℕ) : EReal) := by
  unfold rowStep k0_pay15
  rw [shapeCast_apply _ _ _ (ix2 0 e) rfl, addf_apply, hw, extractStridedSlice_apply _ _ _ _ (ix2 (255 : Fin 256) e) (fun b => by fin_cases b <;> simp [ix2]),
    scan_all x0 x1 E a hE]
  show ((_ : ℕ) : EReal) + ((_ : ℕ) : EReal) = _
  rw [← Nat.cast_add]
  exact congrArg (fun n : ℕ => (n : EReal)) (count_add E a 256 e)

/-- The place of each token. -/
theorem place_apply (ha : a + 256 ≤ 4096) (r : Fin 256) (c : Fin 64) :
    place (F := Ideal) x0 x1 w (ix2 r c) = ((if rank E (a + r.val) = c.val then 1 else 0 : ℕ) : EReal) := by
  have hr := r.isLt
  have hrow : ∀ e : Fin 64, (mulf (F := Ideal) (φ := .f32) (addf (subf (k0_pay14 (F := Ideal) (k0_pay13 x0 x1) zero32) (chosen (F := Ideal) x0 x1))
      (broadcastTo S256x64 w broadcasts_S1x64_S256x64)) (chosen (F := Ideal) x0 x1) : FVec Ideal S256x64 .f32) (ix2 r e)
      = if e = E (a + r.val) then ((rank E (a + r.val) : ℕ) : EReal) else 0 := fun e => by
    rw [mulf_apply, addf_apply, subf_apply, pay12_apply, hE, scan_all x0 x1 E a hE, broadcastTo_apply _ _ _ (ix2 0 e) (fun b => by fin_cases b <;> rfl), hw]
    by_cases he : E (a + r.val) = e
    · rw [if_pos he, if_pos he.symm, Finset.sum_range_succ, if_pos he]
      show ((((_ + 1 : ℕ) : EReal) - ((1 : ℕ) : EReal)) + ((_ : ℕ) : EReal)) * ((1 : ℕ) : EReal) = _
      rw [Nat.cast_one, mul_one]
      have hsub : ∀ n : ℕ, (((n + 1 : ℕ) : EReal) - 1) = ((n : ℕ) : EReal) := fun n => by
        have h1 : (((n + 1 : ℕ) : EReal)) = (((n : ℝ) + 1 : ℝ) : EReal) := by push_cast; rfl
        rw [h1]
        show (((n : ℝ) + 1 : ℝ) : EReal) - ((1 : ℝ) : EReal) = _
        rw [← EReal.coe_sub, add_sub_cancel_right]
        rfl
      rw [hsub, ← Nat.cast_add, add_comm]
      refine congrArg (fun n : ℕ => (n : EReal)) ((count_add E a r.val e).trans ?_)
      unfold rank
      rw [he]
    · rw [if_neg he, if_neg (fun h => he h.symm)]
      show _ * (((0 : ℕ)) : EReal) = 0
      rw [Nat.cast_zero, mul_zero]
  have hsum : (multiReduction .add [1] S256 (mulf (F := Ideal) (φ := .f32) (addf (subf (k0_pay14 (F := Ideal) (k0_pay13 x0 x1) zero32) (chosen (F := Ideal) x0 x1))
      (broadcastTo S256x64 w broadcasts_S1x64_S256x64)) (chosen (F := Ideal) x0 x1)) 0x00000000#32 reduces_S256x64_S256 (.inl rfl) rfl : FVec Ideal S256 .f32) (ix1 r)
      = ((rank E (a + r.val) : ℕ) : EReal) := by
    refine (sum_apply _ r).trans ((Finset.sum_congr rfl fun e _ => hrow e).trans ?_)
    rw [Finset.sum_ite_eq' Finset.univ (E (a + r.val)), if_pos (Finset.mem_univ _)]
  have hle : rank E (a + r.val) ≤ a + r.val := count_le E _ _
  unfold place k0_pay16
  dsimp only
  refine (congrArg₂ (fun v w : BitVec 32 => (FloatOps.sitofp .f32 ((IntOp.cmpi .eq v w).setWidth 32) : Ideal .f32))
    (iota_single_apply .tc S256x64 32 1 iota_S256x64_d1_w32 (ix2 r c)) ((column_apply _ r c).trans
      ((congrArg (Ideal.fptosi 32) hsum).trans (fptosi_natCast _ (by omega))))).trans ?_
  refine (eqFloat c.val _ (by have := c.isLt; omega) (by omega)).trans ?_
  simp only [eq_comm]

/-- What a block adds to a table: the sum, over its tokens with that expert and that place, of a value of each token. -/
theorem table_step (ha : a + 256 ≤ 4096) (v : ℕ → EReal) (m : FVec Ideal S256x64 .f32)
    (hm : ∀ (r : Fin 256) (c : Fin 64), m (ix2 r c) = place (F := Ideal) x0 x1 w (ix2 r c) * v (a + r.val)) (y : Vec Ideal S64x64 .f32)
    (hy : ∀ e c : Fin 64, y (ix2 e c) = table E v a e c) (e c : Fin 64) :
    (addf (F := Ideal) (φ := .f32) (shapeCast S64x64 y shapeCasts_S64x64_S64x64) (matmul (F := Ideal) (φ₁ := .f32) (φ₂ := .f32) dot_S256x64_S256x64_S64x64_0_0_1_1_n_n (some .fp32) (chosen (F := Ideal) x0 x1) m
      (constant S64x64 .f32 0x00000000#32)) : FVec Ideal S64x64 .f32) (ix2 e c) = table E v (a + 256) e c := by
  rw [addf_apply, shapeCast_apply _ _ _ (ix2 e c) rfl, hy]
  have hmm : (matmul (F := Ideal) (φ₁ := .f32) (φ₂ := .f32) dot_S256x64_S256x64_S64x64_0_0_1_1_n_n (some .fp32) (chosen (F := Ideal) x0 x1) m
      (constant S64x64 .f32 0x00000000#32) : FVec Ideal S64x64 .f32) (ix2 e c) = ∑ r : Fin 256, chosen (F := Ideal) x0 x1 (ix2 r e) * m (ix2 r c) := by
    refine (Ideal.matmul_apply₁_of dot_S256x64_S256x64_S64x64_0_0_1_1_n_n rfl rfl _ _ _ (ix2 e c) (fun k => ix2 k e) (fun k => ix2 k c) ?_ ?_).trans ?_
    · intro k
      funext b
      fin_cases b <;> rfl
    · intro k
      funext b
      fin_cases b <;> rfl
    · rw [constant_apply, Ideal.ofBits_zero_f32]
      exact zero_add _
  rw [hmm]
  unfold table
  rw [Finset.sum_range_add]
  refine congrArg (fun z : EReal => _ + z) ?_
  rw [← Fin.sum_univ_eq_sum_range (fun i => if E (a + i) = e ∧ rank E (a + i) = c.val then v (a + i) else 0) 256]
  refine Finset.sum_congr rfl fun r _ => ?_
  rw [hm, pay12_apply, hE, place_apply x0 x1 E a hE w hw ha]
  by_cases he : E (a + r.val) = e
  · by_cases hc : rank E (a + r.val) = c.val
    · rw [if_pos he, if_pos hc, if_pos ⟨he, hc⟩, Nat.cast_one, one_mul, one_mul]
    · rw [if_neg hc, if_neg (fun h : E (a + r.val) = e ∧ rank E (a + r.val) = c.val => hc h.2), Nat.cast_zero, zero_mul, mul_zero]
  · rw [if_neg he, if_neg (fun h : E (a + r.val) = e ∧ rank E (a + r.val) = c.val => he h.1), Nat.cast_zero, zero_mul]

/-- The occupancy after the block: how many tokens so far have each place. -/
theorem occStep_apply (ha : a + 256 ≤ 4096) (y : Vec Ideal S64x64 .f32) (hy : ∀ e c : Fin 64, y (ix2 e c) = table E (fun _ => 1) a e c) (e c : Fin 64) :
    occStep (F := Ideal) x0 x1 w y (ix2 e c) = table E (fun _ => 1) (a + 256) e c := by
  have hm : ∀ (r : Fin 256) (c : Fin 64), place (F := Ideal) x0 x1 w (ix2 r c) = place (F := Ideal) x0 x1 w (ix2 r c) * (1 : EReal) :=
    fun _ _ => (mul_one _).symm
  unfold occStep k0_pay1
  exact table_step x0 x1 E a hE w hw ha (fun _ => 1) _ hm y hy e c

/-- The probabilities after the block. -/
theorem ptbStep_apply (ha : a + 256 ≤ 4096) (v : ℕ → EReal) (hv : ∀ r : Fin 256, v (a + r.val) = rowMax (soft (lgt x0 x1 r)))
    (y : Vec Ideal S64x64 .f32) (hy : ∀ e c : Fin 64, y (ix2 e c) = table E v a e c) (e c : Fin 64) :
    ptbStep (F := Ideal) x0 x1 w y (ix2 e c) = table E v (a + 256) e c := by
  have hm : ∀ (r : Fin 256) (c : Fin 64), (mulf (F := Ideal) (φ := .f32) (place (F := Ideal) x0 x1 w) (broadcastTo S256x64 (shapeCast S256x1 (k0_pay11 (F := Ideal) x0 x1)
      shapeCasts_S256_S256x1) broadcasts_S256x1_S256x64) : FVec Ideal S256x64 .f32) (ix2 r c) = place (F := Ideal) x0 x1 w (ix2 r c) * v (a + r.val) := fun r c => by
    rw [mulf_apply, column_apply, pay11_apply, hv]
  unfold ptbStep k0_pay3
  exact table_step x0 x1 E a hE w hw ha v _ hm y hy e c

/-- The token numbers after the block. -/
theorem tokStep_apply (ha : a + 256 ≤ 4096) (i : grid0.Coords) (hi : (i 0).val * 256 = a) (y : Vec Ideal S64x64 .f32)
    (hy : ∀ e c : Fin 64, y (ix2 e c) = table E (fun t => ((t : ℕ) : EReal)) a e c) (e c : Fin 64) :
    tokStep (F := Ideal) i x0 x1 w y (ix2 e c) = table E (fun t => ((t : ℕ) : EReal)) (a + 256) e c := by
  suffices hm : ∀ (r : Fin 256) (c : Fin 64), (mulf (F := Ideal) (φ := .f32) (place (F := Ideal) x0 x1 w) (broadcastTo S256x64
      (sitofp (F := Ideal) .f32 (addi rowNo (k0_pay17 (BitVec.ofNat 32 (i 0).val)))) broadcasts_S256x1_S256x64) : FVec Ideal S256x64 .f32) (ix2 r c)
      = place (F := Ideal) x0 x1 w (ix2 r c) * (((a + r.val : ℕ)) : EReal) by
    unfold tokStep k0_pay2
    exact table_step x0 x1 E a hE w hw ha (fun t => ((t : ℕ) : EReal)) _ hm y hy e c
  intro r c
  rw [mulf_apply]
  refine congrArg (fun z : EReal => place (F := Ideal) x0 x1 w (ix2 r c) * z) ?_
  refine (broadcastTo_apply _ _ _ (ix2 r (0 : Fin 1)) (fun b => by fin_cases b <;> rfl)).trans ?_
  have hr := r.isLt
  have hword : (addi rowNo (k0_pay17 (BitVec.ofNat 32 (i 0).val)) : IVec S256x1 32) (ix2 r (0 : Fin 1)) = BitVec.ofNat 32 (a + r.val) := by
    refine (congrArg (fun z : BitVec 32 => z + BitVec.ofNat 32 (i 0).val * 256#32) (iota_single_apply .tc S256x1 32 0 iota_S256x1_d0_w32 (ix2 r (0 : Fin 1)))).trans ?_
    show BitVec.ofNat 32 r.val + BitVec.ofNat 32 (i 0).val * BitVec.ofNat 32 256 = _
    rw [← BitVec.ofNat_mul, ← BitVec.ofNat_add, hi, add_comm]
  refine (congrArg (fun z : BitVec 32 => ((z.toInt : ℝ) : EReal)) hword).trans ?_
  rw [BitVec.toInt_ofNat', Int.bmod_eq_of_le (by omega) (by omega)]
  show (((a + r.val : ℕ) : ℤ) : ℝ) = ((a + r.val : ℕ) : EReal)
  norm_cast

end Block

end Cert.Proof.Router

end
-- ==== Proof.RouterRun.lean ====
/-
  The router's call over all its blocks: what the outputs and the row of counts hold after each block, in terms of the whole arguments,
  and from that the five arrays after the call.
-/
module

public import proofs.«01_k».proof.Proof.RouterScan
public import Idealize.ShloMosaic.Lib.Pipeline.ValueKit.Geometry

@[expose] public section

noncomputable section

namespace Cert.Proof.Router

open Cert.RouterIdeal Cert.RouterIdeal.Gen
open Idealize.ShloMosaic hiding ix1 ix2 ix3
open Idealize.ShloMosaic.TcCoe Idealize.ShloMosaic.ValueIdx
open scoped BigOperators

/-- The logits of token `t`. -/
def logit (X : Vec Ideal S4096x768 .f32) (W : Vec Ideal S768x64 .f32) (t : ℕ) (e : Fin 64) : EReal :=
  if h : t < 4096 then ∑ k : Fin 768, X (ix2 ⟨t, h⟩ k) * W (ix2 k e) else 0

/-- The expert token `t` chooses. -/
def pick (X : Vec Ideal S4096x768 .f32) (W : Vec Ideal S768x64 .f32) (t : ℕ) : Fin 64 := top (logit X W t)

/-- The greatest probability of token `t`. -/
def best (X : Vec Ideal S4096x768 .f32) (W : Vec Ideal S768x64 .f32) (t : ℕ) : EReal := rowMax (soft (logit X W t))

/-- The number of token `t` as a float. -/
def numb (t : ℕ) : EReal := ((t : ℕ) : EReal)

section Call

variable (m : (ℓ : Loc nD τ sig) → Buf (Elt Ideal) ℓ) (c : Dev nD)

/-- The tokens. -/
abbrev argX : Vec Ideal S4096x768 .f32 := m ((c.tc : Thread nD τ).loc main_arg0)

/-- The router's weights. -/
abbrev argW : Vec Ideal S768x64 .f32 := m ((c.tc : Thread nD τ).loc main_arg1)

theorem coords_eq : ∀ t : Fin cfg0.N, (grid0.coords t 0).val = t.val :=
  (by decide +kernel : ∀ t : Fin grid0.N, (grid0.coords t 0).val = t.val)

theorem N_16 : cfg0.N = 16 := by decide +kernel

set_option backward.isDefEq.respectTransparency.types false in
/-- Block `t` of the tokens. -/
theorem iblk_tokens (t : Fin cfg0.N) (r : Fin 256) (k : Fin 768) (h : 256 * t.val + r.val < 4096) :
    (iblk m c 0 t : Vec Ideal S256x768 .f32) (ix2 r k) = argX m c (ix2 ⟨256 * t.val + r.val, h⟩ k) := by
  show argX m c (((cfg0.win 0).blk t).view.emb (ix2 r k)) = _
  refine congrArg (argX m c) (funext fun x => Fin.ext ?_)
  refine (Pipeline.Window.rect_emb_val (cfg0.win 0) t (ix2 r k) x).trans ?_
  fin_cases x
  · have hx : (BitVec.ofNat 32 (grid0.coords t 0).val).toNat = t.val := by
      rw [coords_eq, BitVec.toNat_ofNat]
      have := t.isLt
      have := N_16
      exact Nat.mod_eq_of_lt (by omega)
    show (BitVec.ofNat 32 (grid0.coords t 0).val).toNat * 256 + r.val = 256 * t.val + r.val
    rw [hx]
    omega
  · show 0 * _ + k.val = k.val
    omega

set_option backward.isDefEq.respectTransparency.types false in
/-- The router's weights are one block. -/
theorem iblk_weights (t : Fin cfg0.N) : (iblk m c 1 t : Vec Ideal S768x64 .f32) = argW m c := by
  funext j
  show argW m c (((cfg0.win 1).blk t).view.emb j) = _
  refine congrArg (argW m c) (funext fun x => Fin.ext ?_)
  refine (Pipeline.Window.rect_emb_val (cfg0.win 1) t j x).trans ?_
  fin_cases x
  · show 0 * _ + (j 0).val = (j 0).val
    omega
  · show 0 * _ + (j 1).val = (j 1).val
    omega

/-- The logits of a block are those of its tokens. -/
theorem lgt_block (t : Fin cfg0.N) (r : Fin 256) :
    lgt (iblk m c 0 t : Vec Ideal S256x768 .f32) (iblk m c 1 t : Vec Ideal S768x64 .f32) r = logit (argX m c) (argW m c) (256 * t.val + r.val) := by
  have h : 256 * t.val + r.val < 4096 := by
    have := t.isLt
    have := N_16
    have := r.isLt
    omega
  funext e
  unfold lgt logit
  rw [dif_pos h, iblk_weights]
  exact Finset.sum_congr rfl fun k _ => congrArg (fun z : EReal => z * _) (iblk_tokens m c t r k h)

/-- What the outputs and the row of counts hold after block `n`. -/
def After (n : ℕ) (o : Vec Ideal S256x64 .f32 × Vec Ideal S256x64 .f32 × Vec Ideal S64x64 .f32 × Vec Ideal S64x64 .f32 × Vec Ideal S64x64 .f32 × Vec Ideal S8x64 .f32) : Prop :=
  (∀ (r : Fin 256) (e : Fin 64), o.1 (ix2 r e) = logit (argX m c) (argW m c) (256 * n + r.val) e) ∧
  (∀ (r : Fin 256) (e : Fin 64), o.2.1 (ix2 r e) = soft (logit (argX m c) (argW m c) (256 * n + r.val)) e) ∧
  (∀ e k : Fin 64, o.2.2.1 (ix2 e k) = table (pick (argX m c) (argW m c)) (fun _ => 1) (256 * n + 256) e k) ∧
  (∀ e k : Fin 64, o.2.2.2.1 (ix2 e k) = table (pick (argX m c) (argW m c)) numb (256 * n + 256) e k) ∧
  (∀ e k : Fin 64, o.2.2.2.2.1 (ix2 e k) = table (pick (argX m c) (argW m c)) (best (argX m c) (argW m c)) (256 * n + 256) e k) ∧
  (∀ e : Fin 64, firstRow o.2.2.2.2.2 (ix2 0 e) = ((count (pick (argX m c) (argW m c)) (256 * n + 256) e : ℕ) : EReal))

/-- One block, from the tables and the row of counts before it. -/
theorem after_step (t : Fin cfg0.N) (o : Vec Ideal S256x64 .f32 × Vec Ideal S256x64 .f32 × Vec Ideal S64x64 .f32 × Vec Ideal S64x64 .f32 × Vec Ideal S64x64 .f32 × Vec Ideal S8x64 .f32)
    (w : Vec Ideal S1x64 .f32) (y4 y5 y6 : Vec Ideal S64x64 .f32)
    (hw : ∀ e : Fin 64, w (ix2 0 e) = ((count (pick (argX m c) (argW m c)) (256 * t.val) e : ℕ) : EReal))
    (h4 : ∀ e k : Fin 64, y4 (ix2 e k) = table (pick (argX m c) (argW m c)) (fun _ => 1) (256 * t.val) e k)
    (h5 : ∀ e k : Fin 64, y5 (ix2 e k) = table (pick (argX m c) (argW m c)) numb (256 * t.val) e k)
    (h6 : ∀ e k : Fin 64, y6 (ix2 e k) = table (pick (argX m c) (argW m c)) (best (argX m c) (argW m c)) (256 * t.val) e k)
    (ho : o.1 = k0_pay8 (iblk m c 0 t) (iblk m c 1 t) ∧ o.2.1 = k0_pay10 (iblk m c 0 t) (iblk m c 1 t) ∧
      o.2.2.1 = occStep (iblk m c 0 t) (iblk m c 1 t) w y4 ∧ o.2.2.2.1 = tokStep (grid0.coords t) (iblk m c 0 t) (iblk m c 1 t) w y5 ∧
      o.2.2.2.2.1 = ptbStep (iblk m c 0 t) (iblk m c 1 t) w y6 ∧ firstRow o.2.2.2.2.2 = rowStep (iblk m c 0 t) (iblk m c 1 t) w) :
    After m c t.val o := by
  obtain ⟨e2, e3, e4, e5, e6, es⟩ := ho
  have ht : 256 * t.val + 256 ≤ 4096 := by
    have := t.isLt
    have := N_16
    omega
  have hE : ∀ r : Fin 256, top (lgt (iblk m c 0 t : Vec Ideal S256x768 .f32) (iblk m c 1 t : Vec Ideal S768x64 .f32) r)
      = pick (argX m c) (argW m c) (256 * t.val + r.val) := fun r => congrArg top (lgt_block m c t r)
  refine ⟨fun r e => ?_, fun r e => ?_, fun e k => ?_, fun e k => ?_, fun e k => ?_, fun e => ?_⟩
  · rw [e2]
    exact (pay8_apply _ _ r e).trans (congrFun (lgt_block m c t r) e)
  · rw [e3]
    exact (pay10_apply _ _ r e).trans (congrArg (fun f => soft f e) (lgt_block m c t r))
  · rw [e4]
    exact occStep_apply _ _ _ _ hE w hw ht y4 h4 e k
  · rw [e5]
    exact tokStep_apply _ _ _ _ hE w hw ht (grid0.coords t) (by rw [coords_eq]; omega) y5 h5 e k
  · rw [e6]
    exact ptbStep_apply _ _ _ _ hE w hw ht _ (fun r => congrArg (fun f => rowMax (soft f)) (lgt_block m c t r).symm) y6 h6 e k
  · rw [es]
    exact rowStep_apply _ _ _ _ hE w hw e

/-- One block's outputs and row of counts, from the tables and the row before it. -/
def Stepped (t : Fin cfg0.N) (w : Vec Ideal S1x64 .f32) (y4 y5 y6 : Vec Ideal S64x64 .f32)
    (o : Vec Ideal S256x64 .f32 × Vec Ideal S256x64 .f32 × Vec Ideal S64x64 .f32 × Vec Ideal S64x64 .f32 × Vec Ideal S64x64 .f32 × Vec Ideal S8x64 .f32) : Prop :=
  o.1 = k0_pay8 (iblk m c 0 t) (iblk m c 1 t) ∧ o.2.1 = k0_pay10 (iblk m c 0 t) (iblk m c 1 t) ∧
    o.2.2.1 = occStep (iblk m c 0 t) (iblk m c 1 t) w y4 ∧ o.2.2.2.1 = tokStep (grid0.coords t) (iblk m c 0 t) (iblk m c 1 t) w y5 ∧
    o.2.2.2.2.1 = ptbStep (iblk m c 0 t) (iblk m c 1 t) w y6 ∧ firstRow o.2.2.2.2.2 = rowStep (iblk m c 0 t) (iblk m c 1 t) w

/-- The first block starts from zeros. -/
theorem stepped_first (t : Fin cfg0.N) (h0 : t.val % 16 = 0) :
    Stepped m c t (firstRow (F := Ideal) (k0_pay4 (F := Ideal))) (k0_pay5 (F := Ideal)) (k0_pay6 (F := Ideal)) (k0_pay7 (F := Ideal)) (outsAt0 m c t.val t.isLt) := by
  rw [outsAt0_A m c t h0]
  unfold Stepped
  dsimp only
  have hb := first_block (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _)
    (iblk m c 0 t) (iblk m c 1 t) ((hcond0_0 t).mpr h0)
  exact hb

/-- A later block starts from what the block before it left. -/
theorem stepped_later (t : Fin cfg0.N) (h0 : ¬ t.val % 16 = 0) (hl : t.val - 1 < cfg0.N) :
    Stepped m c t (firstRow (outsAt0 m c (t.val - 1) hl).2.2.2.2.2) (outsAt0 m c (t.val - 1) hl).2.2.1 (outsAt0 m c (t.val - 1) hl).2.2.2.1
      (outsAt0 m c (t.val - 1) hl).2.2.2.2.1 (outsAt0 m c t.val t.isLt) := by
  rw [outsAt0_B m c t h0]
  unfold Stepped
  dsimp only
  have hb := later_block (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _)
    (iblk m c 0 t) (iblk m c 1 t) (fun h => h0 ((hcond0_0 t).mp h)) (outsAt0 m c (t.val - 1) hl).2.2.1 (outsAt0 m c (t.val - 1) hl).2.2.2.1
    (outsAt0 m c (t.val - 1) hl).2.2.2.2.1 (outsAt0 m c (t.val - 1) hl).2.2.2.2.2
  exact hb

/-- The tables and the row of counts are zero at the start. -/
theorem start_zero (v : ℕ → EReal) :
    (∀ e : Fin 64, firstRow (F := Ideal) (k0_pay4 (F := Ideal)) (ix2 0 e) = ((count (pick (argX m c) (argW m c)) 0 e : ℕ) : EReal)) ∧
    (∀ e k : Fin 64, (k0_pay5 (F := Ideal)) (ix2 e k) = table (pick (argX m c) (argW m c)) v 0 e k) ∧
    (∀ e k : Fin 64, (k0_pay6 (F := Ideal)) (ix2 e k) = table (pick (argX m c) (argW m c)) v 0 e k) ∧
    (∀ e k : Fin 64, (k0_pay7 (F := Ideal)) (ix2 e k) = table (pick (argX m c) (argW m c)) v 0 e k) :=
  ⟨fun _ => Ideal.ofBits_zero_f32.trans Nat.cast_zero.symm, fun _ _ => Ideal.ofBits_zero_f32, fun _ _ => Ideal.ofBits_zero_f32, fun _ _ => Ideal.ofBits_zero_f32⟩

/-- What the outputs and the row of counts hold after every block. -/
theorem after_all (n : ℕ) : ∀ hn : n < cfg0.N, After m c n (outsAt0 m c n hn) := by
  induction n with
  | zero =>
    intro hn
    obtain ⟨hw, -⟩ := start_zero m c (fun _ => 1)
    exact after_step m c ⟨0, hn⟩ _ _ _ _ _ hw (start_zero m c _).2.1 (start_zero m c _).2.2.1 (start_zero m c _).2.2.2
      (stepped_first m c ⟨0, hn⟩ (Nat.zero_mod _))
  | succ n ih =>
    intro hn
    have h0 : ¬ (n + 1) % 16 = 0 := by
      have := N_16
      omega
    obtain ⟨_, _, i4, i5, i6, is⟩ := ih (Nat.lt_of_succ_lt hn)
    have ea : 256 * n + 256 = 256 * (n + 1) := by omega
    rw [ea] at i4 i5 i6 is
    exact after_step m c ⟨n + 1, hn⟩ _ _ _ _ _ is i4 i5 i6 (stepped_later m c ⟨n + 1, hn⟩ h0 (Nat.lt_of_succ_lt hn))

end Call

end Cert.Proof.Router

end
-- ==== Proof.RouterOut.lean ====
/-
  The router's arrays after its call, as functions of the arguments.
-/
module

public import proofs.«01_k».proof.Proof.RouterRun

@[expose] public section

noncomputable section

namespace Cert.Proof.Router

open Cert.RouterIdeal Cert.RouterIdeal.Gen
open Idealize.ShloMosaic hiding ix1 ix2 ix3
open Idealize.ShloMosaic.TcCoe Idealize.ShloMosaic.ValueIdx
open scoped BigOperators

/-- The logits of all tokens. -/
def logits (X : Vec Ideal S4096x768 .f32) (W : Vec Ideal S768x64 .f32) : Vec Ideal S4096x64 .f32 :=
  fun j => logit X W (j 0).val (j 1)

/-- The probabilities of all tokens. -/
def probs (X : Vec Ideal S4096x768 .f32) (W : Vec Ideal S768x64 .f32) : Vec Ideal S4096x64 .f32 :=
  fun j => soft (logit X W (j 0).val) (j 1)

/-- The slots of all experts, filled with the values of the tokens that take them. -/
def slots (X : Vec Ideal S4096x768 .f32) (W : Vec Ideal S768x64 .f32) (v : ℕ → EReal) : Vec Ideal S64x64 .f32 :=
  fun j => table (pick X W) v 4096 (j 0) (j 1)

section Call

variable (m : (ℓ : Loc nD τ sig) → Buf (Elt Ideal) ℓ) (c : Dev nD)

theorem ix2_eta {a b : ℕ} (j : (⟨2, ![a, b]⟩ : Shape).Idx) : ix2 (j 0) (j 1) = j := by
  funext x
  fin_cases x <;> rfl

set_option backward.isDefEq.respectTransparency.types false in
/-- The row of the whole array that row `y` of block `t` is, for the logits. -/
theorem emb_logits (t : Fin cfg0.N) (y : ((cfg0.win 2).xblock (cfg0.grid.coords t)).Idx) :
    ((((cfg0.win 2).blk t).view.emb y : S4096x64.Idx) 0).val = 256 * t.val + (y 0).val ∧ (((cfg0.win 2).blk t).view.emb y : S4096x64.Idx) 1 = y 1 := by
  have hx : (BitVec.ofNat 32 (grid0.coords t 0).val).toNat = t.val := by
    rw [coords_eq, BitVec.toNat_ofNat]
    have := t.isLt
    have := N_16
    exact Nat.mod_eq_of_lt (by omega)
  refine ⟨(Pipeline.Window.rect_emb_val (cfg0.win 2) t y 0).trans ?_, Fin.ext ((Pipeline.Window.rect_emb_val (cfg0.win 2) t y 1).trans ?_)⟩
  · show (BitVec.ofNat 32 (grid0.coords t 0).val).toNat * 256 + (y 0).val = 256 * t.val + (y 0).val
    rw [hx]
    omega
  · show 0 * _ + (y 1).val = (y 1).val
    omega

set_option backward.isDefEq.respectTransparency.types false in
/-- The row of the whole array that row `y` of block `t` is, for the probabilities. -/
theorem emb_probs (t : Fin cfg0.N) (y : ((cfg0.win 3).xblock (cfg0.grid.coords t)).Idx) :
    ((((cfg0.win 3).blk t).view.emb y : S4096x64.Idx) 0).val = 256 * t.val + (y 0).val ∧ (((cfg0.win 3).blk t).view.emb y : S4096x64.Idx) 1 = y 1 := by
  exact emb_logits t y

set_option backward.isDefEq.respectTransparency.types false in
/-- The logits after the call. -/
theorem arr_logits : (dats m 0 c).arrAt 2 cfg0.N = logits (argX m c) (argW m c) := by
  refine (dats m 0 c).arrAt_eq_of_covers 2 (logits (argX m c) (argW m c)) (by decide +kernel) fun t _ y => ?_
  show (dats m 0 c).after 2 t y = _
  rw [after0_2]
  refine (congrArg (outsAt0 m c t.val t.isLt).1 (ix2_eta (a := 256) (b := 64) y).symm).trans (((after_all m c t.val t.isLt).1 (y 0) (y 1)).trans ?_)
  unfold logits
  rw [(emb_logits t y).1, (emb_logits t y).2]

set_option backward.isDefEq.respectTransparency.types false in
/-- The probabilities after the call. -/
theorem arr_probs : (dats m 0 c).arrAt 3 cfg0.N = probs (argX m c) (argW m c) := by
  refine (dats m 0 c).arrAt_eq_of_covers 3 (probs (argX m c) (argW m c)) (by decide +kernel) fun t _ y => ?_
  show (dats m 0 c).after 3 t y = _
  rw [after0_3]
  refine (congrArg (outsAt0 m c t.val t.isLt).2.1 (ix2_eta (a := 256) (b := 64) y).symm).trans (((after_all m c t.val t.isLt).2.1 (y 0) (y 1)).trans ?_)
  unfold probs
  rw [(emb_probs t y).1, (emb_probs t y).2]

theorem last_lt : 15 < cfg0.N := by rw [N_16]; omega

set_option backward.isDefEq.respectTransparency.types false in
/-- The occupied slots after the call. -/
theorem arr_occ : (dats m 0 c).arrAt 4 cfg0.N = slots (argX m c) (argW m c) (fun _ => 1) := by
  refine (dats m 0 c).arrAt_eq_of_after_last 4 ⟨15, last_lt⟩ ⟨(flush0_4 _).2 rfl, fun t ht => Fin.ext ?_, fun a => ?_⟩ _ fun j => ?_
  · have := (flush0_4 t).1 ht
    have := t.isLt
    have := N_16
    show t.val = 15
    omega
  · fin_cases a <;> exact ⟨rfl, rfl⟩
  · show (dats m 0 c).after 4 ⟨15, last_lt⟩ j = _
    rw [after0_4]
    exact (congrArg (outsAt0 m c 15 last_lt).2.2.1 (ix2_eta (a := 64) (b := 64) j).symm).trans ((after_all m c 15 last_lt).2.2.1 (j 0) (j 1))

set_option backward.isDefEq.respectTransparency.types false in
/-- The tokens' numbers in their slots after the call. -/
theorem arr_tok : (dats m 0 c).arrAt 5 cfg0.N = slots (argX m c) (argW m c) numb := by
  refine (dats m 0 c).arrAt_eq_of_after_last 5 ⟨15, last_lt⟩ ⟨(flush0_5 _).2 rfl, fun t ht => Fin.ext ?_, fun a => ?_⟩ _ fun j => ?_
  · have := (flush0_5 t).1 ht
    have := t.isLt
    have := N_16
    show t.val = 15
    omega
  · fin_cases a <;> exact ⟨rfl, rfl⟩
  · show (dats m 0 c).after 5 ⟨15, last_lt⟩ j = _
    rw [after0_5]
    exact (congrArg (outsAt0 m c 15 last_lt).2.2.2.1 (ix2_eta (a := 64) (b := 64) j).symm).trans ((after_all m c 15 last_lt).2.2.2.1 (j 0) (j 1))

set_option backward.isDefEq.respectTransparency.types false in
/-- The tokens' probabilities in their slots after the call. -/
theorem arr_ptb : (dats m 0 c).arrAt 6 cfg0.N = slots (argX m c) (argW m c) (best (argX m c) (argW m c)) := by
  refine (dats m 0 c).arrAt_eq_of_after_last 6 ⟨15, last_lt⟩ ⟨(flush0_6 _).2 rfl, fun t ht => Fin.ext ?_, fun a => ?_⟩ _ fun j => ?_
  · have := (flush0_6 t).1 ht
    have := t.isLt
    have := N_16
    show t.val = 15
    omega
  · fin_cases a <;> exact ⟨rfl, rfl⟩
  · show (dats m 0 c).after 6 ⟨15, last_lt⟩ j = _
    rw [after0_6]
    exact (congrArg (outsAt0 m c 15 last_lt).2.2.2.2.1 (ix2_eta (a := 64) (b := 64) j).symm).trans ((after_all m c 15 last_lt).2.2.2.2.1 (j 0) (j 1))

end Call

end Cert.Proof.Router

end
-- ==== Proof.RouterTail.lean ====
/-
  The router's lines after its call, and its run to the four results.
-/
module

public import proofs.«01_k».proof.Proof.RouterOut

@[expose] public section

noncomputable section

namespace Cert.Proof.Router

open Cert.RouterIdeal Cert.RouterIdeal.Gen
open Idealize.ShloMosaic hiding ix1 ix2 ix3
open Idealize.ShloMosaic.TcCoe Idealize.ShloMosaic.ValueIdx Idealize.SL.Sem
open scoped BigOperators

/-- The lines after the call: a slot's token where the slot is occupied, and else -1. -/
def chosenTokens (occ tok : Vec Ideal S64x64 .f32) : IVec S64x64 32 :=
  select (cmpf (F := Ideal) (φ := .f32) .ogt occ (broadcastInDim S64x64 ![] bcast_S_S64x64 (constant (F := Ideal) S_ .f32 0x3F000000#32)))
    (fptosi (F := Ideal) (φ := .f32) 32 tok) (broadcastInDim S64x64 ![] bcast_S_S64x64 (constantI S_ 32 4294967295#32))

section Call

variable (m : (ℓ : Loc nD τ sig) → Buf (Elt Ideal) ℓ) (c : Dev nD)

/-- What the lines after the call compute, from any contents. -/
theorem tail_eq (X : Valuation τ sig (Elt Ideal)) :
    StableHlo.after ([hostOps1, hostOps1_1] : List (List (HloOp τ sig (Elt Ideal)))).flatten X (Proc.devRef .tc main_v4)
      = chosenTokens (X (Proc.devRef .tc main_v0_2)) (X (Proc.devRef .tc main_v0_3)) := by
  simp only [hostOps1, hostOps1_1, List.flatten_cons, List.flatten_nil, List.append_nil, List.cons_append, List.nil_append]
  after_results
  rfl

/-- The run of the router to its four results and its arguments. -/
theorem run_router (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = logits (argX m c) (argW m c)
      ∧ r.2.mem ((c.tc : Thread nD τ).loc main_v0_1) = probs (argX m c) (argW m c)
      ∧ r.2.mem ((c.tc : Thread nD τ).loc main_v0_4) = slots (argX m c) (argW m c) (best (argX m c) (argW m c))
      ∧ r.2.mem ((c.tc : Thread nD τ).loc main_v4) = chosenTokens (slots (argX m c) (argW m c) (fun _ => 1)) (slots (argX m c) (argW m c) numb)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h1, h2⟩ := h
  refine ⟨((h1 c).1 2).trans (arr_logits m c), ((h1 c).1 3).trans (arr_probs m c), ((h1 c).1 6).trans (arr_ptb m c), ?_, (h2 c).1, (h2 c).2⟩
  refine ((h1 c).2 main_v4 (by decide)).trans ((tail_eq _).trans ?_)
  have e4 := Pipeline.withArrays_arr spec0 (by decide) c (V0 m c) (fun w => (dats m 0 c).arrAt w cfg0.N) 4
  have e5 := Pipeline.withArrays_arr spec0 (by decide) c (V0 m c) (fun w => (dats m 0 c).arrAt w cfg0.N) 5
  exact congrArg₂ chosenTokens (e4.trans (arr_occ m c)) (e5.trans (arr_tok m c))

end Call

end Cert.Proof.Router

end
-- ==== Proof.RouterRef.lean ====
/-
  The reference's arrays, entry by entry: the logits, their softmax, each token's expert, its place in that expert's queue, and the pairs
  of index words with which the tokens are put into the slots.
-/
module

public import proofs.«01_k».proof.Proof.RouterPlace
public import proofs.«01_k».proof.Proof.RouterTail
public import Idealize.ShloMosaic.Lib.StackMember
public import Idealize.ShloMosaic.Lib.ReduceAll

@[expose] public section

noncomputable section

namespace Cert.Proof.Router

open Cert.RouterReferenceIdeal Cert.RouterReferenceIdeal.Gen Cert.RouterReferenceIdeal.Value
open Idealize.ShloMosaic hiding ix1 ix2 ix3
open Idealize.ShloMosaic.TcCoe Idealize.ShloMosaic.ValueIdx
open scoped BigOperators

/-- A word that holds a small number, read signed. -/
theorem toInt_small (n : ℕ) (h : n ≤ 4096) : (BitVec.ofNat 32 n).toInt = n :=
  StableHlo.Predicate.toInt_ofNat_small _ (by omega)

/-- The wrap of a negative index does nothing to a small number. -/
theorem wrap_small (n : ℕ) (h : n ≤ 4096) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- A choice on a set bit. -/
theorem select_one {α : Type} (a b : α) : Scalar.select 1#1 a b = a := rfl

/-- The maximum of a row. -/
theorem host_max (v : FVec Ideal S4096x64 .f32) (t : Fin 4096) :
    Host.reduce FloatOps.maximumf v (constant (F := Ideal) S_ .f32 0xFF800000#32) reducesTo_S4096x64_S4096_d1 h_S_ (ix1 t)
      = rowMax fun e => v (ix2 t e) := by
  rw [hostReduce_maximumf_eq_multiReduction v 0xFF800000#32 reducesTo_S4096x64_S4096_d1 h_S_ (by decide) (.inl rfl) rfl]
  refine (multiReduction_maximumf_eq_fold v _ _ _ _ (ix1 t)).trans ?_
  rw [negInf]
  exact Shape.ReducesTo.fold_fiber_r2_a1 reducesTo_S4096x64_S4096_d1 (ix1 t) max ⊥ v

/-- The sum of a row. -/
theorem host_sum (v : FVec Ideal S4096x64 .f32) (t : Fin 4096) :
    Host.reduceAdd v (constant (F := Ideal) S_ .f32 0x00000000#32) reducesTo_S4096x64_S4096_d1 h_S_ (ix1 t) = ∑ e : Fin 64, v (ix2 t e) := by
  refine (Ideal.hostReduceAdd_r2_a1 reducesTo_S4096x64_S4096_d1 v _ (ix1 t)).trans ?_
  exact (congrArg (· + _) Ideal.ofBits_zero_f32).trans (zero_add _)

/-- A column read as a list. -/
theorem flat_apply {α : Type} (x : S4096x1.Idx → α) (h : S4096x1.ShapeCasts S4096) (t : Fin 4096) :
    shapeCast S4096 x h (ix1 t) = x (ix2 t 0) :=
  shapeCast_apply _ _ _ (ix2 t 0) (by rw [Shape.rowMajor_val_one, Shape.rowMajor_val_two]; simp [ix1, ix2])

/-- A list copied to a column. -/
theorem tokens_column {α : Type} (x : S4096.Idx → α) (t : Fin 4096) :
    broadcastInDim S4096x1 ![0] bcast_S4096_S4096x1_0 x (ix2 t 0) = x (ix1 t) :=
  broadcastInDim_apply _ _ _ _ (ix1 t) (fun a => by fin_cases a; rfl)

/-- A column copied to all columns of a row. -/
theorem spread_apply {α : Type} (x : S4096x1.Idx → α) (t : Fin 4096) (e : Fin 64) :
    broadcastInDim S4096x64 ![0, 1] bcast_S4096x1_S4096x64_0_1 x (ix2 t e) = x (ix2 t 0) :=
  broadcastInDim_apply _ _ _ _ (ix2 t 0) (fun a => by fin_cases a <;> rfl)

section Values

variable (V0 : Valuation τ sig (Elt Ideal))

/-- The tokens. -/
abbrev refX : Vec Ideal S4096x768 .f32 := V0 (Proc.devRef .tc main_arg0)

/-- The router's weights. -/
abbrev refW : Vec Ideal S768x64 .f32 := V0 (Proc.devRef .tc main_arg1)

/-- The expert the reference chooses for token `t`: the first with the greatest probability. -/
def choice (X : Vec Ideal S4096x768 .f32) (W : Vec Ideal S768x64 .f32) (t : ℕ) : Fin 64 := top (soft (logit X W t))

/-- The reference's logits. -/
theorem ref_logit (t : Fin 4096) (e : Fin 64) : res_main_v0 V0 (ix2 t e) = logit (refX V0) (refW V0) t.val e := by
  unfold logit
  rw [dif_pos t.isLt]
  exact StackMember.dotGeneral_plain_apply (m := 4096) (n := 64) none (refX V0) (refW V0) t e

/-- The reference's exponentials. -/
theorem ref_exp (t : Fin 4096) (e : Fin 64) :
    res_main_v7 V0 (ix2 t e) = Ideal.exp (logit (refX V0) (refW V0) t.val e - rowMax (logit (refX V0) (refW V0) t.val)) := by
  have hr : (fun e => res_main_v0 V0 (ix2 t e)) = logit (refX V0) (refW V0) t.val := funext fun k => ref_logit V0 t k
  refine congrArg Ideal.exp (congrArg₂ (fun x y : EReal => x - y) (ref_logit V0 t e) ?_)
  refine (spread_apply _ t e).trans ((tokens_column _ t).trans ?_)
  show max (FloatOps.ofBits .f32 0xFF800000#32 : Ideal .f32) _ = _
  rw [negInf]
  refine (max_eq_right bot_le).trans ((host_max (res_main_v0 V0) t).trans ?_)
  exact congrArg rowMax hr

/-- The reference's probabilities. -/
theorem ref_soft (t : Fin 4096) (e : Fin 64) : res_main_v11 V0 (ix2 t e) = soft (logit (refX V0) (refW V0) t.val) e := by
  unfold soft
  refine congrArg₂ Ideal.div (ref_exp V0 t e) ?_
  refine (spread_apply _ t e).trans ((tokens_column _ t).trans ((host_sum (res_main_v7 V0) t).trans ?_))
  exact Finset.sum_congr rfl fun k _ => ref_exp V0 t k

/-- A row of the reference's probabilities. -/
theorem ref_row (t : Fin 4096) : (fun e => res_main_v11 V0 (ix2 t e)) = soft (logit (refX V0) (refW V0) t.val) :=
  funext fun e => ref_soft V0 t e

/-- The greatest probability of each token. -/
theorem ref_best (t : Fin 4096) :
    (shapeCast S4096 (Host.topK S4096x1 1 (FloatOps.cmpfTotal .gt) (res_main_v11 V0) sliceFits_S4096x64_S4096x1).1 shapeCasts_S4096x1_S4096
      : FVec Ideal S4096 .f32) (ix1 t) = best (refX V0) (refW V0) t.val := by
  refine (flat_apply _ _ t).trans ?_
  refine (topK_apply (res_main_v11 V0) _ t).1.trans ?_
  unfold best
  rw [ref_row]

/-- The expert of each token. -/
theorem ref_choice (t : Fin 4096) : res_main_v12 V0 (ix1 t) = BitVec.ofNat 32 (choice (refX V0) (refW V0) t.val).val := by
  unfold res_main_v12 choice
  refine (flat_apply _ _ t).trans ?_
  refine (topK_apply (res_main_v11 V0) _ t).2.trans ?_
  rw [ref_row]

/-- The expert of each token, as the column in which its place is looked up. -/
theorem ref_index (t : Fin 4096) : res_main_call2_v5 V0 (ix3 t 0 0) = BitVec.ofNat 32 (choice (refX V0) (refW V0) t.val).val := by
  have e : res_main_v21 V0 (ix2 t 0) = BitVec.ofNat 32 (choice (refX V0) (refW V0) t.val).val := by
    exact (tokens_column _ t).trans (ref_choice V0 t)
  unfold res_main_call2_v5
  refine (shapeCast_apply _ _ _ (ix2 t 0 : S4096x1.Idx) rfl).trans ?_
  show Scalar.select (IntOp.cmpi .slt (res_main_v21 V0 (ix2 t 0)) 0#32) _ (res_main_v21 V0 (ix2 t 0)) = _
  rw [e]
  exact wrap_small _ (by have := (choice (refX V0) (refW V0) t.val).isLt; omega) _

/-- Every token's expert is a column of the table. -/
theorem ref_inside (j : S4096x1.Idx) :
    Host.reduce IntOp.andi (andi (cmpi .sge (res_main_call2_v5 V0) (broadcastInDim S4096x1x1 ![] bcast_S_S4096x1x1 (constantI S_ 32 0#32)))
      (cmpi .sle (res_main_call2_v5 V0) (broadcastInDim S4096x1x1 ![0, 1, 2] bcast_S1x1x1_S4096x1x1_0_1_2
        (broadcastInDim S1x1x1 ![2] bcast_S1_S1x1x1_2 (constantI S1 32 63#32))))) (constantI S_ 1 1#1) reducesTo_S4096x1x1_S4096x1_d2 h_S_ j = 1#1 := by
  refine Host.reduce_andi_one _ _ _ _ _ rfl fun i => ?_
  obtain ⟨t, rfl⟩ : ∃ t : Fin 4096, i = ix3 t 0 0 := ⟨i 0, (ValueIdx.eq_ix3 i).trans
    (congrArg₂ (ix3 (i 0)) (@Subsingleton.elim (Fin 1) _ _ _) (@Subsingleton.elim (Fin 1) _ _ _))⟩
  show IntOp.andi (IntOp.cmpi .sge (res_main_call2_v5 V0 (ix3 t 0 0)) 0#32) (IntOp.cmpi .sle (res_main_call2_v5 V0 (ix3 t 0 0)) 63#32) = 1#1
  rw [ref_index]
  have hn := (choice (refX V0) (refW V0) t.val).isLt
  generalize (choice (refX V0) (refW V0) t.val).val = n at hn
  have h1 : IntOp.cmpi .sge (BitVec.ofNat 32 n) 0#32 = 1#1 := by
    show BitVec.ofBool ((0#32).sle (BitVec.ofNat 32 n)) = 1#1
    rw [StableHlo.Predicate.ofBool_eq_one_iff, BitVec.sle_iff_toInt_le, toInt_small n (by omega)]
    show (0 : Int) ≤ n
    omega
  have h2 : IntOp.cmpi .sle (BitVec.ofNat 32 n) 63#32 = 1#1 := by
    show BitVec.ofBool ((BitVec.ofNat 32 n).sle 63#32) = 1#1
    rw [StableHlo.Predicate.ofBool_eq_one_iff, BitVec.sle_iff_toInt_le, toInt_small n (by omega)]
    show (n : Int) ≤ 63
    omega
  rw [h1, h2]
  rfl

/-- The mark of a token at an expert: one at the expert it chooses, and else zero. -/
theorem ref_mark (t : Fin 4096) (e : Fin 64) :
    extui 32 (cmpi .eq (broadcastInDim S4096x64 ![0, 1] bcast_S4096x1_S4096x64_0_1 (broadcastInDim S4096x1 ![0] bcast_S4096_S4096x1_0 (res_main_v12 V0)))
      (broadcastInDim S4096x64 ![0, 1] bcast_S1x64_S4096x64_0_1 (iotaInDim S1x64 32 1))) natLt_1_32 (ix2 t e)
      = BitVec.ofNat 32 (if (choice (refX V0) (refW V0) t.val).val = e.val then 1 else 0) := by
  have h1 : broadcastInDim S4096x64 ![0, 1] bcast_S4096x1_S4096x64_0_1 (broadcastInDim S4096x1 ![0] bcast_S4096_S4096x1_0 (res_main_v12 V0)) (ix2 t e)
      = BitVec.ofNat 32 (choice (refX V0) (refW V0) t.val).val :=
    (spread_apply _ t e).trans ((tokens_column _ t).trans (ref_choice V0 t))
  have h2 : broadcastInDim S4096x64 ![0, 1] bcast_S1x64_S4096x64_0_1 (iotaInDim S1x64 32 1) (ix2 t e) = BitVec.ofNat 32 e.val :=
    broadcastInDim_apply _ _ _ _ (ix2 0 e : S1x64.Idx) (fun a => by fin_cases a <;> rfl)
  refine (congrArg₂ (fun a b => BitVec.zeroExtend 32 (IntOp.cmpi .eq a b)) h1 h2).trans ?_
  have hn := (choice (refX V0) (refW V0) t.val).isLt
  have he := e.isLt
  generalize (choice (refX V0) (refW V0) t.val).val = n at hn
  have h : IntOp.cmpi .eq (BitVec.ofNat 32 n) (BitVec.ofNat 32 e.val) = BitVec.ofBool (decide (n = e.val)) := by
    show BitVec.ofBool (BitVec.ofNat 32 n == BitVec.ofNat 32 e.val) = _
    refine congrArg BitVec.ofBool (Bool.eq_iff_iff.2 ?_)
    rw [beq_iff_eq, decide_eq_true_iff, ← BitVec.toInt_inj, toInt_small n (by omega), toInt_small e.val (by omega)]
    omega
  rw [h]
  by_cases hlt : n = e.val
  · rw [if_pos hlt, decide_eq_true hlt]; rfl
  · rw [if_neg hlt, decide_eq_false hlt]; rfl

/-- How many of the tokens up to `t` choose expert `e`. -/
theorem ref_count (t : Fin 4096) (e : Fin 64) :
    Host.reduceWindow IntOp.addi ![4096, 1] ![1, 1] ![4095, 0] ![0, 0]
      (extui 32 (cmpi .eq (broadcastInDim S4096x64 ![0, 1] bcast_S4096x1_S4096x64_0_1 (broadcastInDim S4096x1 ![0] bcast_S4096_S4096x1_0 (res_main_v12 V0)))
        (broadcastInDim S4096x64 ![0, 1] bcast_S1x64_S4096x64_0_1 (iotaInDim S1x64 32 1))) natLt_1_32)
      (broadcastInDim S_ ![] bcast_S_S_ (constantI S_ 32 0#32)) reduceWindows_S4096x64_S4096x64_w4096s1p4095_0_w1s1p0_0 h_S_ (ix2 t e)
      = BitVec.ofNat 32 (count (choice (refX V0) (refW V0)) (t.val + 1) e) := by
  refine (Routing.cumsum_rows (R := 4096) (Rm1 := 4095) (C := 64) rfl _ (fun i c => if (choice (refX V0) (refW V0) i).val = c then 1 else 0)
    (fun i c => ref_mark V0 i c) _ rfl _ _ t e).trans (congrArg (BitVec.ofNat 32) ?_)
  generalize t.val + 1 = n
  induction n with
  | zero => rfl
  | succ n ih =>
    rw [List.range_succ, List.map_append, List.sum_append, ih, count_succ]
    simp [Fin.ext_iff]

/-- The place of each token in the queue of its expert. -/
theorem ref_rank (t : Fin 4096) : res_main_v23 V0 (ix1 t) = BitVec.ofNat 32 (rank (choice (refX V0) (refW V0)) t.val) := by
  unfold res_main_v23
  refine (flat_apply _ _ t).trans ?_
  refine (congrArg (fun b => Scalar.select b _ _) (ref_inside V0 (ix2 t 0))).trans ?_
  refine (select_one _ _).trans ((gather_entry _ _ t (choice (refX V0) (refW V0) t.val) (ref_index V0 t)).trans ?_)
  refine (congrArg (fun b => IntOp.subi b 1#32) (ref_count V0 t _)).trans ?_
  rw [count_succ, if_pos rfl]
  show BitVec.ofNat 32 _ - BitVec.ofNat 32 1 = _
  rw [BitVec.ofNat_add]
  exact BitVec.add_sub_cancel _ _

/-- The same, where it is a slot, and else 64. -/
theorem ref_place (t : Fin 4096) :
    res_main_v26 V0 (ix1 t) = BitVec.ofNat 32 (if rank (choice (refX V0) (refW V0)) t.val < 64 then rank (choice (refX V0) (refW V0)) t.val else 64) := by
  have e : res_main_v26 V0 (ix1 t) = Scalar.select (IntOp.cmpi .slt (res_main_v23 V0 (ix1 t)) 64#32) (res_main_v23 V0 (ix1 t)) 64#32 := rfl
  rw [e, ref_rank]
  have hn : rank (choice (refX V0) (refW V0)) t.val ≤ t.val := count_le _ _ _
  have ht := t.isLt
  generalize rank (choice (refX V0) (refW V0)) t.val = n at hn
  have h : IntOp.cmpi .slt (BitVec.ofNat 32 n) 64#32 = BitVec.ofBool (decide (n < 64)) := by
    show BitVec.ofBool ((BitVec.ofNat 32 n).slt 64#32) = _
    refine congrArg BitVec.ofBool (Bool.eq_iff_iff.2 ?_)
    rw [BitVec.slt_iff_toInt_lt, toInt_small n (by omega), decide_eq_true_iff]
    show (n : Int) < 64 ↔ _
    omega
  rw [h]
  by_cases hlt : n < 64
  · rw [if_pos hlt, decide_eq_true hlt]; rfl
  · rw [if_neg hlt, decide_eq_false hlt]; rfl

/-- The pairs of index words, as they print. -/
def pairs : IVec S4096x2 32 :=
  concatenate S4096x2 1 [⟨S4096x1, (broadcastInDim S4096x1 ![0] bcast_S4096_S4096x1_0 (select (cmpi .slt (res_main_v12 V0) (broadcastInDim S4096 ![] bcast_S_S4096 (constantI S_ 32 0#32))) (addi (res_main_v12 V0) (broadcastInDim S4096 ![] bcast_S_S4096 (constantI S_ 32 64#32))) (res_main_v12 V0)))⟩,
    ⟨S4096x1, (broadcastInDim S4096x1 ![0] bcast_S4096_S4096x1_0 (select (cmpi .slt (res_main_v26 V0) (broadcastInDim S4096 ![] bcast_S_S4096 (constantI S_ 32 0#32))) (addi (res_main_v26 V0) (broadcastInDim S4096 ![] bcast_S_S4096 (constantI S_ 32 64#32))) (res_main_v26 V0)))⟩]
    concatenates_S4096x1_S4096x1_S4096x2_d1

/-- The first word of a pair is the token's expert. -/
theorem pairs_expert (t : Fin 4096) : (pairs V0 (ix2 t 0)).toInt = (choice (refX V0) (refW V0) t.val).val := by
  have e : pairs V0 (ix2 t 0) = BitVec.ofNat 32 (choice (refX V0) (refW V0) t.val).val := by
    refine (concatenate_pair_apply_left (s₁ := S4096x1) (s₂ := S4096x1) (t := S4096x2) 1 _ _ _ (ix2 t 0) rfl (ix2 t 0) (fun a => by fin_cases a <;> rfl)).trans ?_
    refine (tokens_column _ t).trans ?_
    show Scalar.select (IntOp.cmpi .slt (res_main_v12 V0 (ix1 t)) 0#32) _ (res_main_v12 V0 (ix1 t)) = _
    rw [ref_choice]
    exact wrap_small _ (by have := (choice (refX V0) (refW V0) t.val).isLt; omega) _
  rw [e]
  exact toInt_small _ (by have := (choice (refX V0) (refW V0) t.val).isLt; omega)

/-- The second is its place, or 64. -/
theorem pairs_place (t : Fin 4096) : (pairs V0 (ix2 t 1)).toInt
    = (if rank (choice (refX V0) (refW V0)) t.val < 64 then rank (choice (refX V0) (refW V0)) t.val else 64 : ℕ) := by
  have e : pairs V0 (ix2 t 1)
      = BitVec.ofNat 32 (if rank (choice (refX V0) (refW V0)) t.val < 64 then rank (choice (refX V0) (refW V0)) t.val else 64) := by
    refine (concatenate_pair_apply_right (s₁ := S4096x1) (s₂ := S4096x1) (t := S4096x2) 1 _ _ _ (ix2 t 1) rfl rfl (ix2 t 0)
      (fun a ha => by fin_cases a <;> first | rfl | exact absurd rfl ha) rfl).trans ?_
    refine (tokens_column _ t).trans ?_
    show Scalar.select (IntOp.cmpi .slt (res_main_v26 V0 (ix1 t)) 0#32) _ (res_main_v26 V0 (ix1 t)) = _
    rw [ref_place]
    exact wrap_small _ (by split <;> omega) _
  rw [e]
  exact toInt_small _ (by split <;> omega)

end Values

end Cert.Proof.Router

end
-- ==== Proof.RouterEqual.lean ====
/-
  The router's call and its reference: over finite arguments the four results are the same.
-/
module

public import proofs.«01_k».proof.Proof.RouterRef
public import proofs.«01_k».proof.Defs
public import proofs.«01_k».proof.Proof.Gen.Pre_all_finite
public import proofs.«01_k».proof.Proof.Gen.Router.Frame
public import proofs.«01_k».proof.Proof.Gen.RouterIdeal.Frame
public import Idealize.ShloMosaic.Lib.StableHlo.Predicate
public import Idealize.ShloMosaic.Lib.Quiescent

@[expose] public section

noncomputable section

namespace Cert.Proof.Router

open Cert.RouterReferenceIdeal Cert.RouterReferenceIdeal.Gen Cert.RouterReferenceIdeal.Value
open Idealize.ShloMosaic hiding ix1 ix2 ix3
open Idealize.ShloMosaic.TcCoe Idealize.ShloMosaic.ValueIdx Idealize.SL.Sem
open scoped BigOperators

/-! ## Finite arguments -/

theorem posInf : (FloatOps.ofBits .f32 0x7F800000#32 : Ideal .f32) = (⊤ : EReal) := by
  show Ideal.ofBits .f32 0x7F800000#32 = ⊤
  simp [Ideal.ofBits, Ideal.ieee]

theorem half : (FloatOps.ofBits .f32 0x3F000000#32 : Ideal .f32) = ((1 / 2 : ℝ) : EReal) := by
  show Ideal.ofBits .f32 0x3F000000#32 = _
  simp [Ideal.ofBits, Ideal.ieee]
  rw [← EReal.coe_mul, EReal.coe_eq_coe_iff]
  norm_num

/-- A number whose absolute value is below infinity is real. -/
theorem real_of_lt (x : EReal) (h : FloatOps.cmpf (F := Ideal) (φ := .f32) .olt (FloatOps.hostAbsf (F := Ideal) (φ := .f32) x) (FloatOps.ofBits .f32 0x7F800000#32) = 1#1) :
    ∃ a : ℝ, x = a := by
  rw [posInf] at h
  have hlt : max x (-x) < ⊤ := by
    have h' : BitVec.ofBool (decide (max x (-x) < (⊤ : EReal))) = 1#1 := h
    exact of_decide_eq_true ((StableHlo.Predicate.ofBool_eq_one_iff _).1 h')
  induction x using EReal.rec with
  | bot => exact absurd hlt (by simp)
  | coe a => exact ⟨a, rfl⟩
  | top => exact absurd hlt (by simp)

/-- The logits of real tokens and weights are real. -/
theorem logit_real (X : Vec Ideal S4096x768 .f32) (W : Vec Ideal S768x64 .f32) (hX : ∀ j, ∃ a : ℝ, X j = (a : EReal))
    (hW : ∀ j, ∃ a : ℝ, W j = (a : EReal)) (t : ℕ) (e : Fin 64) : ∃ a : ℝ, logit X W t e = a := by
  choose x hx using hX
  choose w hw using hW
  unfold logit
  split
  · next h =>
    refine ⟨∑ k : Fin 768, x (ix2 ⟨t, h⟩ k) * w (ix2 k e), ?_⟩
    refine Eq.trans (Finset.sum_congr rfl fun k _ => ?_)
      (map_sum (⟨⟨fun x : ℝ => (x : EReal), EReal.coe_zero⟩, EReal.coe_add⟩ : ℝ →+ EReal) _ _).symm
    show (X (ix2 ⟨t, h⟩ k) * W (ix2 k e) : EReal) = ((x (ix2 ⟨t, h⟩ k) * w (ix2 k e) : ℝ) : EReal)
    exact (congrArg₂ (fun a b : EReal => a * b) (hx _) (hw _)).trans (EReal.coe_mul _ _).symm
  · exact ⟨0, rfl⟩

/-- The expert with the greatest probability is the one with the greatest logit, where the arguments are real. -/
theorem choice_eq_pick (X : Vec Ideal S4096x768 .f32) (W : Vec Ideal S768x64 .f32) (hX : ∀ j, ∃ a : ℝ, X j = (a : EReal))
    (hW : ∀ j, ∃ a : ℝ, W j = (a : EReal)) : choice X W = pick X W :=
  funext fun t => top_soft _ fun e => logit_real X W hX hW t e

/-! ## The tables -/

/-- The word in a slot, from the kernel's tables of ones and of token numbers. -/
theorem chosen_apply (occ tok : Vec Ideal S64x64 .f32) (j : S64x64.Idx) :
    chosenTokens occ tok j = if ((1 / 2 : ℝ) : EReal) < occ j then Ideal.fptosi 32 (tok j) else 4294967295#32 := by
  have e : chosenTokens occ tok j
      = Scalar.select (BitVec.ofBool (decide ((FloatOps.ofBits .f32 0x3F000000#32 : Ideal .f32) < occ j))) (Ideal.fptosi 32 (tok j)) 4294967295#32 := rfl
  rw [e, half]
  by_cases h : ((1 / 2 : ℝ) : EReal) < occ j
  · rw [if_pos h, decide_eq_true h]; rfl
  · rw [if_neg h, decide_eq_false h]; rfl

section Values

variable (V0 : Valuation τ sig (Elt Ideal))

/-- The reference's table of probabilities is the kernel's. -/
theorem ref_probs_table (h : choice (refX V0) (refW V0) = pick (refX V0) (refW V0)) :
    Host.scatter scat (fun _ b => b) (broadcastInDim S64x64 ![] bcast_S_S64x64 (constant (F := Ideal) S_ .f32 0x00000000#32)) (pairs V0)
      (shapeCast S4096 (Host.topK S4096x1 1 (FloatOps.cmpfTotal .gt) (res_main_v11 V0) sliceFits_S4096x64_S4096x1).1 shapeCasts_S4096x1_S4096)
      = slots (refX V0) (refW V0) (best (refX V0) (refW V0)) := by
  funext j
  obtain ⟨e, c, rfl⟩ : ∃ e c : Fin 64, j = ix2 e c := ⟨j 0, j 1, ValueIdx.eq_ix2 j⟩
  show _ = table (pick (refX V0) (refW V0)) (best (refX V0) (refW V0)) 4096 e c
  rw [← h]
  by_cases hs : ∃ t < 4096, choice (refX V0) (refW V0) t = e ∧ rank (choice (refX V0) (refW V0)) t = c.val
  · obtain ⟨t, ht, he, hc⟩ := hs
    rw [table_eq _ _ ht he hc]
    exact (scatter_hit _ _ _ _ (pairs_expert V0) (pairs_place V0) ⟨t, ht⟩ e c he hc).trans (ref_best V0 ⟨t, ht⟩)
  · have hn : ∀ t < 4096, ¬(choice (refX V0) (refW V0) t = e ∧ rank (choice (refX V0) (refW V0)) t = c.val) := fun t ht h' => hs ⟨t, ht, h'⟩
    rw [table_zero _ _ hn]
    exact (scatter_miss _ _ _ _ (pairs_expert V0) (pairs_place V0) e c hn).trans Ideal.ofBits_zero_f32

/-- The reference's table of tokens is the kernel's. -/
theorem ref_token_table (h : choice (refX V0) (refW V0) = pick (refX V0) (refW V0)) :
    Host.scatter scat (fun _ b => b) (broadcastInDim S64x64 ![] bcast_S_S64x64 (constantI S_ 32 4294967295#32)) (pairs V0)
      (shapeCast S4096 (broadcastInDim S4096x1 ![0] bcast_S4096_S4096x1_0 (iotaInDim S4096 32 0)) shapeCasts_S4096x1_S4096)
      = chosenTokens (slots (refX V0) (refW V0) (fun _ => 1)) (slots (refX V0) (refW V0) numb) := by
  funext j
  obtain ⟨e, c, rfl⟩ : ∃ e c : Fin 64, j = ix2 e c := ⟨j 0, j 1, ValueIdx.eq_ix2 j⟩
  rw [chosen_apply]
  show _ = if ((1 / 2 : ℝ) : EReal) < table (pick (refX V0) (refW V0)) (fun _ => 1) 4096 e c
    then Ideal.fptosi 32 (table (pick (refX V0) (refW V0)) numb 4096 e c) else 4294967295#32
  rw [← h]
  by_cases hs : ∃ t < 4096, choice (refX V0) (refW V0) t = e ∧ rank (choice (refX V0) (refW V0)) t = c.val
  · obtain ⟨t, ht, he, hc⟩ := hs
    rw [table_eq _ _ ht he hc, table_eq _ _ ht he hc, if_pos (by rw [← EReal.coe_one, EReal.coe_lt_coe_iff]; norm_num)]
    refine (scatter_hit _ _ _ _ (pairs_expert V0) (pairs_place V0) ⟨t, ht⟩ e c he hc).trans ?_
    exact ((flat_apply _ _ ⟨t, ht⟩).trans (tokens_column _ ⟨t, ht⟩)).trans (fptosi_natCast t (by omega)).symm
  · have hn : ∀ t < 4096, ¬(choice (refX V0) (refW V0) t = e ∧ rank (choice (refX V0) (refW V0)) t = c.val) := fun t ht h' => hs ⟨t, ht, h'⟩
    rw [table_zero _ _ hn, if_neg (by rw [← EReal.coe_zero, EReal.coe_lt_coe_iff]; norm_num)]
    exact scatter_miss _ _ _ _ (pairs_expert V0) (pairs_place V0) e c hn

/-- The reference's logits are the kernel's. -/
theorem ref_logits : res_main_v0 V0 = logits (refX V0) (refW V0) := by
  funext j
  obtain ⟨t, e, rfl⟩ : ∃ (t : Fin 4096) (e : Fin 64), j = ix2 t e := ⟨j 0, j 1, ValueIdx.eq_ix2 j⟩
  exact ref_logit V0 t e

/-- The reference's probabilities are the kernel's. -/
theorem ref_probs : res_main_v11 V0 = probs (refX V0) (refW V0) := by
  funext j
  obtain ⟨t, e, rfl⟩ : ∃ (t : Fin 4096) (e : Fin 64), j = ix2 t e := ⟨j 0, j 1, ValueIdx.eq_ix2 j⟩
  exact ref_soft V0 t e

end Values

/-! ## The claims -/

theorem quiescent_router : Cert.quiescent_Router := fun m g _ => Cert.Router.Gen.frame (F := Bits) m g

theorem quiescent_routerIdeal : Cert.quiescent_RouterIdeal := fun m g _ => Cert.RouterIdeal.Gen.frame (F := Ideal) m g

theorem quiescent_routerIdeal_finite : Cert.quiescent_RouterIdeal_pre_all_finite := fun m g _ => Cert.RouterIdeal.Gen.frame (F := Ideal) m g

theorem quiescent_routerReference : Cert.quiescent_RouterReferenceIdeal := fun m g _ =>
  (θ_run Cert.RouterReferenceIdeal.defs _ _).mono (fun r h => ⟨fun c => (h c).2.2.2.2, sem_eq_zero_of_no_sems rfl _⟩)
    (Cert.RouterReferenceIdeal.Value.run (F := Ideal) m g)

theorem quiescent_routerReference_finite : Cert.quiescent_RouterReferenceIdeal_pre_all_finite := fun m g _ =>
  quiescent_routerReference m g trivial

/-- From memories that agree on the arguments, which are finite, the router's call and the reference leave the same four arrays. -/
theorem algebraic : Cert.algebraic_RouterIdeal_RouterReferenceIdeal_pre_all_finite := fun m g m' g' hpre hargs => by
  refine ⟨fun c => logits (argX m c) (argW m c), fun c => probs (argX m c) (argW m c), fun c => slots (argX m c) (argW m c) (best (argX m c) (argW m c)),
    fun c => chosenTokens (slots (argX m c) (argW m c) (fun _ => 1)) (slots (argX m c) (argW m c) numb), run_router m g,
    (θ_run _ _ _).mono (fun r h c => ?_) (Cert.RouterReferenceIdeal.Value.run (F := Ideal) m' g')⟩
  obtain ⟨h0, h1, h2, h3, h4⟩ := h c
  have eX : refX (StableHlo.launchContents m' c) = argX m c := (hargs c).1
  have eW : refW (StableHlo.launchContents m' c) = argW m c := (hargs c).2
  have hX : ∀ j, ∃ a : ℝ, argX m c j = (a : EReal) := fun j => real_of_lt _ (congrFun (hpre c).1 j)
  have hW : ∀ j, ∃ a : ℝ, argW m c j = (a : EReal) := fun j => real_of_lt _ (congrFun (hpre c).2 j)
  have hp : choice (refX (StableHlo.launchContents m' c)) (refW (StableHlo.launchContents m' c)) = pick (refX (StableHlo.launchContents m' c)) (refW (StableHlo.launchContents m' c)) := by
    rw [eX, eW]
    exact choice_eq_pick _ _ hX hW
  have e0 := ref_logits (StableHlo.launchContents m' c)
  have e1 := ref_probs (StableHlo.launchContents m' c)
  have e2 := ref_probs_table (StableHlo.launchContents m' c) hp
  have e3 := ref_token_table (StableHlo.launchContents m' c) hp
  rw [eX, eW] at e0 e1 e2 e3
  exact ⟨h0.trans e0, h1.trans e1, h2.trans e2, h3.trans e3, h4⟩

end Cert.Proof.Router

end
-- ==== Proof.RouterServe.lean ====
/-
  The slots the router's call fills are slots the experts' call can read: every word is below the number of tokens, and
  no token has two slots. This holds whatever the arguments are.
-/
module

public import proofs.«01_k».proof.Proof.RouterTail
public import proofs.«01_k».proof.Proof.Frames
public import proofs.«01_k».proof.Proof.RouterEqual

@[expose] public section

noncomputable section

namespace Cert.Proof.Router

open Cert.RouterIdeal Cert.RouterIdeal.Gen
open Idealize.ShloMosaic hiding ix1 ix2 ix3
open Idealize.ShloMosaic.TcCoe Idealize.ShloMosaic.ValueIdx Idealize.SL.Sem

/-- The side conditions of the statement about the slots. -/
instance serveFacts : Cert.Post_slots_serve.Facts where
  shapeCasts_S64x64_S4096 := by decide
  bcast_S_S4096 := by decide
  bcast_S4096_S4096x1_0 := by decide
  bcast_S4096_S1x4096_1 := by decide
  bcast_S4096x1_S4096x4096_0_1 := by decide
  bcast_S1x4096_S4096x4096_0_1 := by decide

/-- The statement holds of words below 4096 of which no two that are equal and not negative are in two slots. -/
theorem serve_of (x0 : FVec Ideal Cert.Post_slots_serve.S4096x768 .f32) (x1 x2 x3 x4) (y : IVec Cert.Post_slots_serve.S64x64 32)
    (hlt : ∀ j, (y j).toInt < 4096) (hinj : ∀ i j, y i = y j → 0 ≤ (y i).toInt → i = j) :
    Cert.Post_slots_serve.fn (F := Ideal) x0 x1 x2 x3 x4 y = fun _ => 1#1 := by
  funext j
  obtain ⟨p, q, rfl⟩ : ∃ p q : Fin 4096, j = StableHlo.Predicate.ij p q := ⟨j 0, j 1, by funext a; fin_cases a <;> rfl⟩
  unfold Cert.Post_slots_serve.fn
  dsimp only
  refine (Experts.andi_one_iff _ _).2 ⟨?_, (Experts.ori_one_iff _ _).2 ?_⟩
  · rw [StableHlo.Predicate.bcast_rows]
    exact (Experts.cmpi_slt_iff _ _).2 (hlt _)
  · by_cases hpq : p = q
    · exact Or.inr (StableHlo.Predicate.cmpi_eq_iff.2 (congrArg (fun r : Fin 4096 => BitVec.ofNat 32 r.val) hpq))
    · refine Or.inl ((Experts.ori_one_iff _ _).2 ?_)
      by_cases h0 : (shapeCast Cert.Post_slots_serve.S4096 y Cert.Post_slots_serve.Facts.shapeCasts_S64x64_S4096 (Shape.Idx.ofFin p)).toInt < 0
      · refine Or.inr ?_
        rw [StableHlo.Predicate.bcast_rows]
        exact (Experts.cmpi_slt_iff _ _).2 h0
      · refine Or.inl ((Experts.cmpi_ne_iff _ _).2 fun e => hpq ?_)
        rw [StableHlo.Predicate.bcast_rows, StableHlo.Predicate.bcast_cols] at e
        have e1 := (Shape.reshapeEquiv _).injective (hinj _ _ e (not_lt.1 h0))
        exact congrFun e1 0

variable (X : Vec Ideal S4096x768 .f32) (W : Vec Ideal S768x64 .f32)

/-- A slot's word is the number of the token that has the slot, or -1 if none has. -/
theorem word_cases (e c : Fin 64) :
    (∃ t < 4096, pick X W t = e ∧ rank (pick X W) t = c.val
        ∧ chosenTokens (slots X W (fun _ => 1)) (slots X W numb) (ix2 e c) = BitVec.ofNat 32 t)
      ∨ chosenTokens (slots X W (fun _ => 1)) (slots X W numb) (ix2 e c) = 4294967295#32 := by
  rw [chosen_apply]
  show (∃ t < 4096, pick X W t = e ∧ rank (pick X W) t = c.val
      ∧ (if ((1 / 2 : ℝ) : EReal) < table (pick X W) (fun _ => 1) 4096 e c
          then Ideal.fptosi 32 (table (pick X W) numb 4096 e c) else 4294967295#32) = BitVec.ofNat 32 t)
    ∨ (if ((1 / 2 : ℝ) : EReal) < table (pick X W) (fun _ => 1) 4096 e c
        then Ideal.fptosi 32 (table (pick X W) numb 4096 e c) else 4294967295#32) = 4294967295#32
  by_cases hs : ∃ t < 4096, pick X W t = e ∧ rank (pick X W) t = c.val
  · obtain ⟨t, ht, he, hc⟩ := hs
    refine Or.inl ⟨t, ht, he, hc, ?_⟩
    rw [table_eq _ _ ht he hc, table_eq _ _ ht he hc, if_pos (by rw [← EReal.coe_one, EReal.coe_lt_coe_iff]; norm_num)]
    exact fptosi_natCast t (by omega)
  · refine Or.inr ?_
    rw [table_zero _ _ fun t ht h => hs ⟨t, ht, h⟩, if_neg (by rw [← EReal.coe_zero, EReal.coe_lt_coe_iff]; norm_num)]

/-- A word that names a token is the token's number. -/
theorem token_toInt (t : ℕ) (ht : t < 4096) : (BitVec.ofNat 32 t).toInt = t := by
  rw [BitVec.toInt_ofNat', Int.bmod_eq_of_le] <;> omega

/-- Every word is below the number of tokens. -/
theorem word_lt (j : S64x64.Idx) : (chosenTokens (slots X W (fun _ => 1)) (slots X W numb) j).toInt < 4096 := by
  obtain ⟨e, c, rfl⟩ : ∃ e c : Fin 64, j = ix2 e c := ⟨j 0, j 1, ValueIdx.eq_ix2 j⟩
  rcases word_cases X W e c with ⟨t, ht, -, -, h⟩ | h
  · rw [h, token_toInt t ht]; omega
  · rw [h]; decide

/-- Two slots of one token are one slot. -/
theorem word_injective (i j : S64x64.Idx)
    (hij : chosenTokens (slots X W (fun _ => 1)) (slots X W numb) i = chosenTokens (slots X W (fun _ => 1)) (slots X W numb) j)
    (h0 : 0 ≤ (chosenTokens (slots X W (fun _ => 1)) (slots X W numb) i).toInt) : i = j := by
  obtain ⟨e, c, rfl⟩ : ∃ e c : Fin 64, i = ix2 e c := ⟨i 0, i 1, ValueIdx.eq_ix2 i⟩
  obtain ⟨e', c', rfl⟩ : ∃ e c : Fin 64, j = ix2 e c := ⟨j 0, j 1, ValueIdx.eq_ix2 j⟩
  have hneg : ¬(0 ≤ (4294967295#32).toInt) := by decide
  rcases word_cases X W e c with ⟨t, ht, he, hc, h⟩ | h
  · rcases word_cases X W e' c' with ⟨t', ht', he', hc', h'⟩ | h'
    · have e1 := congrArg BitVec.toInt (h.symm.trans (hij.trans h'))
      rw [token_toInt t ht, token_toInt t' ht'] at e1
      have e2 : t = t' := by omega
      subst e2
      rw [← he, ← he', show c = c' from Fin.ext (hc.symm.trans hc')]
    · exact absurd (hij.trans h' ▸ h0) hneg
  · exact absurd (h ▸ h0) hneg

/-- The router's call ends with its arguments unchanged and with slots that the experts' call can read. -/
theorem slots_serve : Cert.holds_RouterIdeal_slots_serve := fun m g _ =>
  (θ_run _ _ _).mono (fun r h c => by
    obtain ⟨-, -, -, h3, h4, h5⟩ := h c
    refine ⟨h4, h5, serve_of _ _ _ _ _ _ ?_ ?_⟩
    · rw [h3]
      exact word_lt (argX m c) (argW m c)
    · rw [h3]
      exact word_injective (argX m c) (argW m c)) (run_router m g)

end Cert.Proof.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_slots_distinct
public import proofs.«01_k».proof.Proof.Gen.Pre_tokens_in_range
public import proofs.«01_k».proof.Proof.Gen.Router
public import proofs.«01_k».proof.Proof.Gen.Router.Skeleton
public import proofs.«01_k».proof.Proof.Gen.Router.Launch
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Frame
public import proofs.«01_k».proof.Proof.Gen.RouterReferenceIdeal
public import proofs.«01_k».proof.Proof.Gen.RouterReferenceIdeal.Run
public import proofs.«01_k».proof.Proof.Gen.Pre_all_finite
public import proofs.«01_k».proof.Proof.Frames
public import proofs.«01_k».proof.Proof.Equal
public import proofs.«01_k».proof.Proof.RouterEqual
public import proofs.«01_k».proof.Proof.RouterServe
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Router.Gen.facts, Cert.RouterIdeal.Gen.facts,
    Cert.RouterReferenceIdeal.Gen.facts, Cert.Pre_tokens_in_range.Gen.facts, Cert.Pre_slots_distinct.Gen.facts, Cert.Pre_all_finite.Gen.facts,
    Router.serveFacts,
    Experts.quiescent_kernel, Experts.quiescent_kernelIdeal, Experts.quiescent_kernelIdeal_distinct, Experts.quiescent_referenceIdeal,
    Experts.quiescent_referenceIdeal_distinct, Router.quiescent_router, Router.quiescent_routerIdeal, Router.quiescent_routerIdeal_finite,
    Router.quiescent_routerReference, Router.quiescent_routerReference_finite, trivial, Experts.algebraic, trivial, Router.algebraic,
    Router.slots_serve⟩

end Cert.Proof

end
